-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v33)) (v1 : (c : Dev Cert.KernelIdeal.nD) → Buf (Elt Ideal) ((c.tc : Thread Cert.KernelIdeal.nD Cert.KernelIdeal.τ).loc Cert.KernelIdeal.main_v34)) (v2 : (c : Dev Cert.KernelIdeal.nD) → Buf (Elt Ideal) ((c.tc : Thread Cert.KernelIdeal.nD Cert.KernelIdeal.τ).loc Cert.KernelIdeal.main_v4_0)) (v3 : (c : Dev Cert.KernelIdeal.nD) → Buf (Elt Ideal) ((c.tc : Thread Cert.KernelIdeal.nD Cert.KernelIdeal.τ).loc Cert.KernelIdeal.main_v35)) (v4 : (c : Dev Cert.KernelIdeal.nD) → Buf (Elt Ideal) ((c.tc : Thread Cert.KernelIdeal.nD Cert.KernelIdeal.τ).loc Cert.KernelIdeal.main_v2_0)) (v5 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_v34) = v1 c
          ∧ r.2.mem ((c.tc : Thread Cert.KernelIdeal.nD Cert.KernelIdeal.τ).loc Cert.KernelIdeal.main_v4_0) = v2 c
          ∧ r.2.mem ((c.tc : Thread Cert.KernelIdeal.nD Cert.KernelIdeal.τ).loc Cert.KernelIdeal.main_v35) = v3 c
          ∧ r.2.mem ((c.tc : Thread Cert.KernelIdeal.nD Cert.KernelIdeal.τ).loc Cert.KernelIdeal.main_v2_0) = v4 c
          ∧ r.2.mem ((c.tc : Thread Cert.KernelIdeal.nD Cert.KernelIdeal.τ).loc Cert.KernelIdeal.main_v36) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S8x2048x4096 : Shape := ⟨3, ![8, 2048, 4096]⟩
abbrev S8 : Shape := ⟨1, ![8]⟩
abbrev S4096x14336 : Shape := ⟨2, ![4096, 14336]⟩
abbrev S4096 : Shape := ⟨1, ![4096]⟩
abbrev S_ : Shape := ⟨0, ![]⟩

class Facts : Prop where
  bcast_S_S8 : S_.BroadcastsInDim S8 (![] : Fin 0 → Fin S8.rank)

variable [Facts]

def fn {F : FTy → Type} [FloatOps F] (main_arg0 : FVec F S8x2048x4096 .bf16) (main_arg1 : IVec S8 32) (main_arg2 : FVec F S4096x14336 .bf16) (main_arg3 : FVec F S4096 .f32) : IVec S8 1 :=
  let main_c : IVec S_ 32 := constantI S_ 32 2147485440#32
  let main_v0 : IVec S8 32 := broadcastInDim S8 ![] bcast_S_S8 main_c
  let main_v1 : IVec S8 1 := cmpi .sge main_arg1 main_v0
  let main_c_0 : IVec S_ 32 := constantI S_ 32 2147483136#32
  let main_v2 : IVec S8 32 := broadcastInDim S8 ![] bcast_S_S8 main_c_0
  let main_v3 : IVec S8 1 := cmpi .sle main_arg1 main_v2
  let main_v4 : IVec S8 1 := andi main_v1 main_v3
  main_v4
-- ==== Kernel.lean ====
abbrev S8x2048x4096 : Shape := ⟨3, ![8, 2048, 4096]⟩
abbrev S8 : Shape := ⟨1, ![8]⟩
abbrev S4096x14336 : Shape := ⟨2, ![4096, 14336]⟩
abbrev S4096 : Shape := ⟨1, ![4096]⟩
abbrev S1x4096 : Shape := ⟨2, ![1, 4096]⟩
abbrev S1x512x4096 : Shape := ⟨3, ![1, 512, 4096]⟩
abbrev S1 : Shape := ⟨1, ![1]⟩
abbrev S16x4096 : Shape := ⟨2, ![16, 4096]⟩
abbrev S512x4096 : Shape := ⟨2, ![512, 4096]⟩
abbrev S32x16x4096 : Shape := ⟨3, ![32, 16, 4096]⟩
abbrev S8x2048x1 : Shape := ⟨3, ![8, 2048, 1]⟩
abbrev S1x256x4096 : Shape := ⟨3, ![1, 256, 4096]⟩
abbrev S1x256x1 : Shape := ⟨3, ![1, 256, 1]⟩
abbrev S256x4096 : Shape := ⟨2, ![256, 4096]⟩
abbrev S256 : Shape := ⟨1, ![256]⟩
abbrev S256x1 : Shape := ⟨2, ![256, 1]⟩
abbrev S4096x1 : Shape := ⟨2, ![4096, 1]⟩
abbrev S1x14336 : Shape := ⟨2, ![1, 14336]⟩
abbrev S4096x256 : Shape := ⟨2, ![4096, 256]⟩
abbrev S1x256 : Shape := ⟨2, ![1, 256]⟩
abbrev S32 : Shape := ⟨1, ![32]⟩
abbrev S_ : Shape := ⟨0, ![]⟩
abbrev S8x4 : Shape := ⟨2, ![8, 4]⟩
abbrev S32x1 : Shape := ⟨2, ![32, 1]⟩
abbrev S16384x4096 : Shape := ⟨2, ![16384, 4096]⟩
abbrev S16384x1 : Shape := ⟨2, ![16384, 1]⟩
abbrev S16384x14336 : Shape := ⟨2, ![16384, 14336]⟩
abbrev S4096x1024 : Shape := ⟨2, ![4096, 1024]⟩
abbrev S512x1 : Shape := ⟨2, ![512, 1]⟩
abbrev S1x1024 : Shape := ⟨2, ![1, 1024]⟩
abbrev S512x1024 : Shape := ⟨2, ![512, 1024]⟩
abbrev S8x2048x14336 : Shape := ⟨3, ![8, 2048, 14336]⟩
abbrev S14336 : Shape := ⟨1, ![14336]⟩
abbrev S8x2048 : Shape := ⟨2, ![8, 2048]⟩

abbrev nBuf : Space → Nat
  | .hbm => 68
  | .vmem => 29
  | .smem => 4
  | _ => 0

abbrev bufTy : (tb : Table) → Fin (tcTables nBuf tb) → BufTy
  | .hbm, ⟨0, _⟩ => ⟨S8x2048x4096, .bf16⟩
  | .hbm, ⟨1, _⟩ => ⟨S4096x14336, .bf16⟩
  | .hbm, ⟨2, _⟩ => ⟨S4096, .f32⟩
  | .hbm, ⟨3, _⟩ => ⟨S1x4096, .f32⟩
  | .hbm, ⟨4, _⟩ => ⟨S1x4096, .f32⟩
  | .hbm, ⟨5, _⟩ => ⟨S8x2048x4096, .i8⟩
  | .hbm, ⟨6, _⟩ => ⟨S8x2048x1, .f32⟩
  | .hbm, ⟨7, _⟩ => ⟨S4096x1, .f32⟩
  | .hbm, ⟨8, _⟩ => ⟨S4096x14336, .i8⟩
  | .hbm, ⟨9, _⟩ => ⟨S1x14336, .f32⟩
  | .hbm, ⟨10, _⟩ => ⟨S32, .i32⟩
  | .hbm, ⟨11, _⟩ => ⟨S_, .i32⟩
  | .hbm, ⟨12, _⟩ => ⟨S32, .i32⟩
  | .hbm, ⟨13, _⟩ => ⟨S32, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S32, .i32⟩
  | .hbm, ⟨21, _⟩ => ⟨S32, .i32⟩
  | .hbm, ⟨22, _⟩ => ⟨S_, .i32⟩
  | .hbm, ⟨23, _⟩ => ⟨S32, .i32⟩
  | .hbm, ⟨24, _⟩ => ⟨S32, .i1⟩
  | .hbm, ⟨25, _⟩ => ⟨S_, .i32⟩
  | .hbm, ⟨26, _⟩ => ⟨S32, .i32⟩
  | .hbm, ⟨27, _⟩ => ⟨S32, .i1⟩
  | .hbm, ⟨28, _⟩ => ⟨S_, .i32⟩
  | .hbm, ⟨29, _⟩ => ⟨S_, .i1⟩
  | .hbm, ⟨30, _⟩ => ⟨S32, .i1⟩
  | .hbm, ⟨31, _⟩ => ⟨S32, .i1⟩
  | .hbm, ⟨32, _⟩ => ⟨S32, .i1⟩
  | .hbm, ⟨33, _⟩ => ⟨S32, .i32⟩
  | .hbm, ⟨34, _⟩ => ⟨S32, .i32⟩
  | .hbm, ⟨35, _⟩ => ⟨S32, .i32⟩
  | .hbm, ⟨36, _⟩ => ⟨S8x4, .i32⟩
  | .hbm, ⟨37, _⟩ => ⟨S32, .i32⟩
  | .hbm, ⟨38, _⟩ => ⟨S32, .i1⟩
  | .hbm, ⟨39, _⟩ => ⟨S32, .i1⟩
  | .hbm, ⟨40, _⟩ => ⟨S32, .i32⟩
  | .hbm, ⟨41, _⟩ => ⟨S32, .i1⟩
  | .hbm, ⟨42, _⟩ => ⟨S32, .i32⟩
  | .hbm, ⟨43, _⟩ => ⟨S_, .i32⟩
  | .hbm, ⟨44, _⟩ => ⟨S_, .i32⟩
  | .hbm, ⟨45, _⟩ => ⟨S32, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S32, .i32⟩
  | .hbm, ⟨52, _⟩ => ⟨S32, .i32⟩
  | .hbm, ⟨53, _⟩ => ⟨S_, .i32⟩
  | .hbm, ⟨54, _⟩ => ⟨S32, .i32⟩
  | .hbm, ⟨55, _⟩ => ⟨S32, .i1⟩
  | .hbm, ⟨56, _⟩ => ⟨S_, .i32⟩
  | .hbm, ⟨57, _⟩ => ⟨S32, .i32⟩
  | .hbm, ⟨58, _⟩ => ⟨S32, .i32⟩
  | .hbm, ⟨59, _⟩ => ⟨S32, .i32⟩
  | .hbm, ⟨60, _⟩ => ⟨S32x1, .i32⟩
  | .hbm, ⟨61, _⟩ => ⟨S16384x4096, .i8⟩
  | .hbm, ⟨62, _⟩ => ⟨S16384x1, .f32⟩
  | .hbm, ⟨63, _⟩ => ⟨S16384x14336, .bf16⟩
  | .hbm, ⟨64, _⟩ => ⟨S8x2048x14336, .bf16⟩
  | .hbm, ⟨65, _⟩ => ⟨S4096, .f32⟩
  | .hbm, ⟨66, _⟩ => ⟨S14336, .f32⟩
  | .hbm, ⟨67, _⟩ => ⟨S8x2048, .f32⟩
  | .local _ .vmem, ⟨0, _⟩ => ⟨S1x512x4096, .bf16⟩
  | .local _ .vmem, ⟨1, _⟩ => ⟨S1x512x4096, .bf16⟩
  | .local _ .vmem, ⟨2, _⟩ => ⟨S1x4096, .f32⟩
  | .local _ .vmem, ⟨3, _⟩ => ⟨S1x4096, .f32⟩
  | .local _ .vmem, ⟨4, _⟩ => ⟨S16x4096, .bf16⟩
  | .local _ .vmem, ⟨5, _⟩ => ⟨S1x256x4096, .bf16⟩
  | .local _ .vmem, ⟨6, _⟩ => ⟨S1x256x4096, .bf16⟩
  | .local _ .vmem, ⟨7, _⟩ => ⟨S1x4096, .f32⟩
  | .local _ .vmem, ⟨8, _⟩ => ⟨S1x256x4096, .i8⟩
  | .local _ .vmem, ⟨9, _⟩ => ⟨S1x256x4096, .i8⟩
  | .local _ .vmem, ⟨10, _⟩ => ⟨S1x256x1, .f32⟩
  | .local _ .vmem, ⟨11, _⟩ => ⟨S1x256x1, .f32⟩
  | .local _ .vmem, ⟨12, _⟩ => ⟨S4096x256, .bf16⟩
  | .local _ .vmem, ⟨13, _⟩ => ⟨S4096x256, .bf16⟩
  | .local _ .vmem, ⟨14, _⟩ => ⟨S4096x1, .f32⟩
  | .local _ .vmem, ⟨15, _⟩ => ⟨S4096x256, .i8⟩
  | .local _ .vmem, ⟨16, _⟩ => ⟨S4096x256, .i8⟩
  | .local _ .vmem, ⟨17, _⟩ => ⟨S1x256, .f32⟩
  | .local _ .vmem, ⟨18, _⟩ => ⟨S1x256, .f32⟩
  | .local _ .vmem, ⟨19, _⟩ => ⟨S512x4096, .i8⟩
  | .local _ .vmem, ⟨20, _⟩ => ⟨S512x4096, .i8⟩
  | .local _ .vmem, ⟨21, _⟩ => ⟨S4096x1024, .i8⟩
  | .local _ .vmem, ⟨22, _⟩ => ⟨S4096x1024, .i8⟩
  | .local _ .vmem, ⟨23, _⟩ => ⟨S512x1, .f32⟩
  | .local _ .vmem, ⟨24, _⟩ => ⟨S512x1, .f32⟩
  | .local _ .vmem, ⟨25, _⟩ => ⟨S1x1024, .f32⟩
  | .local _ .vmem, ⟨26, _⟩ => ⟨S1x1024, .f32⟩
  | .local _ .vmem, ⟨27, _⟩ => ⟨S512x1024, .bf16⟩
  | .local _ .vmem, ⟨28, _⟩ => ⟨S512x1024, .bf16⟩
  | .local _ .smem, ⟨0, _⟩ => ⟨S8, .i32⟩
  | .local _ .smem, ⟨1, _⟩ => ⟨S32, .i32⟩
  | .local _ .smem, ⟨2, _⟩ => ⟨S1, .i32⟩
  | .local _ .smem, ⟨3, _⟩ => ⟨S32, .i32⟩
  | _, _ => ⟨S8x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_call0_v0 : Ref sig .tc := ⟨.hbm, 15, rfl⟩
abbrev main_call0_c : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_c_1 : Ref sig .tc := ⟨.hbm, 22, rfl⟩
abbrev main_call0_v5 : Ref sig .tc := ⟨.hbm, 23, rfl⟩
abbrev main_call0_v6 : Ref sig .tc := ⟨.hbm, 24, rfl⟩
abbrev main_call0_c_2 : Ref sig .tc := ⟨.hbm, 25, rfl⟩
abbrev main_call0_v7 : Ref sig .tc := ⟨.hbm, 26, rfl⟩
abbrev main_call0_v8 : Ref sig .tc := ⟨.hbm, 27, rfl⟩
abbrev main_call0_c_3 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_call1_v0 : Ref sig .tc := ⟨.hbm, 40, rfl⟩
abbrev main_call1_v1_0 : Ref sig .tc := ⟨.hbm, 41, rfl⟩
abbrev main_v14 : Ref sig .tc := ⟨.hbm, 42, rfl⟩
abbrev main_c_1 : Ref sig .tc := ⟨.hbm, 43, rfl⟩
abbrev main_v15 : Ref sig .tc := ⟨.hbm, 44, rfl⟩
abbrev main_v17 : Ref sig .tc := ⟨.hbm, 45, rfl⟩
abbrev main_v18 : Ref sig .tc := ⟨.hbm, 46, rfl⟩
abbrev main_c_2 : Ref sig .tc := ⟨.hbm, 47, rfl⟩
abbrev main_v19 : Ref sig .tc := ⟨.hbm, 48, rfl⟩
abbrev main_c_3 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_c_4 : Ref sig .tc := ⟨.hbm, 53, rfl⟩
abbrev main_v23 : Ref sig .tc := ⟨.hbm, 54, rfl⟩
abbrev main_v24 : Ref sig .tc := ⟨.hbm, 55, rfl⟩
abbrev main_c_5 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_arg1 : Ref sig .tc := ⟨.smem, 0, rfl⟩
abbrev main_v13 : Ref sig .tc := ⟨.smem, 1, rfl⟩
abbrev main_v16 : Ref sig .tc := ⟨.smem, 2, rfl⟩
abbrev main_v29 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg3_1 : Ref sig .tc := ⟨.vmem, 26, rfl⟩
abbrev cc3_stg4_0 : Ref sig .tc := ⟨.vmem, 27, rfl⟩
abbrev cc3_stg4_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨2, ![8, 4], ![false, false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond4 (i : grid0.Coords) : BitVec 1 :=
  let arg0 : BitVec 32 := BitVec.ofNat 32 (i 0).val
  let c7_i32 : BitVec 32 := 7#32
  let v17 : BitVec 1 := Scalar.cmpi .eq arg0 c7_i32
  let arg1 : BitVec 32 := BitVec.ofNat 32 (i 1).val
  let c3_i32 : BitVec 32 := 3#32
  let v18 : BitVec 1 := Scalar.cmpi .eq arg1 c3_i32
  let v19 : BitVec 1 := Scalar.andi v17 v18
  let v20 : BitVec 32 := Scalar.extui v19
  let c0_i32_7 : BitVec 32 := 0#32
  let v21 : BitVec 1 := Scalar.cmpi .ne v20 c0_i32_7
  v21

def cc0_transform_0 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k0_off1_inb i)) numel1_S1
  let c512_i32 : BitVec 32 := 512#32
  let v2 : BitVec 32 := Scalar.addi v1 c512_i32
  let c1_i32 : BitVec 32 := 1#32
  let v3 : BitVec 32 := Scalar.subi v2 c1_i32
  let c512_i32_0 : BitVec 32 := 512#32
  let v4 : BitVec 32 := Scalar.maxsi v3 c512_i32_0
  let c512_i32_1 : BitVec 32 := 512#32
  let v5 : BitVec 32 := Scalar.divsi v4 c512_i32_1
  let c0_i32 : BitVec 32 := 0#32
  let v6 : BitVec 1 := Scalar.cmpi .sgt v4 c0_i32
  let v7 : BitVec 32 := Scalar.extui v6
  let c0_i32_2 : BitVec 32 := 0#32
  let v8 : BitVec 1 := Scalar.cmpi .slt v4 c0_i32_2
  let v9 : BitVec 32 := Scalar.extui v8
  let v10 : BitVec 32 := Scalar.subi v7 v9
  let c0_i32_3 : BitVec 32 := 0#32
  let v11 : BitVec 1 := Scalar.cmpi .sgt c512_i32_1 c0_i32_3
  let v12 : BitVec 32 := Scalar.extui v11
  let c0_i32_4 : BitVec 32 := 0#32
  let v13 : BitVec 1 := Scalar.cmpi .slt c512_i32_1 c0_i32_4
  let v14 : BitVec 32 := Scalar.extui v13
  let v15 : BitVec 32 := Scalar.subi v12 v14
  let v16 : BitVec 1 := Scalar.cmpi .ne v10 v15
  let v17 : BitVec 32 := Scalar.remsi v4 c512_i32_1
  let c0_i32_5 : BitVec 32 := 0#32
  let v18 : BitVec 1 := Scalar.cmpi .ne v17 c0_i32_5
  let v19 : BitVec 1 := Scalar.andi v16 v18
  let c1_i32_6 : BitVec 32 := 1#32
  let v20 : BitVec 32 := Scalar.subi v5 c1_i32_6
  let v21 : BitVec 32 := Scalar.select v19 v20 v5
  let c1_i32_7 : BitVec 32 := 1#32
  let v22 : BitVec 32 := Scalar.subi v21 c1_i32_7
  let v23 : BitVec 32 := Scalar.minsi arg1 v22
  let c0_i32_8 : BitVec 32 := 0#32
  let c0_i32_9 : BitVec 32 := 0#32
  ![arg0.toNat, v23.toNat, c0_i32_8.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev grid1 : Pipeline.Grid := ⟨2, ![8, 8], ![false, false]⟩

abbrev pre1 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def k1_cond1 (i : grid1.Coords) (v1 : BitVec 32) : BitVec 1 :=
  let arg1 : BitVec 32 := BitVec.ofNat 32 (i 1).val
  let c256_i32 : BitVec 32 := 256#32
  let v2 : BitVec 32 := Scalar.muli arg1 c256_i32
  let v3 : BitVec 32 := Scalar.subi v1 v2
  let c0_i32 : BitVec 32 := 0#32
  let v4 : BitVec 1 := Scalar.cmpi .sle v3 c0_i32
  let v5 : BitVec 32 := Scalar.extui v4
  let c0_i32_0 : BitVec 32 := 0#32
  let v6 : BitVec 1 := Scalar.cmpi .ne v5 c0_i32_0
  v6

def k1_cond2 (i : grid1.Coords) (v1 : BitVec 32) : BitVec 1 :=
  let arg1 : BitVec 32 := BitVec.ofNat 32 (i 1).val
  let c256_i32 : BitVec 32 := 256#32
  let v2 : BitVec 32 := Scalar.muli arg1 c256_i32
  let v3 : BitVec 32 := Scalar.subi v1 v2
  let c0_i32_1 : BitVec 32 := 0#32
  let v7 : BitVec 1 := Scalar.cmpi .sgt v3 c0_i32_1
  let v8 : BitVec 32 := Scalar.extui v7
  let c0_i32_2 : BitVec 32 := 0#32
  let v9 : BitVec 1 := Scalar.cmpi .ne v8 c0_i32_2
  v9

def cc1_transform_0 (k1_off1_inb : ∀ i : grid1.Coords, ∀ a, (k1_off1 i) a + S1.size a ≤ S8.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k1_off1_inb i)) numel1_S1
  let c256_i32 : BitVec 32 := 256#32
  let v2 : BitVec 32 := Scalar.addi v1 c256_i32
  let c1_i32 : BitVec 32 := 1#32
  let v3 : BitVec 32 := Scalar.subi v2 c1_i32
  let c256_i32_0 : BitVec 32 := 256#32
  let v4 : BitVec 32 := Scalar.maxsi v3 c256_i32_0
  let c256_i32_1 : BitVec 32 := 256#32
  let v5 : BitVec 32 := Scalar.divsi v4 c256_i32_1
  let c0_i32 : BitVec 32 := 0#32
  let v6 : BitVec 1 := Scalar.cmpi .sgt v4 c0_i32
  let v7 : BitVec 32 := Scalar.extui v6
  let c0_i32_2 : BitVec 32 := 0#32
  let v8 : BitVec 1 := Scalar.cmpi .slt v4 c0_i32_2
  let v9 : BitVec 32 := Scalar.extui v8
  let v10 : BitVec 32 := Scalar.subi v7 v9
  let c0_i32_3 : BitVec 32 := 0#32
  let v11 : BitVec 1 := Scalar.cmpi .sgt c256_i32_1 c0_i32_3
  let v12 : BitVec 32 := Scalar.extui v11
  let c0_i32_4 : BitVec 32 := 0#32
  let v13 : BitVec 1 := Scalar.cmpi .slt c256_i32_1 c0_i32_4
  let v14 : BitVec 32 := Scalar.extui v13
  let v15 : BitVec 32 := Scalar.subi v12 v14
  let v16 : BitVec 1 := Scalar.cmpi .ne v10 v15
  let v17 : BitVec 32 := Scalar.remsi v4 c256_i32_1
  let c0_i32_5 : BitVec 32 := 0#32
  let v18 : BitVec 1 := Scalar.cmpi .ne v17 c0_i32_5
  let v19 : BitVec 1 := Scalar.andi v16 v18
  let c1_i32_6 : BitVec 32 := 1#32
  let v20 : BitVec 32 := Scalar.subi v5 c1_i32_6
  let v21 : BitVec 32 := Scalar.select v19 v20 v5
  let c1_i32_7 : BitVec 32 := 1#32
  let v22 : BitVec 32 := Scalar.subi v21 c1_i32_7
  let v23 : BitVec 32 := Scalar.minsi arg1 v22
  let c0_i32_8 : BitVec 32 := 0#32
  let c0_i32_9 : BitVec 32 := 0#32
  ![arg0.toNat, v23.toNat, c0_i32_8.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x256x4096 .i8 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x256x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![56], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S4096x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4096x256 .i8 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![14, 32], ![false, false]⟩

abbrev pre3 : Pipeline.Prefetch sig := ⟨3, ![main_v13.idx, main_v16.idx, main_v29.idx], fun | 0 => main_v13.names | 1 => main_v16.names | 2 => main_v29.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k3_off1 (i : grid3.Coords) : Fin 1 → Nat :=
  let arg1 : BitVec 32 := BitVec.ofNat 32 (i 1).val
  let v0 : Index := Scalar.indexCast arg1
  ![v0.toNat]
def k3_cond1 (i : grid3.Coords) (v0 : BitVec 32) : BitVec 1 :=
  let arg1 : BitVec 32 := BitVec.ofNat 32 (i 1).val
  let v1 : BitVec 1 := Scalar.cmpi .slt arg1 v0
  let v2 : BitVec 32 := Scalar.extui v1
  let c0_i32 : BitVec 32 := 0#32
  let v3 : BitVec 1 := Scalar.cmpi .ne v2 c0_i32
  v3

def k3_cond2 (i : grid3.Coords) (v4 : BitVec 32) : BitVec 1 :=
  let arg1 : BitVec 32 := BitVec.ofNat 32 (i 1).val
  let v5 : BitVec 1 := Scalar.cmpi .sge arg1 v4
  let v6 : BitVec 32 := Scalar.extui v5
  let c0_i32_1 : BitVec 32 := 0#32
  let v7 : BitVec 1 := Scalar.cmpi .ne v6 c0_i32_1
  v7

def cc3_transform_0 (k3_off1_inb : ∀ i : grid3.Coords, ∀ a, (k3_off1 i) a + S1.size a ≤ S32.size a) (numel1_S1 : S1.numel = 1) (pf : pre3.Contents (Elt F)) (i : grid3.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 2 (Rect.unit (s := S32) ![v0.toNat] S1.size (k3_off1_inb i)) numel1_S1
  let c0_i32 : BitVec 32 := 0#32
  let c0_i32_0 : BitVec 32 := 0#32
  ![v1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_2 (k3_off1_inb : ∀ i : grid3.Coords, ∀ a, (k3_off1 i) a + S1.size a ≤ S32.size a) (numel1_S1 : S1.numel = 1) (pf : pre3.Contents (Elt F)) (i : grid3.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 2 (Rect.unit (s := S32) ![v0.toNat] S1.size (k3_off1_inb i)) numel1_S1
  let c0_i32 : BitVec 32 := 0#32
  let c0_i32_0 : BitVec 32 := 0#32
  ![v1.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_4 (k3_off1_inb : ∀ i : grid3.Coords, ∀ a, (k3_off1 i) a + S1.size a ≤ S32.size a) (numel1_S1 : S1.numel = 1) (pf : pre3.Contents (Elt F)) (i : grid3.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S32) ![v0.toNat] S1.size (k3_off1_inb i)) numel1_S1
  let c0_i32 : BitVec 32 := 0#32
  ![v1.toNat, arg0.toNat]

abbrev stage3_0 : Fin 2 → Memref sig .tc .vmem S512x4096 .i8 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S4096x1024 .i8 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S512x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S1x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S512x1024 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]
-- ==== ReferenceIdeal.lean ====
abbrev S8x2048x4096 : Shape := ⟨3, ![8, 2048, 4096]⟩
abbrev S8 : Shape := ⟨1, ![8]⟩
abbrev S4096x14336 : Shape := ⟨2, ![4096, 14336]⟩
abbrev S4096 : Shape := ⟨1, ![4096]⟩
abbrev S8x2048x14336 : Shape := ⟨3, ![8, 2048, 14336]⟩
abbrev S14336 : Shape := ⟨1, ![14336]⟩
abbrev S8x2048 : Shape := ⟨2, ![8, 2048]⟩
abbrev S8x1 : Shape := ⟨2, ![8, 1]⟩
abbrev S8x2048x1 : Shape := ⟨3, ![8, 2048, 1]⟩
abbrev S4096x1 : Shape := ⟨2, ![4096, 1]⟩
abbrev S1x14336 : Shape := ⟨2, ![1, 14336]⟩
abbrev S1x1x4096 : Shape := ⟨3, ![1, 1, 4096]⟩
abbrev S1x1x14336 : Shape := ⟨3, ![1, 1, 14336]⟩

abbrev nBuf : Space → Nat
  | .hbm => 10
  | .vmem => 10
  | .smem => 0
  | _ => 0

abbrev bufTy : (tb : Table) → Fin (tcTables nBuf tb) → BufTy
  | .hbm, ⟨0, _⟩ => ⟨S8x2048x4096, .bf16⟩
  | .hbm, ⟨1, _⟩ => ⟨S8, .i32⟩
  | .hbm, ⟨2, _⟩ => ⟨S4096x14336, .bf16⟩
  | .hbm, ⟨3, _⟩ => ⟨S4096, .f32⟩
  | .hbm, ⟨4, _⟩ => ⟨S8x2048x14336, .bf16⟩
  | .hbm, ⟨5, _⟩ => ⟨S4096, .f32⟩
  | .hbm, ⟨6, _⟩ => ⟨S4096x14336, .i8⟩
  | .hbm, ⟨7, _⟩ => ⟨S14336, .f32⟩
  | .hbm, ⟨8, _⟩ => ⟨S8x2048x4096, .i8⟩
  | .hbm, ⟨9, _⟩ => ⟨S8x2048, .f32⟩
  | .local _ .vmem, ⟨0, _⟩ => ⟨S8x2048x4096, .bf16⟩
  | .local _ .vmem, ⟨1, _⟩ => ⟨S8, .i32⟩
  | .local _ .vmem, ⟨2, _⟩ => ⟨S4096x14336, .bf16⟩
  | .local _ .vmem, ⟨3, _⟩ => ⟨S4096, .f32⟩
  | .local _ .vmem, ⟨4, _⟩ => ⟨S8x2048x14336, .bf16⟩
  | .local _ .vmem, ⟨5, _⟩ => ⟨S4096, .f32⟩
  | .local _ .vmem, ⟨6, _⟩ => ⟨S4096x14336, .i8⟩
  | .local _ .vmem, ⟨7, _⟩ => ⟨S14336, .f32⟩
  | .local _ .vmem, ⟨8, _⟩ => ⟨S8x2048x4096, .i8⟩
  | .local _ .vmem, ⟨9, _⟩ => ⟨S8x2048, .f32⟩
  | _, _ => ⟨S8x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_v0_5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S8x2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x14336 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x2048x14336 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x14336 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S14336 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x2048x4096 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Words.lean ====
/-
  Word facts of the two index maps that clamp a tile's position by a batch's length.
-/
module

public import Idealize.ShloMosaic.Lib.WordCmp
public import Idealize.ShloMosaic.PureOps.Float

@[expose] public section

namespace Cert.Words

open Idealize.ShloMosaic

theorem extBit (b : BitVec 1) : Scalar.cmpi .ne (Scalar.extui b : BitVec 32) 0#32 = b := by revert b; decide

theorem slt_bit (x y : BitVec 32) : Scalar.cmpi .slt x y = if x.toInt < y.toInt then 1#1 else 0#1 := by
  show BitVec.ofBool (BitVec.slt _ _) = _
  rw [BitVec.slt]
  by_cases h : x.toInt < y.toInt <;> simp [h]
theorem sgt_bit (x y : BitVec 32) : Scalar.cmpi .sgt x y = if y.toInt < x.toInt then 1#1 else 0#1 := by
  show BitVec.ofBool (BitVec.slt _ _) = _
  rw [BitVec.slt]
  by_cases h : y.toInt < x.toInt <;> simp [h]
theorem sge_bit (x y : BitVec 32) : Scalar.cmpi .sge x y = if y.toInt ≤ x.toInt then 1#1 else 0#1 := by
  show BitVec.ofBool (BitVec.sle _ _) = _
  rw [BitVec.sle]
  by_cases h : y.toInt ≤ x.toInt <;> simp [h]
theorem sle_bit (x y : BitVec 32) : Scalar.cmpi .sle x y = if x.toInt ≤ y.toInt then 1#1 else 0#1 := by
  show BitVec.ofBool (BitVec.sle _ _) = _
  rw [BitVec.sle]
  by_cases h : x.toInt ≤ y.toInt <;> simp [h]

theorem ne_self (x : BitVec 32) : Scalar.cmpi .ne x x = 0#1 := by
  show BitVec.ofBool (x != x) = _
  simp
theorem andi_zero (y : BitVec 1) : Scalar.andi 0#1 y = 0#1 := by revert y; decide

theorem toInt_maxsi (x y : BitVec 32) : (Scalar.maxsi x y).toInt = max x.toInt y.toInt := by
  show (if y.slt x then x else y).toInt = _
  rw [BitVec.slt]
  by_cases h : y.toInt < x.toInt
  · simp [h]; omega
  · simp [h]; omega
theorem toInt_minsi (x y : BitVec 32) : (Scalar.minsi x y).toInt = min x.toInt y.toInt := by
  show (if x.slt y then x else y).toInt = _
  rw [BitVec.slt]
  by_cases h : x.toInt < y.toInt
  · simp [h]; omega
  · simp [h]; omega
theorem toInt_lt (x : BitVec 32) : x.toInt < 2147483648 := by have := x.toInt_lt; simpa using this
theorem le_toInt (x : BitVec 32) : -2147483648 ≤ x.toInt := by have := x.le_toInt; simpa using this

theorem toInt_subi (x y : BitVec 32) (h1 : -2147483648 ≤ x.toInt - y.toInt) (h2 : x.toInt - y.toInt < 2147483648) :
    (Scalar.subi x y).toInt = x.toInt - y.toInt := by
  show (x - y).toInt = _
  rw [BitVec.toInt_sub, Int.bmod_eq_of_le] <;> omega
theorem toInt_addi (x y : BitVec 32) (h1 : -2147483648 ≤ x.toInt + y.toInt) (h2 : x.toInt + y.toInt < 2147483648) :
    (Scalar.addi x y).toInt = x.toInt + y.toInt := by
  show (x + y).toInt = _
  rw [BitVec.toInt_add, Int.bmod_eq_of_le] <;> omega
theorem toInt_divsi (x y : BitVec 32) (h1 : 0 ≤ x.toInt) (h2 : 0 < y.toInt) : (Scalar.divsi x y).toInt = x.toInt / y.toInt := by
  have hc : ¬ IntOp.SDivCorner x y := by
    rintro (h | h)
    · rw [h] at h2; simp at h2
    · have := h.2; rw [this] at h2; simp at h2
  show (if IntOp.SDivCorner x y then _ else x.sdiv y).toInt = _
  rw [if_neg hc, BitVec.toInt_sdiv, Int.tdiv_eq_ediv_of_nonneg h1, Int.bmod_eq_of_le]
  · have := Int.ediv_nonneg h1 (le_of_lt h2); omega
  · have := Int.ediv_le_self y.toInt h1; have := toInt_lt x; omega

/-- A tile's position clamped to the last tile of a length `v`, the tiles `T` long, as the index maps compute it. -/
def clampBlk (T v arg1 : BitVec 32) : BitVec 32 :=
  let v4 := Scalar.maxsi (Scalar.subi (Scalar.addi v T) 1#32) T
  let v5 := Scalar.divsi v4 T
  Scalar.minsi arg1 (Scalar.subi (Scalar.select (Scalar.andi
    (Scalar.cmpi .ne (Scalar.subi (Scalar.extui (Scalar.cmpi .sgt v4 0#32)) (Scalar.extui (Scalar.cmpi .slt v4 0#32)))
      (Scalar.subi (Scalar.extui (Scalar.cmpi .sgt T 0#32)) (Scalar.extui (Scalar.cmpi .slt T 0#32))))
    (Scalar.cmpi .ne (Scalar.remsi v4 T) 0#32)) (Scalar.subi v5 1#32) v5) 1#32)

theorem clampBlk_toInt (T v arg1 : BitVec 32) (hT : 0 < T.toInt) :
    (clampBlk T v arg1).toInt = min arg1.toInt (max (Scalar.subi (Scalar.addi v T) 1#32).toInt T.toInt / T.toInt - 1) := by
  show (let v4 := Scalar.maxsi (Scalar.subi (Scalar.addi v T) 1#32) T
    let v5 := Scalar.divsi v4 T
    Scalar.minsi arg1 (Scalar.subi (Scalar.select (Scalar.andi
      (Scalar.cmpi .ne (Scalar.subi (Scalar.extui (Scalar.cmpi .sgt v4 0#32)) (Scalar.extui (Scalar.cmpi .slt v4 0#32)))
        (Scalar.subi (Scalar.extui (Scalar.cmpi .sgt T 0#32)) (Scalar.extui (Scalar.cmpi .slt T 0#32))))
      (Scalar.cmpi .ne (Scalar.remsi v4 T) 0#32)) (Scalar.subi v5 1#32) v5) 1#32)).toInt = _
  generalize hv4 : Scalar.maxsi (Scalar.subi (Scalar.addi v T) 1#32) T = v4
  generalize hv5 : Scalar.divsi v4 T = v5
  dsimp only
  rw [hv5]
  have h4 : v4.toInt = max (Scalar.subi (Scalar.addi v T) 1#32).toInt T.toInt := by rw [← hv4]; exact toInt_maxsi _ _
  have h4' : 0 < v4.toInt := by omega
  have z : (0#32 : BitVec 32).toInt = 0 := by decide
  have o : (1#32 : BitVec 32).toInt = 1 := by decide
  rw [sgt_bit, slt_bit, sgt_bit, slt_bit, z, if_pos h4', if_neg (by omega), if_pos hT, if_neg (by omega), ne_self, andi_zero]
  have hs : Scalar.select 0#1 (Scalar.subi v5 1#32) v5 = v5 := by
    unfold Scalar.select; rw [if_neg (by decide)]
  have h5 : v5.toInt = v4.toInt / T.toInt := by rw [← hv5]; exact toInt_divsi _ _ (by omega) hT
  have h5' : 0 ≤ v5.toInt := by rw [h5]; exact Int.ediv_nonneg (by omega) (by omega)
  have := toInt_lt v5
  rw [hs, toInt_minsi, toInt_subi _ _ (by omega) (by omega), o, h5, h4]

/-- The clamped position is at most the tile's, -/
theorem clampBlk_le (T v : BitVec 32) (hT : 0 < T.toInt) (n : ℕ) (hn : n < 2147483648) :
    (clampBlk T v (BitVec.ofNat 32 n)).toNat ≤ n := by
  have e := clampBlk_toInt T v (BitVec.ofNat 32 n) hT
  have hn' : (BitVec.ofNat 32 n).toInt = n := WordCmp.toInt_ofNat_of_lt (by simpa using hn)
  rw [hn'] at e
  have h1 : 1 ≤ max (Scalar.subi (Scalar.addi v T) 1#32).toInt T.toInt / T.toInt := by
    rw [Int.le_ediv_iff_mul_le hT]; omega
  have hh := BitVec.toInt_eq_toNat_cond (clampBlk T v (BitVec.ofNat 32 n))
  have := (clampBlk T v (BitVec.ofNat 32 n)).isLt
  split at hh <;> omega

/-- and it is the tile's where the tile has a valid row and the length is not too long for the sum to wrap. -/
theorem clampBlk_eq (T v : BitVec 32) (hT : 0 < T.toInt) (n : ℕ) (hn : n < 2147483648)
    (h1 : v.toInt + T.toInt < 2147483648) (h : n * T.toInt < v.toInt) :
    (clampBlk T v (BitVec.ofNat 32 n)).toNat = n := by
  have e := clampBlk_toInt T v (BitVec.ofNat 32 n) hT
  have hn' : (BitVec.ofNat 32 n).toInt = n := WordCmp.toInt_ofNat_of_lt (by simpa using hn)
  have h0 : 0 ≤ n * T.toInt := Int.mul_nonneg (by omega) (by omega)
  have o : (1#32 : BitVec 32).toInt = 1 := by decide
  have ha : (Scalar.addi v T).toInt = v.toInt + T.toInt := toInt_addi _ _ (by omega) h1
  have hs : (Scalar.subi (Scalar.addi v T) 1#32).toInt = v.toInt + T.toInt - 1 := by
    rw [toInt_subi _ _ (by omega) (by omega), ha, o]
  rw [hn', hs] at e
  have h2 : (n : Int) + 1 ≤ max (v.toInt + T.toInt - 1) T.toInt / T.toInt := by
    rw [Int.le_ediv_iff_mul_le hT]
    have : ((n : Int) + 1) * T.toInt = n * T.toInt + T.toInt := by rw [Int.add_mul, Int.one_mul]
    omega
  have hh := BitVec.toInt_eq_toNat_cond (clampBlk T v (BitVec.ofNat 32 n))
  have := (clampBlk T v (BitVec.ofNat 32 n)).isLt
  split at hh <;> omega

/-- The rows from a tile's first on, in integers. -/
theorem rem_toInt (v : BitVec 32) (n T : ℕ) (hn : n * T ≤ 1792) (h : -2147481856 ≤ v.toInt) :
    (Scalar.subi v (Scalar.muli (BitVec.ofNat 32 n) (BitVec.ofNat 32 T))).toInt = v.toInt - (n : Int) * (T : Int) := by
  have e : Scalar.muli (BitVec.ofNat 32 n) (BitVec.ofNat 32 T) = BitVec.ofNat 32 (n * T) := by
    show BitVec.ofNat 32 n * BitVec.ofNat 32 T = _
    rw [BitVec.ofNat_mul]
  have e' : (BitVec.ofNat 32 (n * T)).toInt = ((n * T : ℕ) : Int) := WordCmp.toInt_ofNat_of_lt (by
    have : n * T < 2147483648 := by omega
    simpa using this)
  have hm : ((n * T : ℕ) : Int) ≤ 1792 := by exact_mod_cast hn
  have hm0 : (0 : Int) ≤ ((n * T : ℕ) : Int) := Int.natCast_nonneg _
  have := toInt_lt v
  rw [e, toInt_subi _ _ (by rw [e']; omega) (by rw [e']; omega), e']
  rw [Int.natCast_mul]

end Cert.Words
-- ==== Proof.K.Tabs.lean ====
/-
  The tables of the three calls that prefetch one: the index maps they feed stay inside the arrays.
-/
module

public import proofs.«01_k».proof.Proof.Gen.Kernel.Launch
public import proofs.«01_k».proof.Proof.Gen.Kernel.Regions
public import proofs.«01_k».proof.Proof.Words
public import Idealize.ShloMosaic.Lib.SortFacts
public import Idealize.ShloMosaic.Lib.ValueIdx

@[expose] public section

set_option maxRecDepth 16384

noncomputable section

namespace Cert.Kernel.Tabs

open Cert.Kernel.Gen
open Idealize.ShloMosaic Idealize.ShloMosaic.TcCoe

variable {F : FTy → Type} [FloatOps F]

theorem lt0 (i : grid0.Coords) : (i 0).val < 8 := (i 0).isLt
theorem lt1 (i : grid0.Coords) : (i 1).val < 4 := (i 1).isLt

/-- The length call 0's index map reads, -/
def len0 (pf : pre0.Contents (Elt F)) (i : grid0.Coords) : BitVec 32 := pf.at 0 (Rect.unit (s := S8) (k0_off1 i) S1.size (k0_off1_inb i)) numel1_S1
/-- and the map's block: the batch, and the tile's position clamped by the length. -/
theorem tr0 (pf : pre0.Contents (Elt F)) (i : grid0.Coords) :
    cc0_transform_0 k0_off1_inb numel1_S1 pf i = ![(i 0).val, (Cert.Words.clampBlk 512#32 (len0 pf i) (BitVec.ofNat 32 (i 1).val)).toNat, 0] := by
  have h : cc0_transform_0 k0_off1_inb numel1_S1 pf i = ![(BitVec.ofNat 32 (i 0).val).toNat, (Cert.Words.clampBlk 512#32 (len0 pf i) (BitVec.ofNat 32 (i 1).val)).toNat, 0] := rfl
  rw [h, WordCmp.toNat_ofNat_of_lt (by have := lt0 i; omega)]

theorem ok0_any (pf : pre0.Contents (Elt F)) : ok0 pf := by
  intro i
  have e := tr0 pf i
  have hc := Cert.Words.clampBlk_le 512#32 (len0 pf i) (by decide) (i 1).val (by have := lt1 i; omega)
  have h0 := lt0 i
  have h1 := lt1 i
  refine ⟨?_, .inr (Affine.block_words_dvd (of_decide_eq_true rfl) (by decide))⟩
  intro a
  rw [e]
  match a with
  | ⟨0, _⟩ => show ((i 0).val + 1) * 1 ≤ 8; omega
  | ⟨1, _⟩ => show ((Cert.Words.clampBlk 512#32 (len0 pf i) (BitVec.ofNat 32 (i 1).val)).toNat + 1) * 512 ≤ 2048; omega
  | ⟨2, _⟩ => show (0 + 1) * 4096 ≤ 4096; omega

theorem lt0' (i : grid1.Coords) : (i 0).val < 8 := (i 0).isLt
theorem lt1' (i : grid1.Coords) : (i 1).val < 8 := (i 1).isLt

def len1 (pf : pre1.Contents (Elt F)) (i : grid1.Coords) : BitVec 32 := pf.at 0 (Rect.unit (s := S8) (k1_off1 i) S1.size (k1_off1_inb i)) numel1_S1
theorem tr1 (pf : pre1.Contents (Elt F)) (i : grid1.Coords) :
    cc1_transform_0 k1_off1_inb numel1_S1 pf i = ![(i 0).val, (Cert.Words.clampBlk 256#32 (len1 pf i) (BitVec.ofNat 32 (i 1).val)).toNat, 0] := by
  have h : cc1_transform_0 k1_off1_inb numel1_S1 pf i = ![(BitVec.ofNat 32 (i 0).val).toNat, (Cert.Words.clampBlk 256#32 (len1 pf i) (BitVec.ofNat 32 (i 1).val)).toNat, 0] := rfl
  rw [h, WordCmp.toNat_ofNat_of_lt (by have := lt0' i; omega)]

theorem ok1_any (pf : pre1.Contents (Elt F)) : ok1 pf := by
  intro i
  have e := tr1 pf i
  have hc := Cert.Words.clampBlk_le 256#32 (len1 pf i) (by decide) (i 1).val (by have := lt1' i; omega)
  have h0 := lt0' i
  have h1 := lt1' i
  refine ⟨?_, .inr (Affine.block_words_dvd (of_decide_eq_true rfl) (by decide))⟩
  intro a
  rw [e]
  match a with
  | ⟨0, _⟩ => show ((i 0).val + 1) * 1 ≤ 8; omega
  | ⟨1, _⟩ => show ((Cert.Words.clampBlk 256#32 (len1 pf i) (BitVec.ofNat 32 (i 1).val)).toNat + 1) * 256 ≤ 2048; omega
  | ⟨2, _⟩ => show (0 + 1) * 4096 ≤ 4096; omega

/-- Call 3's side condition, from every word of the order and row tables being a tile. -/
theorem ok3_of (pf : pre3.Contents (Elt F)) (h0 : ∀ x, (pf 0 x : BitVec 32).toNat < 32) (h2 : ∀ x, (pf 2 x : BitVec 32).toNat < 32) : ok3 pf := by
  have lt (i : grid3.Coords) : (i 0).val < 14 := (i 0).isLt
  refine ⟨fun i => ⟨?_, .inr (Affine.block_words_dvd (of_decide_eq_true rfl) (by decide))⟩, fun i => ⟨?_, .inl rfl⟩,
    fun i => ⟨?_, .inr (Affine.block_words_dvd (of_decide_eq_true rfl) (by decide))⟩⟩
  · intro a
    have e : ∃ x, cc3_transform_0 k3_off1_inb numel1_S1 pf i = ![(pf 2 x : BitVec 32).toNat, 0] := ⟨_, rfl⟩
    obtain ⟨x, e⟩ := e
    have := h2 x
    rw [e]
    match a with
    | ⟨0, _⟩ => show ((pf 2 x : BitVec 32).toNat + 1) * 512 ≤ 16384; omega
    | ⟨1, _⟩ => show (0 + 1) * 4096 ≤ 4096; omega
  · intro a
    have e : ∃ x, cc3_transform_2 k3_off1_inb numel1_S1 pf i = ![(pf 2 x : BitVec 32).toNat, 0] := ⟨_, rfl⟩
    obtain ⟨x, e⟩ := e
    have := h2 x
    rw [e]
    match a with
    | ⟨0, _⟩ => show ((pf 2 x : BitVec 32).toNat + 1) * 512 ≤ 16384; omega
    | ⟨1, _⟩ => show (0 + 1) * 1 ≤ 1; omega
  · intro a
    have e : ∃ x, cc3_transform_4 k3_off1_inb numel1_S1 pf i = ![(pf 0 x : BitVec 32).toNat, (BitVec.ofNat 32 (i 0).val).toNat] := ⟨_, rfl⟩
    obtain ⟨x, e⟩ := e
    have := h0 x
    have := lt i
    rw [e, WordCmp.toNat_ofNat_of_lt (by omega)]
    match a with
    | ⟨0, _⟩ => show ((pf 0 x : BitVec 32).toNat + 1) * 512 ≤ 16384; omega
    | ⟨1, _⟩ => show ((i 0).val + 1) * 1024 ≤ 14336; omega

/-! ## The tables of call 3 -/

/-- The position a tile's entry of the order table is sorted from. -/
def src (x : S32.Idx → BitVec 1) (y : S32.Idx → BitVec 32) (t : Fin 32) : Fin 32 :=
  sortedFrom (fun k k' => comparator_i1_i32_d0 (x (ValueIdx.ix1 k), y (ValueIdx.ix1 k)) (x (ValueIdx.ix1 k'), y (ValueIdx.ix1 k')) == 1#1) t

theorem sort2_apply (x : S32.Idx → BitVec 1) (y : S32.Idx → BitVec 32) (t : S32.Idx) :
    (Host.sort2 S32 0 comparator_i1_i32_d0 x y).2 t = y (ValueIdx.ix1 (src x y (t 0))) := by
  have al : ∀ k : Fin 32, Shape.Idx.along t (0 : Fin 1) k = (ValueIdx.ix1 k : S32.Idx) := by
    intro k; funext b
    match b with
    | ⟨0, _⟩ => rfl
  have hs : (Host.sort2 S32 0 comparator_i1_i32_d0 x y).2 t = y (Shape.Idx.along t (0 : Fin 1) (sortedFrom (n := 32) (fun k k' => comparator_i1_i32_d0 (x (Shape.Idx.along t (0 : Fin 1) k), y (Shape.Idx.along t (0 : Fin 1) k)) (x (Shape.Idx.along t (0 : Fin 1) k'), y (Shape.Idx.along t (0 : Fin 1) k')) == 1#1) (t 0))) := rfl
  rw [hs, al]
  unfold src
  congr 3
  funext k k'
  rw [al k, al k']

variable (V : Valuation τ sig (Elt F))

theorem v13_eq : StableHlo.after hostOps3_3 V main_v13 = (Host.sort2 S32 0 comparator_i1_i32_d0 (V main_v12) (iotaInDim S32 32 0)).2 := by
  rfl

theorem v13_apply (t : S32.Idx) : (StableHlo.after hostOps3_3 V main_v13 t : BitVec 32)
    = BitVec.ofNat 32 (src (V main_v12) (iotaInDim S32 32 0) (t 0)).val := by
  rw [v13_eq]
  exact sort2_apply _ _ t

theorem v13_lt (t : S32.Idx) : (StableHlo.after hostOps3_3 V main_v13 t : BitVec 32).toNat < 32 := by
  rw [v13_apply]
  have h := (src (V main_v12) (iotaInDim S32 32 0) (t 0)).isLt
  rw [WordCmp.toNat_ofNat_of_lt (by omega)]; exact h

theorem v29_src (t : S32.Idx) : ∃ y : S32.Idx, StableHlo.after hostOps3_4 V main_v29 t = V main_v13 y := ⟨_, rfl⟩

end Cert.Kernel.Tabs
-- ==== Proof.K.R0Body.lean ====
/-
  Region 0 (`smooth`): what one grid point computes.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.ValueKit
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel.R0

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The table and its word -/

/-- The table the body is handed: the lengths, whole. -/
abbrev tb : Memref sig .tc .smem S8 .i32 := Memref.whole main_arg1
abbrev htb : tb.IsWhole := Memref.isWhole_whole _
abbrev TbBuf (c : Dev nD) {S : Shape} {e : EltTy} (M : Memref sig .tc .smem S e) : Type := Buf (Elt F) (M.view.loc (c : Thread nD τ))
/-- The table held on core `c` at `f`. -/
abbrev tbPt (c : Dev nD) {S : Shape} {e : EltTy} (M : Memref sig .tc .smem S e) (f : TbBuf (F := F) c M) : sProp 𝕄 :=
  M.view.loc (c : Thread nD τ) ↦{fullShare} f
/-- The accumulator's buffer, whole. -/
abbrev scM : Memref sig .tc .vmem S16x4096 .bf16 := Memref.whole cc0_scratch0
abbrev hscM : scM.IsWhole := Memref.isWhole_whole _

/-- The word of the lengths the point reads: its batch's length. -/
abbrev word (pf : pre0.Contents (Elt F)) (i : grid0.Coords) : BitVec 32 := pf.atD 0 (k0_off1 i)

/-- What the body's scalar load reads is that word. -/
theorem readAt_word (c : Dev nD) (pf : pre0.Contents (Elt F)) (i : grid0.Coords) :
    tb.view.readAt (Elt F) (Rect.unit (s := S8) (k0_off1 i) S1.size (k0_off1_inb i)).toLoadRect (pf 0 : TbBuf (F := F) c tb)
      (Shape.Idx.first (numel1_S1.symm ▸ Nat.one_pos)) = word (F := F) pf i := by
  have h : ∀ a, k0_off1 i a + 1 ≤ (pre0.ref 0).ty.shape.size a := fun a => by
    have := k0_off1_inb i a; fin_cases a; exact this
  refine Eq.trans ?_ (dif_pos h).symm
  show pf 0 _ = pf 0 _
  congr 1

/-- The point is the first. -/
abbrev first (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1
/-- The number of valid rows from the tile's first row on, as the kernel computes it. -/
abbrev rem (i : grid0.Coords) (v : BitVec 32) : BitVec 32 := Scalar.subi v (Scalar.muli (BitVec.ofNat 32 (i 1).val) 512#32)
/-- Every row of the tile is valid. -/
abbrev full (i : grid0.Coords) (v : BitVec 32) : Prop := Scalar.cmpi .ne (Scalar.extui (Scalar.cmpi .sge (rem i v) 512#32)) 0#32 = 1#1
/-- Some rows of the tile are valid, not all. -/
abbrev part (i : grid0.Coords) (v : BitVec 32) : Prop :=
  Scalar.cmpi .ne (Scalar.extui (Scalar.andi (Scalar.cmpi .sgt (rem i v) 0#32) (Scalar.cmpi .slt (rem i v) 512#32))) 0#32 = 1#1

/-- The accumulator the point starts from. -/
def acc0 (i : grid0.Coords) (A : Vec F S16x4096 .bf16) : Vec F S16x4096 .bf16 := if first i then k0_pay1 else A
/-- The accumulator after a wholly valid tile. -/
def acc1 (i : grid0.Coords) (v : BitVec 32) (x0 : Vec F S1x512x4096 .bf16) (A : Vec F S16x4096 .bf16) : Vec F S16x4096 .bf16 := if full i v then k0_pay2 x0 A else A
/-- The accumulator after a partly valid tile. -/
def acc2 (i : grid0.Coords) (v : BitVec 32) (x0 : Vec F S1x512x4096 .bf16) (A : Vec F S16x4096 .bf16) : Vec F S16x4096 .bf16 := if part i v then k0_pay3 i v x0 A else A
/-- One point's step of the accumulator. -/
def step (i : grid0.Coords) (v : BitVec 32) (x0 : Vec F S1x512x4096 .bf16) (A : Vec F S16x4096 .bf16) : Vec F S16x4096 .bf16 :=
  acc2 i v x0 (acc1 i v x0 (acc0 i A))

abbrev r_0 : Rect S1x512x4096 := Rect.unit (s := S1x512x4096) ![0, 0, 0] S1x512x4096.size inb_S1x512x4096_S1x512x4096_0_0_0
abbrev r_1 : Rect S1x4096 := Rect.unit (s := S1x4096) ![0, 0] S1x4096.size inb_S1x4096_S1x4096_0_0
abbrev r_s : Rect S16x4096 := Rect.unit (s := S16x4096) ![0, 0] S16x4096.size inb_S16x4096_S16x4096_0_0

theorem off2 : (![0, 0] : Fin 2 → ℕ) = fun _ => 0 := by funext a; fin_cases a <;> rfl
theorem off3 : (![0, 0, 0] : Fin 3 → ℕ) = fun _ => 0 := by funext a; fin_cases a <;> rfl

theorem cover_s (p0 : Vec F S16x4096 .bf16) (y : S16x4096.Idx) :
    ∃ pc ∈ ([⟨r_s, p0⟩] : List (View.Piece (Elt F) S16x4096 .bf16)), y ∈ pc.1.set :=
  View.cover_of_tiled [⟨r_s, p0⟩] S16x4096.size (by rfl) y
theorem cover_1 (p0 : Vec F S1x4096 .f32) (y : S1x4096.Idx) :
    ∃ pc ∈ ([⟨r_1, p0⟩] : List (View.Piece (Elt F) S1x4096 .f32)), y ∈ pc.1.set :=
  View.cover_of_tiled [⟨r_1, p0⟩] S1x4096.size (by rfl) y
theorem canon_s (p : Vec F S16x4096 .bf16) : (View.canon [⟨r_s, p⟩] : Vec F S16x4096 .bf16) = p :=
  View.canon_unit_zero (S := S16x4096) off2 _ _
theorem canon_1 (p : Vec F S1x4096 .f32) : (View.canon [⟨r_1, p⟩] : Vec F S1x4096 .f32) = p :=
  View.canon_unit_zero (S := S1x4096) off2 _ _

/-! ## The body in four parts -/

/-- The first point's clearing of the accumulator. -/
def seg0 (i : grid0.Coords) (arg3 : Memref sig .tc .vmem S1x512x4096 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S16x4096 .bf16) (harg6 : arg6.IsWhole) (k : PUnit.{1} → Prog (TpuEff nD τ sig (Elt F) Λ₀ .tc) PUnit.{1}) :
    Prog (TpuEff nD τ sig (Elt F) Λ₀ .tc) PUnit.{1} := do
  if k0_h1 : first i then do
    let v23 : Vec F S16x4096 .bf16 ← Prog.lift (.load arg6 (Rect.unit (s := S16x4096) ![0, 0] S16x4096.size inb_S16x4096_S16x4096_0_0).toLoadRect (View.loadsAt_vmem h_S16x4096))
    Prog.lift (.store arg6 (Rect.unit (s := S16x4096) ![0, 0] S16x4096.size inb_S16x4096_S16x4096_0_0) (k0_pay1 (F := F)) Finset.univ (View.stores_vmem h_S16x4096 (harg6.storeExact_slice rfl _ packedbf16_S16x4096_S16x4096_0_0) (fun _ => rfl)) (.inl rfl))
    k ⟨⟩
  else do
    k ⟨⟩

/-- The wholly valid tile's maximum. -/
def seg1 (i : grid0.Coords) (v : BitVec 32) (arg3 : Memref sig .tc .vmem S1x512x4096 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S16x4096 .bf16) (harg6 : arg6.IsWhole) (k : PUnit.{1} → Prog (TpuEff nD τ sig (Elt F) Λ₀ .tc) PUnit.{1}) :
    Prog (TpuEff nD τ sig (Elt F) Λ₀ .tc) PUnit.{1} := do
  if full i v then do
    let v22 : Vec F S1x512x4096 .bf16 ← Prog.lift (.load arg3 (Rect.unit (s := S1x512x4096) ![0, 0, 0] S1x512x4096.size inb_S1x512x4096_S1x512x4096_0_0_0).toLoadRect (View.loadsAt_vmem h_S1x512x4096))
    let v27 : Vec F S16x4096 .bf16 ← Prog.lift (.load arg6 (Rect.unit (s := S16x4096) ![0, 0] S16x4096.size inb_S16x4096_S16x4096_0_0).toLoadRect (View.loadsAt_vmem h_S16x4096))
    let v29 : Vec F S16x4096 .bf16 ← Prog.lift (.load arg6 (Rect.unit (s := S16x4096) ![0, 0] S16x4096.size inb_S16x4096_S16x4096_0_0).toLoadRect (View.loadsAt_vmem h_S16x4096))
    Prog.lift (.store arg6 (Rect.unit (s := S16x4096) ![0, 0] S16x4096.size inb_S16x4096_S16x4096_0_0) (k0_pay2 v22 v27) Finset.univ (View.stores_vmem h_S16x4096 (harg6.storeExact_slice rfl _ packedbf16_S16x4096_S16x4096_0_0) (fun _ => rfl)) (.inl rfl))
    k ⟨⟩
  else do
    k ⟨⟩

/-- The partly valid tile's maximum. -/
def seg2 (i : grid0.Coords) (v : BitVec 32) (arg3 : Memref sig .tc .vmem S1x512x4096 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S16x4096 .bf16) (harg6 : arg6.IsWhole) (k : PUnit.{1} → Prog (TpuEff nD τ sig (Elt F) Λ₀ .tc) PUnit.{1}) :
    Prog (TpuEff nD τ sig (Elt F) Λ₀ .tc) PUnit.{1} := do
  if part i v then do
    let v25 : Vec F S1x512x4096 .bf16 ← Prog.lift (.load arg3 (Rect.unit (s := S1x512x4096) ![0, 0, 0] S1x512x4096.size inb_S1x512x4096_S1x512x4096_0_0_0).toLoadRect (View.loadsAt_vmem h_S1x512x4096))
    let v33 : Vec F S16x4096 .bf16 ← Prog.lift (.load arg6 (Rect.unit (s := S16x4096) ![0, 0] S16x4096.size inb_S16x4096_S16x4096_0_0).toLoadRect (View.loadsAt_vmem h_S16x4096))
    let v36 : Vec F S16x4096 .bf16 ← Prog.lift (.load arg6 (Rect.unit (s := S16x4096) ![0, 0] S16x4096.size inb_S16x4096_S16x4096_0_0).toLoadRect (View.loadsAt_vmem h_S16x4096))
    Prog.lift (.store arg6 (Rect.unit (s := S16x4096) ![0, 0] S16x4096.size inb_S16x4096_S16x4096_0_0) (k0_pay3 i v v25 v33) Finset.univ (View.stores_vmem h_S16x4096 (harg6.storeExact_slice rfl _ packedbf16_S16x4096_S16x4096_0_0) (fun _ => rfl)) (.inl rfl))
    k ⟨⟩
  else do
    k ⟨⟩

/-- The last point's scale. -/
def seg3 (i : grid0.Coords) (arg3 : Memref sig .tc .vmem S1x512x4096 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S16x4096 .bf16) (harg6 : arg6.IsWhole) (k : PUnit.{1} → Prog (TpuEff nD τ sig (Elt F) Λ₀ .tc) PUnit.{1}) :
    Prog (TpuEff nD τ sig (Elt F) Λ₀ .tc) PUnit.{1} := do
  if k0_h4 : k0_cond4 i = 1#1 then do
    let v22 : Vec F S16x4096 .bf16 ← Prog.lift (.load arg6 (Rect.unit (s := S16x4096) ![0, 0] S16x4096.size inb_S16x4096_S16x4096_0_0).toLoadRect (View.loadsAt_vmem h_S16x4096))
    let v29 : Vec F S1x4096 .f32 ← Prog.lift (.load arg4 (Rect.unit (s := S1x4096) ![0, 0] S1x4096.size inb_S1x4096_S1x4096_0_0).toLoadRect (View.loadsAt_vmem h_S1x4096))
    let v35 : Vec F S1x4096 .f32 ← Prog.lift (.load arg5 (Rect.unit (s := S1x4096) ![0, 0] S1x4096.size inb_S1x4096_S1x4096_0_0).toLoadRect (View.loadsAt_vmem h_S1x4096))
    Prog.lift (.store arg5 (Rect.unit (s := S1x4096) ![0, 0] S1x4096.size inb_S1x4096_S1x4096_0_0) (k0_pay4 v22 v29) Finset.univ (View.stores_vmem_bits_univ h_S1x4096 rfl) (.inl rfl))
    k ⟨⟩
  else do
    k ⟨⟩

/-- The body is its four parts, the length's word read after the first. -/
theorem skel_eq (i : grid0.Coords) (arg2 : Memref sig .tc .smem S8 .i32) (harg2 : arg2.IsWhole) (arg3 : Memref sig .tc .vmem S1x512x4096 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S16x4096 .bf16) (harg6 : arg6.IsWhole) :
    cc0_smooth_skel (F := F) i arg2 harg2 arg3 harg3 arg4 harg4 arg5 harg5 arg6 harg6 =
      seg0 i arg3 harg3 arg4 harg4 arg5 harg5 arg6 harg6 fun _ => smemLoad arg2 (Rect.unit (s := S8) (k0_off1 i) S1.size (k0_off1_inb i)) numel1_S1 rfl >>= fun v =>
        seg1 i v arg3 harg3 arg4 harg4 arg5 harg5 arg6 harg6 fun _ => seg2 i v arg3 harg3 arg4 harg4 arg5 harg5 arg6 harg6 fun _ => seg3 i arg3 harg3 arg4 harg4 arg5 harg5 arg6 harg6 fun _ => pure ⟨⟩ := by
  rfl

set_option maxHeartbeats 2000000 in
theorem sound_0 (c : Dev nD) (E : Set ℕ) (i : grid0.Coords) (arg3 : Memref sig .tc .vmem S1x512x4096 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S16x4096 .bf16) (harg6 : arg6.IsWhole) (A : Vec F S16x4096 .bf16) (k : PUnit.{1} → Prog (TpuEff nD τ sig (Elt F) Λ₀ .tc) PUnit.{1}) (K : PUnit.{1} → sProp 𝕄) :
    iprop(owns (c : Thread nD τ) arg6 fullShare A ∗ (owns (c : Thread nD τ) arg6 fullShare (acc0 i A) -∗ wp frame (wpE (defs₀ (F := F)) Variants.none c none) E (k ⟨⟩) K))
      ⊢ wp frame (wpE (defs₀ (F := F)) Variants.none c none) E (seg0 i arg3 harg3 arg4 harg4 arg5 harg5 arg6 harg6 k) K := by
  by_cases h : first i
  · rw [acc0, if_pos h, ← canon_s (F := F) k0_pay1]
    unfold seg0
    unfold owns
    iintro ⟨⟨%f0, %hf0, H0⟩, Hk⟩
    sl_exec (disch := sl_exact h)
    iapply Hk
    iexists _; isplitr
    swap; · iexact H0
    ipureintro
    exact View.read_writes_eq_canon _ _ _ (cover_s (k0_pay1 (F := F)))
  · unfold seg0
    rw [acc0, if_neg h, dif_neg h]
    iintro ⟨H0, Hk⟩
    iapply Hk
    iexact H0
set_option maxHeartbeats 2000000 in
theorem sound_1 (c : Dev nD) (E : Set ℕ) (i : grid0.Coords) (v : BitVec 32) (arg3 : Memref sig .tc .vmem S1x512x4096 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S16x4096 .bf16) (harg6 : arg6.IsWhole) (x0 : Vec F S1x512x4096 .bf16) (A : Vec F S16x4096 .bf16) (k : PUnit.{1} → Prog (TpuEff nD τ sig (Elt F) Λ₀ .tc) PUnit.{1}) (K : PUnit.{1} → sProp 𝕄) :
    iprop(owns (c : Thread nD τ) arg3 fullShare x0 ∗ owns (c : Thread nD τ) arg6 fullShare A ∗ (iprop(owns (c : Thread nD τ) arg3 fullShare x0 ∗ owns (c : Thread nD τ) arg6 fullShare (acc1 i v x0 A)) -∗ wp frame (wpE (defs₀ (F := F)) Variants.none c none) E (k ⟨⟩) K))
      ⊢ wp frame (wpE (defs₀ (F := F)) Variants.none c none) E (seg1 i v arg3 harg3 arg4 harg4 arg5 harg5 arg6 harg6 k) K := by
  unfold seg1
  by_cases h : full i v
  · have e : k0_pay2 x0 A = (View.canon [⟨r_s, k0_pay2 (View.ld x0 r_0) (View.ld A r_s)⟩] : Vec F S16x4096 .bf16) := by
      rw [View.ld_unit_zero (S := S1x512x4096) off3, View.ld_unit_zero (S := S16x4096) off2, canon_s]
    rw [acc1, if_pos h, e, if_pos h]
    unfold owns
    iintro ⟨⟨%f0, %hf0, H0⟩, ⟨%f1, %hf1, H1⟩, Hk⟩
    subst hf0 hf1
    sl_exec
    iapply Hk
    isplitl [H0]
    · iexists f0; isplitr; · ipureintro; rfl
      iexact H0
    iexists _; isplitr
    swap; · iexact H1
    ipureintro
    exact View.read_writes_eq_canon _ _ _ (cover_s _)
  · rw [acc1, if_neg h, if_neg h]
    iintro ⟨H0, H1, Hk⟩
    iapply Hk
    isplitl [H0]; · iexact H0
    iexact H1
set_option maxHeartbeats 2000000 in
theorem sound_2 (c : Dev nD) (E : Set ℕ) (i : grid0.Coords) (v : BitVec 32) (arg3 : Memref sig .tc .vmem S1x512x4096 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S16x4096 .bf16) (harg6 : arg6.IsWhole) (x0 : Vec F S1x512x4096 .bf16) (A : Vec F S16x4096 .bf16) (k : PUnit.{1} → Prog (TpuEff nD τ sig (Elt F) Λ₀ .tc) PUnit.{1}) (K : PUnit.{1} → sProp 𝕄) :
    iprop(owns (c : Thread nD τ) arg3 fullShare x0 ∗ owns (c : Thread nD τ) arg6 fullShare A ∗ (iprop(owns (c : Thread nD τ) arg3 fullShare x0 ∗ owns (c : Thread nD τ) arg6 fullShare (acc2 i v x0 A)) -∗ wp frame (wpE (defs₀ (F := F)) Variants.none c none) E (k ⟨⟩) K))
      ⊢ wp frame (wpE (defs₀ (F := F)) Variants.none c none) E (seg2 i v arg3 harg3 arg4 harg4 arg5 harg5 arg6 harg6 k) K := by
  unfold seg2
  by_cases h : part i v
  · have e : k0_pay3 i v x0 A = (View.canon [⟨r_s, k0_pay3 i v (View.ld x0 r_0) (View.ld A r_s)⟩] : Vec F S16x4096 .bf16) := by
      rw [View.ld_unit_zero (S := S1x512x4096) off3, View.ld_unit_zero (S := S16x4096) off2, canon_s]
    rw [acc2, if_pos h, e, if_pos h]
    unfold owns
    iintro ⟨⟨%f0, %hf0, H0⟩, ⟨%f1, %hf1, H1⟩, Hk⟩
    subst hf0 hf1
    sl_exec
    iapply Hk
    isplitl [H0]
    · iexists f0; isplitr; · ipureintro; rfl
      iexact H0
    iexists _; isplitr
    swap; · iexact H1
    ipureintro
    exact View.read_writes_eq_canon _ _ _ (cover_s _)
  · rw [acc2, if_neg h, if_neg h]
    iintro ⟨H0, H1, Hk⟩
    iapply Hk
    isplitl [H0]; · iexact H0
    iexact H1
/-- What the last point leaves in the output's buffer. -/
def outV (i : grid0.Coords) (A : Vec F S16x4096 .bf16) (x1 d : Vec F S1x4096 .f32) : Vec F S1x4096 .f32 := if k0_cond4 i = 1#1 then k0_pay4 A x1 else d

set_option maxHeartbeats 2000000 in
theorem sound_3 (c : Dev nD) (E : Set ℕ) (i : grid0.Coords) (arg3 : Memref sig .tc .vmem S1x512x4096 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S16x4096 .bf16) (harg6 : arg6.IsWhole) (x1 d : Vec F S1x4096 .f32) (A : Vec F S16x4096 .bf16) (k : PUnit.{1} → Prog (TpuEff nD τ sig (Elt F) Λ₀ .tc) PUnit.{1}) (K : PUnit.{1} → sProp 𝕄) :
    iprop(owns (c : Thread nD τ) arg4 fullShare x1 ∗ owns (c : Thread nD τ) arg5 fullShare d ∗ owns (c : Thread nD τ) arg6 fullShare A ∗ (iprop(owns (c : Thread nD τ) arg4 fullShare x1 ∗ owns (c : Thread nD τ) arg5 fullShare (outV i A x1 d) ∗ owns (c : Thread nD τ) arg6 fullShare A) -∗ wp frame (wpE (defs₀ (F := F)) Variants.none c none) E (k ⟨⟩) K))
      ⊢ wp frame (wpE (defs₀ (F := F)) Variants.none c none) E (seg3 i arg3 harg3 arg4 harg4 arg5 harg5 arg6 harg6 k) K := by
  unfold seg3
  by_cases h : k0_cond4 i = 1#1
  · have e : k0_pay4 A x1 = (View.canon [⟨r_1, k0_pay4 (View.ld A r_s) (View.ld x1 r_1)⟩] : Vec F S1x4096 .f32) := by
      rw [View.ld_unit_zero (S := S16x4096) off2, View.ld_unit_zero (S := S1x4096) off2, canon_1]
    rw [outV, if_pos h, e]
    unfold owns
    iintro ⟨⟨%f0, %hf0, H0⟩, ⟨%f1, -, H1⟩, ⟨%f2, %hf2, H2⟩, Hk⟩
    subst hf0 hf2
    sl_exec (disch := sl_exact h)
    iapply Hk
    isplitl [H0]
    · iexists f0; isplitr; · ipureintro; rfl
      iexact H0
    isplitl [H1]
    · iexists _; isplitr
      swap; · iexact H1
      ipureintro
      exact View.read_writes_eq_canon _ _ _ (cover_1 _)
    iexists f2; isplitr; · ipureintro; rfl
    iexact H2
  · rw [outV, if_neg h, dif_neg h]
    iintro ⟨H0, H1, H2, Hk⟩
    iapply Hk
    isplitl [H0]; · iexact H0
    isplitl [H1]; · iexact H1
    iexact H2

/-- The scalar load hands on the table's word. -/
theorem sound_word (c : Dev nD) (E : Set ℕ) (i : grid0.Coords) (xt : TbBuf (F := F) c tb) (k : Elt F .i32 → Prog (TpuEff nD τ sig (Elt F) Λ₀ .tc) PUnit.{1}) (K : PUnit.{1} → sProp 𝕄) :
    iprop(tbPt c tb xt ∗ (tbPt c tb xt -∗ wp frame (wpE (defs₀ (F := F)) Variants.none c none) E
        (k (tb.view.readAt (Elt F) (Rect.unit (s := S8) (k0_off1 i) S1.size (k0_off1_inb i)).toLoadRect xt (Shape.Idx.first (numel1_S1.symm ▸ Nat.one_pos)))) K))
      ⊢ wp frame (wpE (defs₀ (F := F)) Variants.none c none) E
          (smemLoad tb (Rect.unit (s := S8) (k0_off1 i) S1.size (k0_off1_inb i)) numel1_S1 rfl >>= k) K := by
  iintro ⟨HT, Hk⟩
  sl_exec
  iapply Hk
  iexact HT

attribute [local irreducible] seg0 seg1 seg2 seg3

set_option maxHeartbeats 2000000 in
/-- The body's triple: the inputs' buffers and the table are kept, the accumulator steps, the output is stored at the last point. -/
theorem sound_kernel (c : Dev nD) (E : Set ℕ) (i : grid0.Coords) (arg3 : Memref sig .tc .vmem S1x512x4096 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S16x4096 .bf16) (harg6 : arg6.IsWhole)
    (x0 : Vec F S1x512x4096 .bf16) (x1 d : Vec F S1x4096 .f32) (A : Vec F S16x4096 .bf16) (xt : TbBuf (F := F) c tb) (v : BitVec 32)
    (hv : tb.view.readAt (Elt F) (Rect.unit (s := S8) (k0_off1 i) S1.size (k0_off1_inb i)).toLoadRect xt (Shape.Idx.first (numel1_S1.symm ▸ Nat.one_pos)) = v)
    (K : PUnit.{1} → sProp 𝕄) :
    iprop(owns (c : Thread nD τ) arg3 fullShare x0 ∗ owns (c : Thread nD τ) arg4 fullShare x1 ∗ owns (c : Thread nD τ) arg5 fullShare d ∗ owns (c : Thread nD τ) arg6 fullShare A ∗ tbPt c tb xt
        ∗ (iprop(owns (c : Thread nD τ) arg3 fullShare x0 ∗ owns (c : Thread nD τ) arg4 fullShare x1 ∗ owns (c : Thread nD τ) arg5 fullShare (outV i (step i v x0 A) x1 d) ∗ owns (c : Thread nD τ) arg6 fullShare (step i v x0 A) ∗ tbPt c tb xt) -∗ K ⟨⟩))
      ⊢ wp frame (wpE (defs₀ (F := F)) Variants.none c none) E (cc0_smooth i tb htb arg3 harg3 arg4 harg4 arg5 harg5 arg6 harg6) K := by
  subst hv
  rw [cc0_smooth_eq_skeleton, skel_eq]
  iintro ⟨H0, H1, H2, H3, HT, Hk⟩
  iapply (sound_0 c E i arg3 harg3 arg4 harg4 arg5 harg5 arg6 harg6 A _ _)
  isplitl [H3]; · iexact H3
  iintro H3
  iapply (sound_word c E i xt _ _)
  isplitl [HT]; · iexact HT
  iintro HT
  iapply (sound_1 c E i _ arg3 harg3 arg4 harg4 arg5 harg5 arg6 harg6 x0 _ _ _)
  isplitl [H0]; · iexact H0
  isplitl [H3]; · iexact H3
  iintro ⟨H0, H3⟩
  iapply (sound_2 c E i _ arg3 harg3 arg4 harg4 arg5 harg5 arg6 harg6 x0 _ _ _)
  isplitl [H0]; · iexact H0
  isplitl [H3]; · iexact H3
  iintro ⟨H0, H3⟩
  iapply (sound_3 c E i arg3 harg3 arg4 harg4 arg5 harg5 arg6 harg6 x1 d _ _ _)
  isplitl [H1]; · iexact H1
  isplitl [H2]; · iexact H2
  isplitl [H3]; · iexact H3
  iintro ⟨H1, H2, H3⟩
  sl_step
  iapply Hk
  isplitl [H0]; · iexact H0
  isplitl [H1]; · iexact H1
  isplitl [H2]; · iexact H2
  isplitl [H3]; · iexact H3
  iexact HT

/-- The body's triple with what it leaves named. -/
theorem sound_kernel_at (c : Dev nD) (E : Set ℕ) (i : grid0.Coords) (arg3 : Memref sig .tc .vmem S1x512x4096 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S16x4096 .bf16) (harg6 : arg6.IsWhole)
    (x0 : Vec F S1x512x4096 .bf16) (x1 d : Vec F S1x4096 .f32) (A : Vec F S16x4096 .bf16) (xt : TbBuf (F := F) c tb) (v : BitVec 32)
    (hv : tb.view.readAt (Elt F) (Rect.unit (s := S8) (k0_off1 i) S1.size (k0_off1_inb i)).toLoadRect xt (Shape.Idx.first (numel1_S1.symm ▸ Nat.one_pos)) = v)
    (B : Vec F S16x4096 .bf16) (hB : step i v x0 A = B) (o : Vec F S1x4096 .f32) (ho : outV i B x1 d = o) (K : PUnit.{1} → sProp 𝕄) :
    iprop(owns (c : Thread nD τ) arg3 fullShare x0 ∗ owns (c : Thread nD τ) arg4 fullShare x1 ∗ owns (c : Thread nD τ) arg5 fullShare d ∗ owns (c : Thread nD τ) arg6 fullShare A ∗ tbPt c tb xt
        ∗ (iprop(owns (c : Thread nD τ) arg3 fullShare x0 ∗ owns (c : Thread nD τ) arg4 fullShare x1 ∗ owns (c : Thread nD τ) arg5 fullShare o ∗ owns (c : Thread nD τ) arg6 fullShare B ∗ tbPt c tb xt) -∗ K ⟨⟩))
      ⊢ wp frame (wpE (defs₀ (F := F)) Variants.none c none) E (cc0_smooth i tb htb arg3 harg3 arg4 harg4 arg5 harg5 arg6 harg6) K := by
  subst hB ho
  exact sound_kernel c E i arg3 harg3 arg4 harg4 arg5 harg5 arg6 harg6 x0 x1 d A xt v hv K

end Cert.Kernel.R0

end
-- ==== Proof.K.R0.lean ====
/-
  Region 0 (`smooth`): the region's proof data from any contents of the buffers.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.ValueKit
public import proofs.«01_k».proof.Proof.K.R0Body
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel.R0

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which points do what -/

theorem extBit (b : BitVec 1) : Scalar.cmpi .ne (Scalar.extui b : BitVec 32) 0#32 = b := by revert b; decide

theorem coords_0 (t : Fin grid0.N) : (grid0.coords t 0).val = t.val / 4 % 8 := Pipeline.Grid.coords_val t 0 (by decide) rfl
theorem coords_1 (t : Fin grid0.N) : (grid0.coords t 1).val = t.val % 4 := by
  have e : (grid0.coords t 1).val = t.val / 1 % 4 := Pipeline.Grid.coords_val t 1 (by decide) rfl
  rw [e, Nat.div_one]

/-- The first point is point `0`. -/
theorem first_iff (t : Fin grid0.N) : first (grid0.coords t) ↔ t.val = 0 := by
  have ht : t.val < 32 := Nat.lt_of_lt_of_eq t.isLt N_0
  unfold first
  rw [coords_0, coords_1]
  word_cmp

/-- The last point is point `31`. -/
theorem last_iff (t : Fin grid0.N) : k0_cond4 (grid0.coords t) = 1#1 ↔ t.val = 31 := by
  have ht : t.val < 32 := Nat.lt_of_lt_of_eq t.isLt N_0
  show Scalar.cmpi .ne (Scalar.extui (Scalar.andi (Scalar.cmpi .eq (BitVec.ofNat 32 (grid0.coords t 0).val) 7#32) (Scalar.cmpi .eq (BitVec.ofNat 32 (grid0.coords t 1).val) 3#32))) 0#32 = 1#1 ↔ _
  rw [coords_0, coords_1]
  word_cmp

/-! ## The region's proof data -/

variable (a : (pcfg0 (F := F)).Adm) (V : Dev nD → Valuation τ sig (Elt F))

/-- Window `w`'s block at point `t`, read off its array as the region finds it. -/
def iblk (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (V c (Pipeline.arrRef spec0 w))

theorem before_0_of {c : Dev nD} (dat : Dat τ (Elt F) Unit ℕ (UR sig nD τ) ℕ (cfg0 a) c) (hA : dat.A 0 = V c (Pipeline.arrRef spec0 0))
    (hafter : ∀ t, dat.after 0 t = iblk a V c 0 t) (t : Fin (cfg0 a).N) (d) : dat.before 0 t d = iblk a V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ (cfg0 a) c) (hA : dat.A 1 = V c (Pipeline.arrRef spec0 1))
    (hafter : ∀ t, dat.after 1 t = iblk a V c 1 t) (t : Fin (cfg0 a).N) (d) : dat.before 1 t d = iblk a V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The tables held whole, as one points-to. -/
theorem tables_eq (c : Dev nD) : (Pipeline.prefHeld pre0 c (fun _ => fullShare) a.1 : sProp 𝕄) = tbPt c tb (a.1 0) := by
  unfold Pipeline.prefHeld
  rw [show (Finset.univ : Finset (Fin 1)) = {(0 : Fin 1)} from by decide, bigSep_singleton]
  rfl

/-- One point's step of the accumulator. -/
def stepAt (c : Dev nD) (t : Fin (cfg0 a).N) (A : Vec F S16x4096 .bf16) : Vec F S16x4096 .bf16 :=
  step (grid0.coords t) (word a.1 (grid0.coords t)) (iblk a V c 0 t) A

/-- The accumulator before point `n`. -/
def accAt (c : Dev nD) : ℕ → Vec F S16x4096 .bf16
  | 0 => k0_pay1
  | n + 1 => if h : n < (cfg0 a).N then stepAt a V c ⟨n, h⟩ (accAt c n) else accAt c n

theorem accAt_succ (c : Dev nD) (t : Fin (cfg0 a).N) : accAt a V c (t.val + 1) = stepAt a V c t (accAt a V c t.val) :=
  dif_pos t.isLt

/-- The first point clears what it finds. -/
theorem stepAt_first (c : Dev nD) (t : Fin (cfg0 a).N) (ht : t.val = 0) (A B : Vec F S16x4096 .bf16) : stepAt a V c t A = stepAt a V c t B := by
  unfold stepAt step acc0
  rw [if_pos ((first_iff t).mpr ht), if_pos ((first_iff t).mpr ht)]

/-- What the last point stores. -/
def sblk (c : Dev nD) (t : Fin (cfg0 a).N) : Vec F S1x4096 .f32 := k0_pay4 (accAt a V c (t.val + 1)) (iblk a V c 1 t)

/-- The accumulator's buffer before point `n`. -/
def scr (c : Dev nD) : ℕ → sProp 𝕄
  | 0 => iprop(∃ d, owns (c : Thread nD τ) scM fullShare d)
  | n + 1 => owns (c : Thread nD τ) scM fullShare (accAt a V c (n + 1))

/-- What the region's other buffers and the generator are. -/
def rest (c : Dev nD) : sProp 𝕄 := iprop(Pipeline.scopedRestBut spec0 c [cc0_scratch0] ∗ (∃ r, prngReg c r))

/-- The region's proof data: arrays as found, inputs kept, the output at what the last point stores. -/
def dat (c : Dev nD) : Dat τ (Elt F) Unit ℕ (UR sig nD τ) ℕ (cfg0 a) c where
  A w := V c (Pipeline.arrRef spec0 w)
  after w t := match w with
    | ⟨0, _⟩ => iblk a V c 0 t
    | ⟨1, _⟩ => iblk a V c 1 t
    | ⟨2, _⟩ => sblk a V c t
  Φ t := iprop(scr a V c t.val ∗ rest c ∗ tbPt c tb (a.1 0))
  q _ := fullShare
  owed _ := 0

theorem A_eq (c : Dev nD) (w : Fin (cfg0 a).W) : (dat a V c).A w = V c (Pipeline.arrRef spec0 w) := by
  dsimp only [dat]
theorem after_0 (c : Dev nD) (t : Fin (cfg0 a).N) : (dat a V c).after 0 t = iblk a V c 0 t := by dsimp only [dat]; rfl
theorem after_1 (c : Dev nD) (t : Fin (cfg0 a).N) : (dat a V c).after 1 t = iblk a V c 1 t := by dsimp only [dat]; rfl
theorem after_2 (c : Dev nD) (t : Fin (cfg0 a).N) : (dat a V c).after 2 t = sblk a V c t := by dsimp only [dat]; rfl
theorem before_0 (c : Dev nD) (t : Fin (cfg0 a).N) (d) : (dat a V c).before 0 t d = iblk a V c 0 t :=
  before_0_of a V (dat a V c) (A_eq a V c 0) (after_0 a V c) t d
theorem before_1 (c : Dev nD) (t : Fin (cfg0 a).N) (d) : (dat a V c).before 1 t d = iblk a V c 1 t :=
  before_1_of a V (dat a V c) (A_eq a V c 1) (after_1 a V c) t d
theorem Phi_eq (c : Dev nD) (t : Fin ((cfg0 a).N + 1)) : (dat a V c).Φ t = iprop(scr a V c t.val ∗ rest c ∗ tbPt c tb (a.1 0)) := by
  dsimp only [dat]

abbrev st_0 (t : Fin (cfg0 a).N) : Memref sig .tc .vmem S1x512x4096 .bf16 := ((cfg0 a).win 0).stage ((cfg0 a).slots t 0)
abbrev st_1 (t : Fin (cfg0 a).N) : Memref sig .tc .vmem S1x4096 .f32 := ((cfg0 a).win 1).stage ((cfg0 a).slots t 1)
abbrev st_2 (t : Fin (cfg0 a).N) : Memref sig .tc .vmem S1x4096 .f32 := ((cfg0 a).win 2).stage ((cfg0 a).slots t 2)

/-- The body at point `t`. -/
abbrev bodyAt (t : Fin (cfg0 a).N) : Prog (TpuEff nD τ sig (Elt F) Λ₀ .tc) PUnit :=
  cc0_smooth (grid0.coords t) tb htb
    (st_0 a t) (hstage0_0 (((cfg0 a).slots t 0).cast nbuf0_0)) (st_1 a t) (hstage0_1 (((cfg0 a).slots t 1).cast nbuf0_1))
    (st_2 a t) (hstage0_2 (((cfg0 a).slots t 2).cast nbuf0_2)) scM hscM

theorem defs₀_row (t : Fin (cfg0 a).N) :
    defs₀ (F := F) .tc (cfg0 a).body ((cfg0 a).bodyArgs t ((cfg0 a).slots t)) = bodyAt a t := by
  unfold defs₀; rw [Defs.onTc_tc]; rfl

/-- What the body is called with at point `t`, -/
def bodyPre (c : Dev nD) (t : Fin (cfg0 a).N) : sProp 𝕄 :=
  iprop((dat a V c).Φ t.castSucc ∗ (dat a V c).owesAt () t.castSucc
    ∗ (∃ d, owns (c : Thread nD τ) (st_0 a t) fullShare ((dat a V c).before 0 t d))
    ∗ (∃ d, owns (c : Thread nD τ) (st_1 a t) fullShare ((dat a V c).before 1 t d))
    ∗ (∃ d, owns (c : Thread nD τ) (st_2 a t) fullShare ((dat a V c).before 2 t d)))
/-- and what it returns. -/
def bodyPost (c : Dev nD) (t : Fin (cfg0 a).N) : sProp 𝕄 :=
  iprop((dat a V c).Φ t.succ ∗ (dat a V c).owesAt () t.succ
    ∗ (dat a V c).leavesExact 0 t ∗ (dat a V c).leavesExact 1 t ∗ (dat a V c).leavesExact 2 t)

theorem leaves_0 (c : Dev nD) (t : Fin (cfg0 a).N) :
    (dat a V c).leavesExact 0 t = owns (c : Thread nD τ) (st_0 a t) fullShare ((dat a V c).after 0 t) := by
  unfold Dat.leavesExact
  rw [show (cfg0 a).idle 0 ((cfg0 a).grid.coords t) = false from rfl]
  rfl
theorem leaves_1 (c : Dev nD) (t : Fin (cfg0 a).N) :
    (dat a V c).leavesExact 1 t = owns (c : Thread nD τ) (st_1 a t) fullShare ((dat a V c).after 1 t) := by
  unfold Dat.leavesExact
  rw [show (cfg0 a).idle 1 ((cfg0 a).grid.coords t) = false from rfl]
  rfl
/-- At the last point the output's buffer holds what that point stores, -/
theorem leaves_2_last (c : Dev nD) (t : Fin (cfg0 a).N) (h : k0_cond4 (grid0.coords t) = 1#1) :
    (dat a V c).leavesExact 2 t = owns (c : Thread nD τ) (st_2 a t) fullShare ((dat a V c).after 2 t) := by
  unfold Dat.leavesExact
  rw [show (cfg0 a).idle 2 ((cfg0 a).grid.coords t) = false from by
    show (!(k0_cond4 (grid0.coords t) == 1#1)) = false
    rw [h]; rfl]
  rfl
/-- at the others what it held. -/
theorem leaves_2_idle (c : Dev nD) (t : Fin (cfg0 a).N) (h : ¬ k0_cond4 (grid0.coords t) = 1#1) :
    (dat a V c).leavesExact 2 t = iprop(∃ d, owns (c : Thread nD τ) (st_2 a t) fullShare ((dat a V c).before 2 t d)) := by
  refine (dat a V c).leavesExact_idle 2 t ?_ ?_
  · show (!(k0_cond4 (grid0.coords t) == 1#1)) = true
    simp [h]
  · have ht : t.val ≠ 31 := fun e => h ((last_iff t).mpr e)
    by_contra hf
    rw [Bool.not_eq_false] at hf
    have := (Pipeline.Window.flush_const ((cfg0 a).win 2) rfl (fun _ _ => rfl) (n := 32) (m := 31) N_0 (by decide) t).mp hf
    have h32 : t.val < 32 := Nat.lt_of_lt_of_eq t.isLt N_0
    omega

theorem sound_body (c : Dev nD) (t : Fin (cfg0 a).N) :
    bodyPre a V c t ⊢ wp frame (wpE (defs₀ (F := F)) Variants.none c none) Set.univ (bodyAt a t) (fun _ => bodyPost a V c t) := by
  unfold bodyPre bodyPost bodyAt
  simp only [before_0, before_1]
  rw [leaves_0, leaves_1, show (dat a V c).owesAt () t.succ = (dat a V c).owesAt () t.castSucc from rfl, after_0, after_1]
  rw [Phi_eq, Phi_eq, show t.succ.val = t.val + 1 from rfl, show t.castSucc.val = t.val from rfl,
    show scr a V c (t.val + 1) = owns (c : Thread nD τ) scM fullShare (accAt a V c (t.val + 1)) from rfl]
  have hscr : scr a V c t.val ⊢ (iprop(∃ d, ⌜stepAt a V c t d = accAt a V c (t.val + 1)⌝ ∗ owns (c : Thread nD τ) scM fullShare d) : sProp 𝕄) := by
    rw [accAt_succ]
    rcases hn : t.val with _ | n
    · unfold scr
      iintro ⟨%d, H⟩
      iexists d
      isplitr
      · ipureintro; exact stepAt_first a V c t hn _ _
      iexact H
    · unfold scr
      iintro H
      iexists _
      isplitr
      swap; · iexact H
      ipureintro; rfl
  by_cases h : k0_cond4 (grid0.coords t) = 1#1
  · rw [leaves_2_last a V c t h, after_2]
    iintro ⟨⟨HS, Hr, HT⟩, Ho, ⟨%d0, H0⟩, ⟨%d1, H1⟩, ⟨%d2, H2⟩⟩
    ihave HS := hscr $$ HS
    icases HS with ⟨%A, %hA, HS⟩
    iapply (sound_kernel_at c Set.univ (grid0.coords t) _ _ _ _ _ _ _ _ (iblk a V c 0 t) (iblk a V c 1 t) _ A (a.1 0) _ (readAt_word c a.1 (grid0.coords t)) _ hA _ (if_pos h) _)
    isplitl [H0]; · iexact H0
    isplitl [H1]; · iexact H1
    isplitl [H2]; · iexact H2
    isplitl [HS]; · iexact HS
    isplitl [HT]; · iexact HT
    iintro ⟨H0, H1, H2, HS, HT⟩
    isplitl [HS Hr HT]
    · isplitl [HS]; · iexact HS
      isplitl [Hr]; · iexact Hr
      iexact HT
    isplitl [Ho]; · iexact Ho
    isplitl [H0]; · iexact H0
    isplitl [H1]; · iexact H1
    iexact H2
  · rw [leaves_2_idle a V c t h]
    iintro ⟨⟨HS, Hr, HT⟩, Ho, ⟨%d0, H0⟩, ⟨%d1, H1⟩, ⟨%d2, H2⟩⟩
    ihave HS := hscr $$ HS
    icases HS with ⟨%A, %hA, HS⟩
    iapply (sound_kernel_at c Set.univ (grid0.coords t) _ _ _ _ _ _ _ _ (iblk a V c 0 t) (iblk a V c 1 t) _ A (a.1 0) _ (readAt_word c a.1 (grid0.coords t)) _ hA _ (if_neg h) _)
    isplitl [H0]; · iexact H0
    isplitl [H1]; · iexact H1
    isplitl [H2]; · iexact H2
    isplitl [HS]; · iexact HS
    isplitl [HT]; · iexact HT
    iintro ⟨H0, H1, H2, HS, HT⟩
    isplitl [HS Hr HT]
    · isplitl [HS]; · iexact HS
      isplitl [Hr]; · iexact Hr
      iexact HT
    isplitl [Ho]; · iexact Ho
    isplitl [H0]; · iexact H0
    isplitl [H1]; · iexact H1
    iexists _; iexact H2

/-- The body obligation at every point. -/
theorem body_obligation (c : Dev nD) : BodyObligation (dat (F := F) a V c) (defs₀ (F := F)) Variants.none () Set.univ := fun t => by
  rw [bigSep_W0, bigSep_W0, defs₀_row]
  exact triple_restated (sound_body a V c t) rfl .rfl fun _ => .rfl

/-- What the launch hands the region is the invariant before the first point. -/
theorem hin (c : Dev nD) : iprop((Pipeline.scopedRest spec0 c ∗ ∃ r, prngReg c r) ∗ Pipeline.prefHeld pre0 c (fun _ => fullShare) a.1) ⊢ (dat a V c).Φ 0 := by
  rw [Phi_eq, tables_eq, scopedRest0_split]
  show _ ⊢ iprop((∃ d, owns (c : Thread nD τ) scM fullShare d) ∗ rest c ∗ tbPt c tb (a.1 0))
  unfold rest
  simp only [scM, owns_whole]
  iintro ⟨⟨⟨HS, Hb⟩, Hg⟩, HT⟩
  isplitl [HS]; · iexact HS
  isplitl [Hb Hg]
  · isplitl [Hb]; · iexact Hb
    iexact Hg
  iexact HT

/-- After the last point the invariant gives it back. -/
theorem hout (c : Dev nD) : (dat a V c).Φ (Fin.last (cfg0 a).N) ⊢ iprop((Pipeline.scopedRest spec0 c ∗ ∃ r, prngReg c r) ∗ Pipeline.prefHeld pre0 c (fun _ => fullShare) a.1) := by
  rw [Phi_eq, tables_eq, scopedRest0_split, show (Fin.last (cfg0 a).N).val = 31 + 1 from N_0]
  unfold scr rest
  simp only [scM, owns_whole]
  iintro ⟨HS, ⟨Hb, Hg⟩, HT⟩
  isplitr [HT]
  swap; · iexact HT
  isplitr [Hg]
  swap; · iexact Hg
  isplitl [HS]; · iexists _; iexact HS
  iexact Hb

end Cert.Kernel.R0

end
-- ==== Proof.K.R1Body.lean ====
/-
  Region 1 (`quant_x`): what one grid point computes.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.ValueKit
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel.R1

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The table and its word -/

/-- The table the body is handed: the lengths, whole. -/
abbrev tb : Memref sig .tc .smem S8 .i32 := Memref.whole main_arg1
abbrev htb : tb.IsWhole := Memref.isWhole_whole _
abbrev TbBuf (c : Dev nD) {S : Shape} {e : EltTy} (M : Memref sig .tc .smem S e) : Type := Buf (Elt F) (M.view.loc (c : Thread nD τ))
/-- The table held on core `c` at `f`. -/
abbrev tbPt (c : Dev nD) {S : Shape} {e : EltTy} (M : Memref sig .tc .smem S e) (f : TbBuf (F := F) c M) : sProp 𝕄 :=
  M.view.loc (c : Thread nD τ) ↦{fullShare} f

/-- The word of the lengths the point reads: its batch's length. -/
abbrev word (pf : pre1.Contents (Elt F)) (i : grid1.Coords) : BitVec 32 := pf.atD 0 (k1_off1 i)

/-- What the body's scalar load reads is that word. -/
theorem readAt_word (c : Dev nD) (pf : pre1.Contents (Elt F)) (i : grid1.Coords) :
    tb.view.readAt (Elt F) (Rect.unit (s := S8) (k1_off1 i) S1.size (k1_off1_inb i)).toLoadRect (pf 0 : TbBuf (F := F) c tb)
      (Shape.Idx.first (numel1_S1.symm ▸ Nat.one_pos)) = word (F := F) pf i := by
  have h : ∀ a, k1_off1 i a + 1 ≤ (pre1.ref 0).ty.shape.size a := fun a => by
    have := k1_off1_inb i a; fin_cases a; exact this
  refine Eq.trans ?_ (dif_pos h).symm
  show pf 0 _ = pf 0 _
  congr 1

theorem extBit (b : BitVec 1) : Scalar.cmpi .ne (Scalar.extui b : BitVec 32) 0#32 = b := by revert b; decide

theorem cond1_iff (i : grid1.Coords) (v : BitVec 32) :
    k1_cond1 i v = 1#1 ↔ (Scalar.subi v (Scalar.muli (BitVec.ofNat 32 (i 1).val) 256#32)).toInt ≤ 0 := by
  show Scalar.cmpi .ne (Scalar.extui (Scalar.cmpi .sle (Scalar.subi v (Scalar.muli (BitVec.ofNat 32 (i 1).val) 256#32)) 0#32)) 0#32 = 1#1 ↔ _
  rw [extBit]
  show BitVec.ofBool (BitVec.sle _ _) = 1#1 ↔ _
  rw [BitVec.sle]
  by_cases h : (Scalar.subi v (Scalar.muli (BitVec.ofNat 32 (i 1).val) 256#32)).toInt ≤ 0 <;> simp [h]
theorem cond2_iff (i : grid1.Coords) (v : BitVec 32) :
    k1_cond2 i v = 1#1 ↔ ¬ (Scalar.subi v (Scalar.muli (BitVec.ofNat 32 (i 1).val) 256#32)).toInt ≤ 0 := by
  show Scalar.cmpi .ne (Scalar.extui (Scalar.cmpi .sgt (Scalar.subi v (Scalar.muli (BitVec.ofNat 32 (i 1).val) 256#32)) 0#32)) 0#32 = 1#1 ↔ _
  rw [extBit]
  show BitVec.ofBool (BitVec.slt _ _) = 1#1 ↔ _
  rw [BitVec.slt, not_le]
  by_cases h : 0 < (Scalar.subi v (Scalar.muli (BitVec.ofNat 32 (i 1).val) 256#32)).toInt <;> simp [h]
/-- Either the tile has no valid row or it has one. -/
theorem cond2_of (i : grid1.Coords) (v : BitVec 32) (h : ¬ k1_cond1 i v = 1#1) : k1_cond2 i v = 1#1 := by
  rw [cond1_iff] at h; rwa [cond2_iff]
theorem not_cond2_of (i : grid1.Coords) (v : BitVec 32) (h : k1_cond1 i v = 1#1) : ¬ k1_cond2 i v = 1#1 := by
  rw [cond1_iff] at h; rw [cond2_iff]; exact not_not.mpr h

/-- The number of valid rows from the tile's first row on, as the kernel computes it. -/
abbrev rem (i : grid1.Coords) (v : BitVec 32) : BitVec 32 := Scalar.subi v (Scalar.muli (BitVec.ofNat 32 (i 1).val) 256#32)
/-- What the body leaves in the codes' buffer. -/
def outC (i : grid1.Coords) (v : BitVec 32) (x0 : Vec F S1x256x4096 .bf16) (x1 : Vec F S1x4096 .f32) : Vec F S1x256x4096 .i8 :=
  if k1_cond1 i v = 1#1 then k1_pay1 else k1_pay6 (rem i v) x0 x1
/-- What the body leaves in the scales' buffer. -/
def outS (i : grid1.Coords) (v : BitVec 32) (x0 : Vec F S1x256x4096 .bf16) (x1 : Vec F S1x4096 .f32) : Vec F S1x256x1 .f32 :=
  if k1_cond1 i v = 1#1 then k1_pay2 else k1_pay7 (rem i v) x0 x1

abbrev r_0 : Rect S1x256x4096 := Rect.unit (s := S1x256x4096) ![0, 0, 0] S1x256x4096.size inb_S1x256x4096_S1x256x4096_0_0_0
abbrev r_1 : Rect S1x4096 := Rect.unit (s := S1x4096) ![0, 0] S1x4096.size inb_S1x4096_S1x4096_0_0
abbrev r_2 : Rect S1x256x1 := Rect.unit (s := S1x256x1) ![0, 0, 0] S1x256x1.size inb_S1x256x1_S1x256x1_0_0_0

theorem cover_2 (p0 : Vec F S1x256x4096 .i8) (y : S1x256x4096.Idx) :
    ∃ pc ∈ ([⟨r_0, p0⟩] : List (View.Piece (Elt F) S1x256x4096 .i8)), y ∈ pc.1.set :=
  View.cover_of_tiled [⟨r_0, p0⟩] S1x256x4096.size (by rfl) y
theorem cover_3 (p0 : Vec F S1x256x1 .f32) (y : S1x256x1.Idx) :
    ∃ pc ∈ ([⟨r_2, p0⟩] : List (View.Piece (Elt F) S1x256x1 .f32)), y ∈ pc.1.set :=
  View.cover_of_tiled [⟨r_2, p0⟩] S1x256x1.size (by rfl) y

theorem off2 : (![0, 0] : Fin 2 → ℕ) = fun _ => 0 := by funext a; fin_cases a <;> rfl
theorem off3 : (![0, 0, 0] : Fin 3 → ℕ) = fun _ => 0 := by funext a; fin_cases a <;> rfl

theorem canon_2a (p : Vec F S1x256x4096 .i8) : (View.canon [⟨r_0, p⟩] : Vec F S1x256x4096 .i8) = p :=
  View.canon_unit_zero (S := S1x256x4096) off3 _ _
theorem canon_3a (p : Vec F S1x256x1 .f32) : (View.canon [⟨r_2, p⟩] : Vec F S1x256x1 .f32) = p :=
  View.canon_unit_zero (S := S1x256x1) off3 _ _

set_option maxHeartbeats 2000000 in
/-- The body's triple: the inputs' buffers and the table are kept and the outputs' hold what the word decides. -/
theorem sound_kernel (c : Dev nD) (E : Set ℕ) (i : grid1.Coords) (arg3 : Memref sig .tc .vmem S1x256x4096 .bf16) (harg3 : arg3.IsWhole) (arg4 : Memref sig .tc .vmem S1x4096 .f32) (harg4 : arg4.IsWhole) (arg5 : Memref sig .tc .vmem S1x256x4096 .i8) (harg5 : arg5.IsWhole) (arg6 : Memref sig .tc .vmem S1x256x1 .f32) (harg6 : arg6.IsWhole)
    (x0 : Vec F S1x256x4096 .bf16) (x1 : Vec F S1x4096 .f32) (xt : TbBuf (F := F) c tb) (v : BitVec 32)
    (hv : tb.view.readAt (Elt F) (Rect.unit (s := S8) (k1_off1 i) S1.size (k1_off1_inb i)).toLoadRect xt (Shape.Idx.first (numel1_S1.symm ▸ Nat.one_pos)) = v)
    (K : PUnit → sProp 𝕄) :
    iprop(owns (c : Thread nD τ) arg3 fullShare x0 ∗ owns (c : Thread nD τ) arg4 fullShare x1 ∗ (∃ d, owns (c : Thread nD τ) arg5 fullShare d) ∗ (∃ d, owns (c : Thread nD τ) arg6 fullShare d)
        ∗ tbPt c tb xt
        ∗ (iprop(owns (c : Thread nD τ) arg3 fullShare x0 ∗ owns (c : Thread nD τ) arg4 fullShare x1 ∗ owns (c : Thread nD τ) arg5 fullShare (outC i v x0 x1) ∗ owns (c : Thread nD τ) arg6 fullShare (outS i v x0 x1) ∗ tbPt c tb xt) -∗ K ⟨⟩))
      ⊢ wp frame (wpE (defs₀ (F := F)) Variants.none c none) E (cc1_quant_x i tb htb arg3 harg3 arg4 harg4 arg5 harg5 arg6 harg6) K := by
  by_cases hc : k1_cond1 i v = 1#1
  · have hc2 := not_cond2_of i v hc
    rw [outC, outS, if_pos hc, if_pos hc, ← canon_2a (F := F) k1_pay1, ← canon_3a (F := F) k1_pay2]
    subst hv
    simp only [cc1_quant_x_eq_skeleton]; unfold cc1_quant_x_skel
    unfold owns
    iintro ⟨⟨%f0, %hf0, H0⟩, ⟨%f1, %hf1, H1⟩, ⟨%d2, %f2, -, H2⟩, ⟨%d3, %f3, -, H3⟩, HT, Hk⟩
    subst hf0 hf1
    sl_exec (disch := first | sl_exact hc | sl_exact hc2)
    sl_step
    iapply Hk
    isplitl [H0]
    · iexists f0; isplitr; · ipureintro; rfl
      iexact H0
    isplitl [H1]
    · iexists f1; isplitr; · ipureintro; rfl
      iexact H1
    isplitl [H2]
    · iexists _; isplitr
      swap; · iexact H2
      ipureintro
      exact View.read_writes_eq_canon _ _ _ (cover_2 _)
    isplitl [H3]
    · iexists _; isplitr
      swap; · iexact H3
      ipureintro
      exact View.read_writes_eq_canon _ _ _ (cover_3 _)
    iexact HT
  · have hc2 := cond2_of i v hc
    have e6 : k1_pay6 (rem i v) x0 x1 = (View.canon [⟨r_0, k1_pay6 (rem i v) (View.ld x0 r_0) (View.ld x1 r_1)⟩] : Vec F S1x256x4096 .i8) := by
      rw [View.ld_unit_zero (S := S1x256x4096) off3, View.ld_unit_zero (S := S1x4096) off2, canon_2a]
    have e7 : k1_pay7 (rem i v) x0 x1 = (View.canon [⟨r_2, k1_pay7 (rem i v) (View.ld x0 r_0) (View.ld x1 r_1)⟩] : Vec F S1x256x1 .f32) := by
      rw [View.ld_unit_zero (S := S1x256x4096) off3, View.ld_unit_zero (S := S1x4096) off2, canon_3a]
    rw [outC, outS, if_neg hc, if_neg hc, e6, e7]
    subst hv
    simp only [cc1_quant_x_eq_skeleton]; unfold cc1_quant_x_skel
    simp only [k1_part1_eq_skeleton]; unfold k1_part1_skel
    unfold owns
    iintro ⟨⟨%f0, %hf0, H0⟩, ⟨%f1, %hf1, H1⟩, ⟨%d2, %f2, -, H2⟩, ⟨%d3, %f3, -, H3⟩, HT, Hk⟩
    subst hf0 hf1
    sl_exec (disch := first | sl_exact hc | sl_exact hc2)
    sl_step
    iapply Hk
    isplitl [H0]
    · iexists f0; isplitr; · ipureintro; rfl
      iexact H0
    isplitl [H1]
    · iexists f1; isplitr; · ipureintro; rfl
      iexact H1
    isplitl [H2]
    · iexists _; isplitr
      swap; · iexact H2
      ipureintro
      exact View.read_writes_eq_canon _ _ _ (cover_2 _)
    isplitl [H3]
    · iexists _; isplitr
      swap; · iexact H3
      ipureintro
      exact View.read_writes_eq_canon _ _ _ (cover_3 _)
    iexact HT

end Cert.Kernel.R1

end
-- ==== Proof.K.R1.lean ====
/-
  Region 1 (`quant_x`): the region's proof data from any contents of the buffers.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.ValueKit
public import proofs.«01_k».proof.Proof.K.R1Body
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel.R1

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The region's proof data -/

variable (a : (pcfg1 (F := F)).Adm) (V : Dev nD → Valuation τ sig (Elt F))

/-- Window `w`'s block at point `t`, read off its array as the region finds it. -/
def iblk (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (V c (Pipeline.arrRef spec1 w))

theorem before_0_of {c : Dev nD} (dat : Dat τ (Elt F) Unit ℕ (UR sig nD τ) ℕ (cfg1 a) c) (hA : dat.A 0 = V c (Pipeline.arrRef spec1 0))
    (hafter : ∀ t, dat.after 0 t = iblk a V c 0 t) (t : Fin (cfg1 a).N) (d) : dat.before 0 t d = iblk a V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ (cfg1 a) c) (hA : dat.A 1 = V c (Pipeline.arrRef spec1 1))
    (hafter : ∀ t, dat.after 1 t = iblk a V c 1 t) (t : Fin (cfg1 a).N) (d) : dat.before 1 t d = iblk a V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The tables held whole, as one points-to. -/
theorem tables_eq (c : Dev nD) : (Pipeline.prefHeld pre1 c (fun _ => fullShare) a.1 : sProp 𝕄) = tbPt c tb (a.1 0) := by
  unfold Pipeline.prefHeld
  rw [show (Finset.univ : Finset (Fin 1)) = {(0 : Fin 1)} from by decide, bigSep_singleton]
  rfl

/-- The region's proof data: arrays as found, inputs kept, outputs at what the word decides of the input blocks. -/
def dat (c : Dev nD) : Dat τ (Elt F) Unit ℕ (UR sig nD τ) ℕ (cfg1 a) c where
  A w := V c (Pipeline.arrRef spec1 w)
  after w t := match w with
    | ⟨0, _⟩ => iblk a V c 0 t
    | ⟨1, _⟩ => iblk a V c 1 t
    | ⟨2, _⟩ => outC (grid1.coords t) (word a.1 (grid1.coords t)) (iblk a V c 0 t) (iblk a V c 1 t)
    | ⟨3, _⟩ => outS (grid1.coords t) (word a.1 (grid1.coords t)) (iblk a V c 0 t) (iblk a V c 1 t)
  Φ _ := iprop(Pipeline.ΦA spec1 c ∗ tbPt c tb (a.1 0))
  q _ := fullShare
  owed _ := 0

theorem A_eq (c : Dev nD) (w : Fin (cfg1 a).W) : (dat a V c).A w = V c (Pipeline.arrRef spec1 w) := by
  dsimp only [dat]
theorem after_0 (c : Dev nD) (t : Fin (cfg1 a).N) : (dat a V c).after 0 t = iblk a V c 0 t := by dsimp only [dat]; rfl
theorem after_1 (c : Dev nD) (t : Fin (cfg1 a).N) : (dat a V c).after 1 t = iblk a V c 1 t := by dsimp only [dat]; rfl
theorem after_2 (c : Dev nD) (t : Fin (cfg1 a).N) : (dat a V c).after 2 t = outC (grid1.coords t) (word a.1 (grid1.coords t)) (iblk a V c 0 t) (iblk a V c 1 t) := by dsimp only [dat]; rfl
theorem after_3 (c : Dev nD) (t : Fin (cfg1 a).N) : (dat a V c).after 3 t = outS (grid1.coords t) (word a.1 (grid1.coords t)) (iblk a V c 0 t) (iblk a V c 1 t) := by dsimp only [dat]; rfl
theorem before_0 (c : Dev nD) (t : Fin (cfg1 a).N) (d) : (dat a V c).before 0 t d = iblk a V c 0 t :=
  before_0_of a V (dat a V c) (A_eq a V c 0) (after_0 a V c) t d
theorem before_1 (c : Dev nD) (t : Fin (cfg1 a).N) (d) : (dat a V c).before 1 t d = iblk a V c 1 t :=
  before_1_of a V (dat a V c) (A_eq a V c 1) (after_1 a V c) t d

abbrev st_0 (t : Fin (cfg1 a).N) : Memref sig .tc .vmem S1x256x4096 .bf16 := ((cfg1 a).win 0).stage ((cfg1 a).slots t 0)
abbrev st_1 (t : Fin (cfg1 a).N) : Memref sig .tc .vmem S1x4096 .f32 := ((cfg1 a).win 1).stage ((cfg1 a).slots t 1)
abbrev st_2 (t : Fin (cfg1 a).N) : Memref sig .tc .vmem S1x256x4096 .i8 := ((cfg1 a).win 2).stage ((cfg1 a).slots t 2)
abbrev st_3 (t : Fin (cfg1 a).N) : Memref sig .tc .vmem S1x256x1 .f32 := ((cfg1 a).win 3).stage ((cfg1 a).slots t 3)

/-- The body at point `t`. -/
abbrev bodyAt (t : Fin (cfg1 a).N) : Prog (TpuEff nD τ sig (Elt F) Λ₀ .tc) PUnit :=
  cc1_quant_x (grid1.coords t) tb htb
    (st_0 a t) (hstage1_0 (((cfg1 a).slots t 0).cast nbuf1_0)) (st_1 a t) (hstage1_1 (((cfg1 a).slots t 1).cast nbuf1_1))
    (st_2 a t) (hstage1_2 (((cfg1 a).slots t 2).cast nbuf1_2)) (st_3 a t) (hstage1_3 (((cfg1 a).slots t 3).cast nbuf1_3))

theorem defs₀_row (t : Fin (cfg1 a).N) :
    defs₀ (F := F) .tc (cfg1 a).body ((cfg1 a).bodyArgs t ((cfg1 a).slots t)) = bodyAt a t := by
  unfold defs₀; rw [Defs.onTc_tc]; rfl

/-- No point leaves the outputs alone. -/
theorem live (i : grid1.Coords) (w : Fin 4) : idle1 a.1 w i = false := by
  have h : ∀ v : BitVec 32, (!(k1_cond1 i v == 1#1) && !(k1_cond2 i v == 1#1)) = false := fun v => by
    by_cases hc : k1_cond1 i v = 1#1
    · simp [hc]
    · simp [cond2_of i v hc]
  fin_cases w
  · rfl
  · rfl
  · exact h _
  · exact h _

/-- What the body is called with at point `t`, -/
def bodyPre (c : Dev nD) (t : Fin (cfg1 a).N) : sProp 𝕄 :=
  iprop((dat a V c).Φ t.castSucc ∗ (dat a V c).owesAt () t.castSucc
    ∗ (∃ d, owns (c : Thread nD τ) (st_0 a t) fullShare ((dat a V c).before 0 t d))
    ∗ (∃ d, owns (c : Thread nD τ) (st_1 a t) fullShare ((dat a V c).before 1 t d))
    ∗ (∃ d, owns (c : Thread nD τ) (st_2 a t) fullShare ((dat a V c).before 2 t d))
    ∗ (∃ d, owns (c : Thread nD τ) (st_3 a t) fullShare ((dat a V c).before 3 t d)))
/-- and what it returns. -/
def bodyPost (c : Dev nD) (t : Fin (cfg1 a).N) : sProp 𝕄 :=
  iprop((dat a V c).Φ t.succ ∗ (dat a V c).owesAt () t.succ
    ∗ (dat a V c).leavesExact 0 t ∗ (dat a V c).leavesExact 1 t ∗ (dat a V c).leavesExact 2 t ∗ (dat a V c).leavesExact 3 t)

theorem leaves_eq (c : Dev nD) (t : Fin (cfg1 a).N) (w : Fin (cfg1 a).W) :
    (dat a V c).leavesExact w t = owns (c : Thread nD τ) (((cfg1 a).win w).stage ((cfg1 a).slots t w)) fullShare ((dat a V c).after w t) := by
  unfold Dat.leavesExact
  rw [show (cfg1 a).idle w ((cfg1 a).grid.coords t) = false from live a (grid1.coords t) w]

theorem sound_body (c : Dev nD) (t : Fin (cfg1 a).N) :
    bodyPre a V c t ⊢ wp frame (wpE (defs₀ (F := F)) Variants.none c none) Set.univ (bodyAt a t) (fun _ => bodyPost a V c t) := by
  unfold bodyPre bodyPost bodyAt
  simp only [before_0, before_1]
  rw [leaves_eq a V c t 0, leaves_eq a V c t 1, leaves_eq a V c t 2, leaves_eq a V c t 3]
  rw [show (dat a V c).Φ t.succ = (dat a V c).Φ t.castSucc from rfl,
    show (dat a V c).owesAt () t.succ = (dat a V c).owesAt () t.castSucc from rfl,
    after_0, after_1, after_2, after_3]
  rw [show (dat a V c).Φ t.castSucc = iprop(Pipeline.ΦA spec1 c ∗ tbPt c tb (a.1 0)) from rfl]
  iintro ⟨⟨HΦ, HT⟩, Ho, ⟨%d0, H0⟩, ⟨%d1, H1⟩, ⟨%d2, H2⟩, ⟨%d3, H3⟩⟩
  iapply (sound_kernel c Set.univ (grid1.coords t) _ _ _ _ _ _ _ _ (iblk a V c 0 t) (iblk a V c 1 t) (a.1 0) _ (readAt_word c a.1 (grid1.coords t)) _)
  isplitl [H0]; · iexact H0
  isplitl [H1]; · iexact H1
  isplitl [H2]; · iexists _; iexact H2
  isplitl [H3]; · iexists _; iexact H3
  isplitl [HT]; · iexact HT
  iintro ⟨H0, H1, H2, H3, HT⟩
  isplitl [HΦ HT]
  · isplitl [HΦ]; · iexact HΦ
    iexact HT
  isplitl [Ho]; · iexact Ho
  isplitl [H0]; · iexact H0
  isplitl [H1]; · iexact H1
  isplitl [H2]; · iexact H2
  iexact H3

/-- The body obligation at every point. -/
theorem body_obligation (c : Dev nD) : BodyObligation (dat (F := F) a V c) (defs₀ (F := F)) Variants.none () Set.univ := fun t => by
  rw [bigSep_W1, bigSep_W1, defs₀_row]
  exact triple_restated (sound_body a V c t) rfl .rfl fun _ => .rfl

end Cert.Kernel.R1

end
-- ==== Proof.K.R2.lean ====
/-
  Region 2 (`quant_w`): what one grid point computes, and the region's proof data from any contents of the buffers.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.ValueKit
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel.R2

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point. -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point. -/
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

abbrev r_0 : Rect S4096x256 := Rect.unit (s := S4096x256) ![0, 0] S4096x256.size inb_S4096x256_S4096x256_0_0
abbrev r_1 : Rect S4096x1 := Rect.unit (s := S4096x1) ![0, 0] S4096x1.size inb_S4096x1_S4096x1_0_0
abbrev r_2 : Rect S1x256 := Rect.unit (s := S1x256) ![0, 0] S1x256.size inb_S1x256_S1x256_0_0

/-- The body's stores cover the codes' buffer. -/
theorem cover_2 (p0 : Vec F S4096x256 .i8) (y : S4096x256.Idx) :
    ∃ pc ∈ ([⟨r_0, p0⟩] : List (View.Piece (Elt F) S4096x256 .i8)), y ∈ pc.1.set :=
  View.cover_of_tiled [⟨r_0, p0⟩] S4096x256.size (by rfl) y
/-- The body's stores cover the scales' buffer. -/
theorem cover_3 (p0 : Vec F S1x256 .f32) (y : S1x256.Idx) :
    ∃ pc ∈ ([⟨r_2, p0⟩] : List (View.Piece (Elt F) S1x256 .f32)), y ∈ pc.1.set :=
  View.cover_of_tiled [⟨r_2, p0⟩] S1x256.size (by rfl) y

theorem off2 : (![0, 0] : Fin 2 → ℕ) = fun _ => 0 := by funext a; fin_cases a <;> rfl

/-- What is left in the codes' buffer is the payload. -/
theorem canon_2 (x0 : Vec F S4096x256 .bf16) (x1 : Vec F S4096x1 .f32) :
    (View.canon [⟨r_0, k2_pay3 (View.ld x0 r_0) (View.ld x1 r_1)⟩] : Vec F S4096x256 .i8) = k2_pay3 x0 x1 := by
  rw [View.ld_unit_zero (S := S4096x256) off2, View.ld_unit_zero (S := S4096x1) off2]
  exact View.canon_unit_zero (S := S4096x256) off2 _ _
/-- What is left in the scales' buffer is the payload. -/
theorem canon_3 (x0 : Vec F S4096x256 .bf16) (x1 : Vec F S4096x1 .f32) :
    (View.canon [⟨r_2, k2_pay2 (View.ld x0 r_0) (View.ld x1 r_1)⟩] : Vec F S1x256 .f32) = k2_pay2 x0 x1 := by
  rw [View.ld_unit_zero (S := S4096x256) off2, View.ld_unit_zero (S := S4096x1) off2]
  exact View.canon_unit_zero (S := S1x256) off2 _ _

set_option maxHeartbeats 1000000 in
/-- The body's triple: the inputs' buffers are kept and the outputs' hold the payloads of the inputs. -/
theorem sound_kernel (c : Dev nD) (E : Set ℕ) (i : grid2.Coords) (arg1 : Memref sig .tc .vmem S4096x256 .bf16) (harg1 : arg1.IsWhole) (arg2 : Memref sig .tc .vmem S4096x1 .f32) (harg2 : arg2.IsWhole) (arg3 : Memref sig .tc .vmem S4096x256 .i8) (harg3 : arg3.IsWhole) (arg4 : Memref sig .tc .vmem S1x256 .f32) (harg4 : arg4.IsWhole)
    (x0 : Vec F S4096x256 .bf16) (x1 : Vec F S4096x1 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (k2_pay3 x0 x1) ∗ owns (c : Thread nD τ) arg4 fullShare (k2_pay2 x0 x1)) -∗ K ⟨⟩))
      ⊢ wp frame (wpE (defs₀ (F := F)) Variants.none c none) E (cc2_quant_w i arg1 harg1 arg2 harg2 arg3 harg3 arg4 harg4) K := by
  rw [← canon_2 x0 x1, ← canon_3 x0 x1]
  simp only [cc2_quant_w_eq_skeleton]; unfold cc2_quant_w_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover_2 _)
  iexists _; isplitr
  swap; · iexact H3
  ipureintro
  exact View.read_writes_eq_canon _ _ _ (cover_3 _)

/-- The region's proof data: arrays as found, inputs kept, outputs at the payloads of the input blocks. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => k2_pay3 (iblk V c 0 t) (iblk V c 1 t)
    | ⟨3, _⟩ => k2_pay2 (iblk V c 0 t) (iblk V c 1 t)
  Φ _ := Pipeline.ΦA spec2 c
  q _ := fullShare
  owed _ := 0

theorem A_eq (c : Dev nD) (w : Fin cfg2.W) : (dat V c).A w = V c (Pipeline.arrRef spec2 w) := by
  dsimp only [dat]
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = k2_pay3 (iblk V c 0 t) (iblk V c 1 t) := by dsimp only [dat]
theorem after_3 (c : Dev nD) (t : Fin cfg2.N) : (dat V c).after 3 t = k2_pay2 (iblk V c 0 t) (iblk V c 1 t) := by dsimp only [dat]
theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d

/-- What the body is called with at point `t`, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d)))
/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t))

theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ (grid2.coords t) _ _ _ _ _ _ _ _ (iblk V c 0 t) (iblk V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem defs₀_row (t : Fin cfg2.N) :
    defs₀ (F := F) .tc cfg2.body (cfg2.bodyArgs t (cfg2.slots t)) = bodyAt2 t := by
  unfold defs₀; rw [Defs.onTc_tc]

/-- The body obligation at every point. -/
theorem body_obligation (c : Dev nD) : BodyObligation (dat (F := F) V c) (defs₀ (F := F)) Variants.none () Set.univ := fun t => by
  rw [bigSep_W2, bigSep_W2, defs₀_row]
  exact triple_restated (sound_body V c t) rfl .rfl fun _ => .rfl

end Cert.Kernel.R2

end
-- ==== Proof.K.R3Body.lean ====
/-
  Region 3 (`matmul`): what one grid point computes.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.ValueKit
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel.R3

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The tables and the word -/

/-- The tables the body is handed: the tiles' order, the number of valid tiles, the tiles' rows. -/
abbrev tb0 : Memref sig .tc .smem S32 .i32 := Memref.whole main_v13
abbrev htb0 : tb0.IsWhole := Memref.isWhole_whole _
abbrev tb1 : Memref sig .tc .smem S1 .i32 := Memref.whole main_v16
abbrev htb1 : tb1.IsWhole := Memref.isWhole_whole _
abbrev tb2 : Memref sig .tc .smem S32 .i32 := Memref.whole main_v29
abbrev htb2 : tb2.IsWhole := Memref.isWhole_whole _
abbrev TbBuf (c : Dev nD) {S : Shape} {e : EltTy} (M : Memref sig .tc .smem S e) : Type := Buf (Elt F) (M.view.loc (c : Thread nD τ))
/-- A table held on core `c` at `f`. -/
abbrev tbPt (c : Dev nD) {S : Shape} {e : EltTy} (M : Memref sig .tc .smem S e) (f : TbBuf (F := F) c M) : sProp 𝕄 :=
  M.view.loc (c : Thread nD τ) ↦{fullShare} f

/-- The word the body reads: the number of valid tiles. -/
abbrev word (pf : pre3.Contents (Elt F)) : BitVec 32 := pf.atD 1 ![0]

/-- What the body's scalar load reads is that word. -/
theorem readAt_word (c : Dev nD) (pf : pre3.Contents (Elt F)) :
    tb1.view.readAt (Elt F) (Rect.unit (s := S1) ![0] S1.size inb_S1_S1_0).toLoadRect (pf 1 : TbBuf (F := F) c tb1)
      (Shape.Idx.first (numel1_S1.symm ▸ Nat.one_pos)) = word (F := F) pf := by
  have h : ∀ a, (![0] : Fin 1 → ℕ) a + 1 ≤ (pre3.ref 1).ty.shape.size a := fun a => by
    have := inb_S1_S1_0 a; fin_cases a; exact this
  refine Eq.trans ?_ (dif_pos h).symm
  show pf 1 _ = pf 1 _
  congr 1

theorem extBit (b : BitVec 1) : Scalar.cmpi .ne (Scalar.extui b : BitVec 32) 0#32 = b := by revert b; decide

theorem cond1_iff (i : grid3.Coords) (v : BitVec 32) : k3_cond1 i v = 1#1 ↔ (BitVec.ofNat 32 (i 1).val).toInt < v.toInt := by
  show Scalar.cmpi .ne (Scalar.extui (Scalar.cmpi .slt (BitVec.ofNat 32 (i 1).val) v)) 0#32 = 1#1 ↔ _
  rw [extBit]
  show BitVec.ofBool (BitVec.slt _ _) = 1#1 ↔ _
  rw [BitVec.slt]
  by_cases h : (BitVec.ofNat 32 (i 1).val).toInt < v.toInt <;> simp only [h, decide_true, decide_false] <;> decide
theorem cond2_iff (i : grid3.Coords) (v : BitVec 32) : k3_cond2 i v = 1#1 ↔ ¬ (BitVec.ofNat 32 (i 1).val).toInt < v.toInt := by
  show Scalar.cmpi .ne (Scalar.extui (Scalar.cmpi .sge (BitVec.ofNat 32 (i 1).val) v)) 0#32 = 1#1 ↔ _
  rw [extBit]
  show BitVec.ofBool (BitVec.sle _ _) = 1#1 ↔ _
  rw [BitVec.sle, not_lt]
  by_cases h : v.toInt ≤ (BitVec.ofNat 32 (i 1).val).toInt <;> simp only [h, decide_true, decide_false] <;> decide
/-- Either the tile is a valid one or it is not. -/
theorem cond2_of (i : grid3.Coords) (v : BitVec 32) (h : ¬ k3_cond1 i v = 1#1) : k3_cond2 i v = 1#1 := by
  rw [cond1_iff] at h; rwa [cond2_iff]
theorem not_cond2_of (i : grid3.Coords) (v : BitVec 32) (h : k3_cond1 i v = 1#1) : ¬ k3_cond2 i v = 1#1 := by
  rw [cond1_iff] at h; rw [cond2_iff]; exact not_not.mpr h

/-- What the body leaves in the output's buffer. -/
def outY (i : grid3.Coords) (v : BitVec 32) (x0 : Vec F S512x4096 .i8) (x1 : Vec F S4096x1024 .i8) (x2 : Vec F S512x1 .f32) (x3 : Vec F S1x1024 .f32) : Vec F S512x1024 .bf16 :=
  if k3_cond1 i v = 1#1 then k3_pay1 x0 x1 x2 x3 else k3_pay2

abbrev r_0 : Rect S512x4096 := Rect.unit (s := S512x4096) ![0, 0] S512x4096.size inb_S512x4096_S512x4096_0_0
abbrev r_1 : Rect S4096x1024 := Rect.unit (s := S4096x1024) ![0, 0] S4096x1024.size inb_S4096x1024_S4096x1024_0_0
abbrev r_2 : Rect S512x1 := Rect.unit (s := S512x1) ![0, 0] S512x1.size inb_S512x1_S512x1_0_0
abbrev r_3 : Rect S1x1024 := Rect.unit (s := S1x1024) ![0, 0] S1x1024.size inb_S1x1024_S1x1024_0_0
abbrev r_4 : Rect S512x1024 := Rect.unit (s := S512x1024) ![0, 0] S512x1024.size inb_S512x1024_S512x1024_0_0

theorem cover_4 (p0 : Vec F S512x1024 .bf16) (y : S512x1024.Idx) :
    ∃ pc ∈ ([⟨r_4, p0⟩] : List (View.Piece (Elt F) S512x1024 .bf16)), y ∈ pc.1.set :=
  View.cover_of_tiled [⟨r_4, p0⟩] S512x1024.size (by rfl) y

theorem off2 : (![0, 0] : Fin 2 → ℕ) = fun _ => 0 := by funext a; fin_cases a <;> rfl

theorem canon_4a (p : Vec F S512x1024 .bf16) : (View.canon [⟨r_4, p⟩] : Vec F S512x1024 .bf16) = p :=
  View.canon_unit_zero (S := S512x1024) off2 _ _

set_option maxHeartbeats 2000000 in
/-- The body's triple: the inputs' buffers and the tables are kept and the output's holds what the word decides. -/
theorem sound_kernel (c : Dev nD) (E : Set ℕ) (i : grid3.Coords) (arg5 : Memref sig .tc .vmem S512x4096 .i8) (harg5 : arg5.IsWhole) (arg6 : Memref sig .tc .vmem S4096x1024 .i8) (harg6 : arg6.IsWhole) (arg7 : Memref sig .tc .vmem S512x1 .f32) (harg7 : arg7.IsWhole) (arg8 : Memref sig .tc .vmem S1x1024 .f32) (harg8 : arg8.IsWhole) (arg9 : Memref sig .tc .vmem S512x1024 .bf16) (harg9 : arg9.IsWhole)
    (x0 : Vec F S512x4096 .i8) (x1 : Vec F S4096x1024 .i8) (x2 : Vec F S512x1 .f32) (x3 : Vec F S1x1024 .f32) (xt : TbBuf (F := F) c tb1) (v : BitVec 32)
    (hv : tb1.view.readAt (Elt F) (Rect.unit (s := S1) ![0] S1.size inb_S1_S1_0).toLoadRect xt (Shape.Idx.first (numel1_S1.symm ▸ Nat.one_pos)) = v)
    (K : PUnit → sProp 𝕄) :
    iprop(owns (c : Thread nD τ) arg5 fullShare x0 ∗ owns (c : Thread nD τ) arg6 fullShare x1 ∗ owns (c : Thread nD τ) arg7 fullShare x2 ∗ owns (c : Thread nD τ) arg8 fullShare x3 ∗ (∃ d, owns (c : Thread nD τ) arg9 fullShare d)
        ∗ tbPt c tb1 xt
        ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare (outY i v x0 x1 x2 x3) ∗ tbPt c tb1 xt) -∗ K ⟨⟩))
      ⊢ wp frame (wpE (defs₀ (F := F)) Variants.none c none) E (cc3_matmul i tb0 htb0 tb1 htb1 tb2 htb2 arg5 harg5 arg6 harg6 arg7 harg7 arg8 harg8 arg9 harg9) K := by
  by_cases hc : k3_cond1 i v = 1#1
  · have hc2 := not_cond2_of i v hc
    have e1 : k3_pay1 x0 x1 x2 x3 = (View.canon [⟨r_4, k3_pay1 (View.ld x0 r_0) (View.ld x1 r_1) (View.ld x2 r_2) (View.ld x3 r_3)⟩] : Vec F S512x1024 .bf16) := by
      rw [View.ld_unit_zero (S := S512x4096) off2, View.ld_unit_zero (S := S4096x1024) off2, View.ld_unit_zero (S := S512x1) off2, View.ld_unit_zero (S := S1x1024) off2, canon_4a]
    rw [outY, if_pos hc, e1]
    subst hv
    simp only [cc3_matmul_eq_skeleton]; unfold cc3_matmul_skel
    unfold owns
    iintro ⟨⟨%f0, %hf0, H0⟩, ⟨%f1, %hf1, H1⟩, ⟨%f2, %hf2, H2⟩, ⟨%f3, %hf3, H3⟩, ⟨%d4, %f4, -, H4⟩, HT, Hk⟩
    subst hf0 hf1 hf2 hf3
    sl_exec (disch := first | sl_exact hc | sl_exact hc2)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists _; isplitr
      swap; · iexact H4
      ipureintro
      exact View.read_writes_eq_canon _ _ _ (cover_4 _)
    iexact HT
  · have hc2 := cond2_of i v hc
    rw [outY, if_neg hc, ← canon_4a (F := F) k3_pay2]
    subst hv
    simp only [cc3_matmul_eq_skeleton]; unfold cc3_matmul_skel
    unfold owns
    iintro ⟨⟨%f0, %hf0, H0⟩, ⟨%f1, %hf1, H1⟩, ⟨%f2, %hf2, H2⟩, ⟨%f3, %hf3, H3⟩, ⟨%d4, %f4, -, H4⟩, HT, Hk⟩
    subst hf0 hf1 hf2 hf3
    sl_exec (disch := first | sl_exact hc | sl_exact hc2)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists _; isplitr
      swap; · iexact H4
      ipureintro
      exact View.read_writes_eq_canon _ _ _ (cover_4 _)
    iexact HT

end Cert.Kernel.R3

end
-- ==== Proof.K.R3.lean ====
/-
  Region 3 (`matmul`): the region's proof data from any contents of the buffers.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.ValueKit
public import proofs.«01_k».proof.Proof.K.R3Body
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel.R3

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The region's proof data -/

variable (a : (pcfg3 (F := F)).Adm) (V : Dev nD → Valuation τ sig (Elt F))

/-- Window `w`'s block at point `t`, read off its array as the region finds it. -/
def iblk (c : Dev nD) (w : Fin (cfg3 a).W) (t : Fin (cfg3 a).N) : (((cfg3 a).win w).xblock ((cfg3 a).grid.coords t)).Idx → Elt F ((cfg3 a).win w).elt :=
  (((cfg3 a).win w).blk t).view.read (Elt F) (V c (Pipeline.arrRef spec3 w))

theorem before_0_of {c : Dev nD} (dat : Dat τ (Elt F) Unit ℕ (UR sig nD τ) ℕ (cfg3 a) c) (hA : dat.A 0 = V c (Pipeline.arrRef spec3 0))
    (hafter : ∀ t, dat.after 0 t = iblk a V c 0 t) (t : Fin (cfg3 a).N) (d) : dat.before 0 t d = iblk a V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ (cfg3 a) c) (hA : dat.A 1 = V c (Pipeline.arrRef spec3 1))
    (hafter : ∀ t, dat.after 1 t = iblk a V c 1 t) (t : Fin (cfg3 a).N) (d) : dat.before 1 t d = iblk a V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ (cfg3 a) c) (hA : dat.A 2 = V c (Pipeline.arrRef spec3 2))
    (hafter : ∀ t, dat.after 2 t = iblk a V c 2 t) (t : Fin (cfg3 a).N) (d) : dat.before 2 t d = iblk a V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ (cfg3 a) c) (hA : dat.A 3 = V c (Pipeline.arrRef spec3 3))
    (hafter : ∀ t, dat.after 3 t = iblk a V c 3 t) (t : Fin (cfg3 a).N) (d) : dat.before 3 t d = iblk a V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The tables held whole, one by one. -/
theorem tables_eq (c : Dev nD) : (Pipeline.prefHeld pre3 c (fun _ => fullShare) a.1 : sProp 𝕄)
    = iprop(tbPt c tb0 (a.1 0) ∗ tbPt c tb1 (a.1 1) ∗ tbPt c tb2 (a.1 2)) := by
  unfold Pipeline.prefHeld
  exact bigSep_univ_eq_bigSepL [(0 : Fin 3), (1 : Fin 3), (2 : Fin 3)] (by decide) (by decide) _

/-- What the body leaves in the output's buffer at point `t`. -/
def yblk (c : Dev nD) (t : Fin (cfg3 a).N) : Vec F S512x1024 .bf16 :=
  outY (grid3.coords t) (word a.1) (iblk a V c 0 t) (iblk a V c 1 t) (iblk a V c 2 t) (iblk a V c 3 t)

/-- The region's proof data: arrays as found, inputs kept, the output at what the word decides of the input blocks. -/
def dat (c : Dev nD) : Dat τ (Elt F) Unit ℕ (UR sig nD τ) ℕ (cfg3 a) c where
  A w := V c (Pipeline.arrRef spec3 w)
  after w t := match w with
    | ⟨0, _⟩ => iblk a V c 0 t
    | ⟨1, _⟩ => iblk a V c 1 t
    | ⟨2, _⟩ => iblk a V c 2 t
    | ⟨3, _⟩ => iblk a V c 3 t
    | ⟨4, _⟩ => yblk a V c t
  Φ _ := iprop(Pipeline.ΦA spec3 c ∗ (tbPt c tb0 (a.1 0) ∗ tbPt c tb1 (a.1 1) ∗ tbPt c tb2 (a.1 2)))
  q _ := fullShare
  owed _ := 0

theorem A_eq (c : Dev nD) (w : Fin (cfg3 a).W) : (dat a V c).A w = V c (Pipeline.arrRef spec3 w) := by
  dsimp only [dat]
theorem after_0 (c : Dev nD) (t : Fin (cfg3 a).N) : (dat a V c).after 0 t = iblk a V c 0 t := by dsimp only [dat]; rfl
theorem after_1 (c : Dev nD) (t : Fin (cfg3 a).N) : (dat a V c).after 1 t = iblk a V c 1 t := by dsimp only [dat]; rfl
theorem after_2 (c : Dev nD) (t : Fin (cfg3 a).N) : (dat a V c).after 2 t = iblk a V c 2 t := by dsimp only [dat]; rfl
theorem after_3 (c : Dev nD) (t : Fin (cfg3 a).N) : (dat a V c).after 3 t = iblk a V c 3 t := by dsimp only [dat]; rfl
theorem after_4 (c : Dev nD) (t : Fin (cfg3 a).N) : (dat a V c).after 4 t = yblk a V c t := by dsimp only [dat]; rfl
theorem before_0 (c : Dev nD) (t : Fin (cfg3 a).N) (d) : (dat a V c).before 0 t d = iblk a V c 0 t :=
  before_0_of a V (dat a V c) (A_eq a V c 0) (after_0 a V c) t d
theorem before_1 (c : Dev nD) (t : Fin (cfg3 a).N) (d) : (dat a V c).before 1 t d = iblk a V c 1 t :=
  before_1_of a V (dat a V c) (A_eq a V c 1) (after_1 a V c) t d
theorem before_2 (c : Dev nD) (t : Fin (cfg3 a).N) (d) : (dat a V c).before 2 t d = iblk a V c 2 t :=
  before_2_of a V (dat a V c) (A_eq a V c 2) (after_2 a V c) t d
theorem before_3 (c : Dev nD) (t : Fin (cfg3 a).N) (d) : (dat a V c).before 3 t d = iblk a V c 3 t :=
  before_3_of a V (dat a V c) (A_eq a V c 3) (after_3 a V c) t d

abbrev st_0 (t : Fin (cfg3 a).N) : Memref sig .tc .vmem S512x4096 .i8 := ((cfg3 a).win 0).stage ((cfg3 a).slots t 0)
abbrev st_1 (t : Fin (cfg3 a).N) : Memref sig .tc .vmem S4096x1024 .i8 := ((cfg3 a).win 1).stage ((cfg3 a).slots t 1)
abbrev st_2 (t : Fin (cfg3 a).N) : Memref sig .tc .vmem S512x1 .f32 := ((cfg3 a).win 2).stage ((cfg3 a).slots t 2)
abbrev st_3 (t : Fin (cfg3 a).N) : Memref sig .tc .vmem S1x1024 .f32 := ((cfg3 a).win 3).stage ((cfg3 a).slots t 3)
abbrev st_4 (t : Fin (cfg3 a).N) : Memref sig .tc .vmem S512x1024 .bf16 := ((cfg3 a).win 4).stage ((cfg3 a).slots t 4)

/-- The body at point `t`. -/
abbrev bodyAt (t : Fin (cfg3 a).N) : Prog (TpuEff nD τ sig (Elt F) Λ₀ .tc) PUnit :=
  cc3_matmul (grid3.coords t) tb0 htb0 tb1 htb1 tb2 htb2
    (st_0 a t) (hstage3_0 (((cfg3 a).slots t 0).cast nbuf3_0)) (st_1 a t) (hstage3_1 (((cfg3 a).slots t 1).cast nbuf3_1)) (st_2 a t) (hstage3_2 (((cfg3 a).slots t 2).cast nbuf3_2)) (st_3 a t) (hstage3_3 (((cfg3 a).slots t 3).cast nbuf3_3)) (st_4 a t) (hstage3_4 (((cfg3 a).slots t 4).cast nbuf3_4))

theorem defs₀_row (t : Fin (cfg3 a).N) :
    defs₀ (F := F) .tc (cfg3 a).body ((cfg3 a).bodyArgs t ((cfg3 a).slots t)) = bodyAt a t := by
  unfold defs₀; rw [Defs.onTc_tc]; rfl

/-- No point leaves the output alone. -/
theorem live (i : grid3.Coords) (w : Fin 5) : idle3 a.1 w i = false := by
  have h : ∀ v : BitVec 32, (!(k3_cond1 i v == 1#1) && !(k3_cond2 i v == 1#1)) = false := fun v => by
    by_cases hc : k3_cond1 i v = 1#1
    · simp [hc]
    · simp [cond2_of i v hc]
  fin_cases w
  · rfl
  · rfl
  · rfl
  · rfl
  · exact h _

/-- What the body is called with at point `t`, -/
def bodyPre (c : Dev nD) (t : Fin (cfg3 a).N) : sProp 𝕄 :=
  iprop((dat a V c).Φ t.castSucc ∗ (dat a V c).owesAt () t.castSucc
    ∗ (∃ d, owns (c : Thread nD τ) (st_0 a t) fullShare ((dat a V c).before 0 t d))
    ∗ (∃ d, owns (c : Thread nD τ) (st_1 a t) fullShare ((dat a V c).before 1 t d))
    ∗ (∃ d, owns (c : Thread nD τ) (st_2 a t) fullShare ((dat a V c).before 2 t d))
    ∗ (∃ d, owns (c : Thread nD τ) (st_3 a t) fullShare ((dat a V c).before 3 t d))
    ∗ (∃ d, owns (c : Thread nD τ) (st_4 a t) fullShare ((dat a V c).before 4 t d)))
/-- and what it returns. -/
def bodyPost (c : Dev nD) (t : Fin (cfg3 a).N) : sProp 𝕄 :=
  iprop((dat a V c).Φ t.succ ∗ (dat a V c).owesAt () t.succ
    ∗ (dat a V c).leavesExact 0 t ∗ (dat a V c).leavesExact 1 t ∗ (dat a V c).leavesExact 2 t ∗ (dat a V c).leavesExact 3 t ∗ (dat a V c).leavesExact 4 t)

theorem leaves_eq (c : Dev nD) (t : Fin (cfg3 a).N) (w : Fin (cfg3 a).W) :
    (dat a V c).leavesExact w t = owns (c : Thread nD τ) (((cfg3 a).win w).stage ((cfg3 a).slots t w)) fullShare ((dat a V c).after w t) := by
  unfold Dat.leavesExact
  rw [show (cfg3 a).idle w ((cfg3 a).grid.coords t) = false from live a (grid3.coords t) w]

theorem sound_body (c : Dev nD) (t : Fin (cfg3 a).N) :
    bodyPre a V c t ⊢ wp frame (wpE (defs₀ (F := F)) Variants.none c none) Set.univ (bodyAt a t) (fun _ => bodyPost a V c t) := by
  unfold bodyPre bodyPost bodyAt
  simp only [before_0, before_1, before_2, before_3]
  rw [leaves_eq a V c t 0, leaves_eq a V c t 1, leaves_eq a V c t 2, leaves_eq a V c t 3, leaves_eq a V c t 4]
  rw [show (dat a V c).Φ t.succ = (dat a V c).Φ t.castSucc from rfl,
    show (dat a V c).owesAt () t.succ = (dat a V c).owesAt () t.castSucc from rfl,
    after_0, after_1, after_2, after_3, after_4]
  rw [show (dat a V c).Φ t.castSucc = iprop(Pipeline.ΦA spec3 c ∗ (tbPt c tb0 (a.1 0) ∗ tbPt c tb1 (a.1 1) ∗ tbPt c tb2 (a.1 2))) from rfl]
  iintro ⟨⟨HΦ, HT0, HT1, HT2⟩, Ho, ⟨%d0, H0⟩, ⟨%d1, H1⟩, ⟨%d2, H2⟩, ⟨%d3, H3⟩, ⟨%d4, H4⟩⟩
  iapply (sound_kernel c Set.univ (grid3.coords t) _ _ _ _ _ _ _ _ _ _ (iblk a V c 0 t) (iblk a V c 1 t) (iblk a V c 2 t) (iblk a V c 3 t) (a.1 1) _ (readAt_word c a.1) _)
  isplitl [H0]; · iexact H0
  isplitl [H1]; · iexact H1
  isplitl [H2]; · iexact H2
  isplitl [H3]; · iexact H3
  isplitl [H4]; · iexists _; iexact H4
  isplitl [HT1]; · iexact HT1
  iintro ⟨H0, H1, H2, H3, H4, HT1⟩
  isplitl [HΦ HT0 HT1 HT2]
  · isplitl [HΦ]; · iexact HΦ
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  iexact H4

/-- The body obligation at every point. -/
theorem body_obligation (c : Dev nD) : BodyObligation (dat (F := F) a V c) (defs₀ (F := F)) Variants.none () Set.univ := fun t => by
  rw [bigSep_W3, bigSep_W3, defs₀_row]
  exact triple_restated (sound_body a V c t) rfl .rfl fun _ => .rfl

end Cert.Kernel.R3

end
-- ==== Proof.K.Run.lean ====
/-
  The whole program's run: what each region leaves, and what the buffers hold at the end.
-/
module

public import proofs.«01_k».proof.Proof.Gen.Kernel.Launch
public import proofs.«01_k».proof.Proof.Gen.Kernel.Regions
public import proofs.«01_k».proof.Proof.K.Tabs
public import proofs.«01_k».proof.Proof.K.R0
public import proofs.«01_k».proof.Proof.K.R1
public import proofs.«01_k».proof.Proof.K.R2
public import proofs.«01_k».proof.Proof.K.R3
public import Idealize.ShloMosaic.Lib.Pipeline.Regions
public import Idealize.ShloMosaic.Lib.Pipeline.RegionArraysS
public import Idealize.ShloMosaic.Lib.Pipeline.RegionArraysTS

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-- The only device. -/
def c₀ : Dev nD := ⟨0, by decide⟩
theorem dev_eq (c : Dev nD) : c = c₀ := Subsingleton.elim _ _

/-! ## The buffers' contents between items, and the tables as the regions find them -/

/-- Call 0's table as it finds it, -/
def a0 : (pcfg0 (F := F)).Adm := ⟨fun k => V1 m c₀ (pre0.ref k), Tabs.ok0_any _⟩
/-- and what it leaves; -/
def X2 (c : Dev nD) : Valuation τ sig (Elt F) := Pipeline.afterRegion (R0.dat (a0 m) (V1 m) c) (V1 m c)
/-- call 1's, -/
def a1 : (pcfg1 (F := F)).Adm := ⟨fun k => X2 m c₀ (pre1.ref k), Tabs.ok1_any _⟩
def X3 (c : Dev nD) : Valuation τ sig (Elt F) := Pipeline.afterRegion (R1.dat (a1 m) (X2 m) c) (X2 m c)
def X4 (c : Dev nD) : Valuation τ sig (Elt F) := StableHlo.after hostOps2 (X3 m c)
def X5 (c : Dev nD) : Valuation τ sig (Elt F) := Pipeline.afterRegion (R2.dat (X4 m) c) (X4 m c)
def X6 (c : Dev nD) : Valuation τ sig (Elt F) := StableHlo.after hostOps3 (X5 m c)
def X7 (c : Dev nD) : Valuation τ sig (Elt F) := StableHlo.after hostOps3_1 (X6 m c)
def X8 (c : Dev nD) : Valuation τ sig (Elt F) := StableHlo.after hostOps3_2 (X7 m c)
def X9 (c : Dev nD) : Valuation τ sig (Elt F) := StableHlo.after hostOps3_3 (X8 m c)
def X10 (c : Dev nD) : Valuation τ sig (Elt F) := StableHlo.after hostOps3_4 (X9 m c)

theorem X10_v13 (c : Dev nD) : X10 m c main_v13 = X9 m c main_v13 :=
  StableHlo.after_of_writes_sub hostOps3_4 _ hostOps3_4_writes (by decide)

theorem ok3_X : ok3 (F := F) (fun k => X10 m c₀ (pre3.ref k)) := by
  refine Tabs.ok3_of _ (fun x => ?_) (fun x => ?_)
  · show (X10 m c₀ main_v13 x : BitVec 32).toNat < 32
    rw [X10_v13]
    exact Tabs.v13_lt _ x
  · obtain ⟨y, hy⟩ := Tabs.v29_src (X9 m c₀) x
    show (StableHlo.after hostOps3_4 (X9 m c₀) main_v29 x : BitVec 32).toNat < 32
    rw [hy]
    exact Tabs.v13_lt _ y

def a3 : (pcfg3 (F := F)).Adm := ⟨fun k => X10 m c₀ (pre3.ref k), ok3_X m⟩
def X11 (c : Dev nD) : Valuation τ sig (Elt F) := Pipeline.afterRegion (R3.dat (a3 m) (X10 m) c) (X10 m c)
def X12 (c : Dev nD) : Valuation τ sig (Elt F) := StableHlo.after hostOps4 (X11 m c)

/-- What the regions leave in the buffers they may change. -/
def outs : Outs (F := F) := fun J r c => match J with
  | 2 => X2 m c r
  | 3 => X3 m c r
  | 5 => X5 m c r
  | _ => X11 m c r

/-- A region changes its output windows' arrays only. -/
theorem keepsDev {cfg : Pipeline.Cfg sig Λ₀} {c : Dev nD} (dat : Dat τ (Elt F) Unit ℕ (UR sig nD τ) ℕ cfg c) (V : Valuation τ sig (Elt F))
    (hinj : Function.Injective (Pipeline.arrRef cfg.spec)) (hA : ∀ w, dat.A w = V (Proc.devRef .tc (Pipeline.arrRef cfg.spec w)))
    (b : DevRef τ sig) (h : ∀ w, b = Proc.devRef .tc (Pipeline.arrRef cfg.spec w) → (cfg.win w).isOut = false) :
    Pipeline.afterRegion dat V b = V b := by
  by_cases hw : ∃ w, b = Proc.devRef .tc (Pipeline.arrRef cfg.spec w)
  · obtain ⟨w, rfl⟩ := hw
    exact (Pipeline.afterRegion_arr dat V hinj w).trans ((dat.arrAt_in w (h w rfl) _).trans (hA w))
  · unfold Pipeline.afterRegion
    rw [dif_neg hw]

theorem X2_keeps (c : Dev nD) (b : DevRef τ sig) (h : b ≠ Proc.devRef .tc main_v1) : X2 m c b = V1 m c b := by
  refine keepsDev (R0.dat (a0 m) (V1 m) c) (V1 m c) (launch0 (F := F)).win.arr_inj (fun w => by first | exact R0.A_eq (a0 m) (V1 m) c w | rfl) b (fun w hw => ?_)
  match w with
  | ⟨0, _⟩ => rfl
  | ⟨1, _⟩ => rfl
  | ⟨2, _⟩ => exact absurd hw h

theorem X3_keeps (c : Dev nD) (b : DevRef τ sig) (h : b ≠ Proc.devRef .tc main_v2_0) (h' : b ≠ Proc.devRef .tc main_v2_1) : X3 m c b = X2 m c b := by
  refine keepsDev (R1.dat (a1 m) (X2 m) c) (X2 m c) (launch1 (F := F)).win.arr_inj (fun w => by first | exact R1.A_eq (a1 m) (X2 m) c w | rfl) b (fun w hw => ?_)
  match w with
  | ⟨0, _⟩ => rfl
  | ⟨1, _⟩ => rfl
  | ⟨2, _⟩ => exact absurd hw h
  | ⟨3, _⟩ => exact absurd hw h'

theorem X5_keeps (c : Dev nD) (b : DevRef τ sig) (h : b ≠ Proc.devRef .tc main_v4_0) (h' : b ≠ Proc.devRef .tc main_v4_1) : X5 m c b = X4 m c b := by
  refine keepsDev (R2.dat (X4 m) c) (X4 m c) (launch2 (F := F)).win.arr_inj (fun w => by first | exact R2.A_eq (X4 m) c w | rfl) b (fun w hw => ?_)
  match w with
  | ⟨0, _⟩ => rfl
  | ⟨1, _⟩ => rfl
  | ⟨2, _⟩ => exact absurd hw h
  | ⟨3, _⟩ => exact absurd hw h'

theorem X11_keeps (c : Dev nD) (b : DevRef τ sig) (h : b ≠ Proc.devRef .tc main_v32) : X11 m c b = X10 m c b := by
  refine keepsDev (R3.dat (a3 m) (X10 m) c) (X10 m c) (launch3 (F := F)).win.arr_inj (fun w => by first | exact R3.A_eq (a3 m) (X10 m) c w | rfl) b (fun w hw => ?_)
  match w with
  | ⟨0, _⟩ => rfl
  | ⟨1, _⟩ => rfl
  | ⟨2, _⟩ => rfl
  | ⟨3, _⟩ => rfl
  | ⟨4, _⟩ => exact absurd hw h

theorem upd1 (V X : Valuation τ sig (Elt F)) (r : DevRef τ sig) (h : ∀ b, b ≠ r → X b = V b) : Function.update V r (X r) = X := by
  funext b
  by_cases e : b = r
  · subst e; exact Function.update_self ..
  · exact (Function.update_of_ne e _ _).trans (h b e).symm
theorem upd2 (V X : Valuation τ sig (Elt F)) (r r' : DevRef τ sig) (h : ∀ b, b ≠ r → b ≠ r' → X b = V b) :
    Function.update (Function.update V r (X r)) r' (X r') = X := by
  funext b
  by_cases e : b = r'
  · subst e; exact Function.update_self ..
  · refine (Function.update_of_ne e _ _).trans ?_
    by_cases e' : b = r
    · subst e'; exact Function.update_self ..
    · exact (Function.update_of_ne e' _ _).trans (h b e' e).symm

theorem V2_eq (c : Dev nD) : V2 m (outs m) c = X2 m c := upd1 _ _ _ (X2_keeps m c)
theorem V3_eq (c : Dev nD) : V3 m (outs m) c = X3 m c := by
  show Function.update (Function.update (V2 m (outs m) c) _ _) _ _ = _
  rw [V2_eq]; exact upd2 _ _ _ _ (X3_keeps m c)
theorem V4_eq (c : Dev nD) : V4 m (outs m) c = X4 m c := by
  show StableHlo.after hostOps2 (V3 m (outs m) c) = _
  rw [V3_eq]; rfl
theorem V5_eq (c : Dev nD) : V5 m (outs m) c = X5 m c := by
  show Function.update (Function.update (V4 m (outs m) c) _ _) _ _ = _
  rw [V4_eq]; exact upd2 _ _ _ _ (X5_keeps m c)
theorem V10_eq (c : Dev nD) : V10 m (outs m) c = X10 m c := by
  show StableHlo.after hostOps3_4 (StableHlo.after hostOps3_3 (StableHlo.after hostOps3_2 (StableHlo.after hostOps3_1 (StableHlo.after hostOps3 (V5 m (outs m) c))))) = _
  rw [V5_eq]; rfl
theorem V11_eq (c : Dev nD) : V11 m (outs m) c = X11 m c := by
  show Function.update (V10 m (outs m) c) _ _ = _
  rw [V10_eq]; exact upd1 _ _ _ (X11_keeps m c)
theorem V12_eq (c : Dev nD) : V12 m (outs m) c = X12 m c := by
  show StableHlo.after hostOps4 (V11 m (outs m) c) = _
  rw [V11_eq]; rfl

/-! ## The regions as segments -/

/-- The tables' contents, call by call, -/
def adm : (p : Fin 4) → (pcfgs (F := F) p).Adm := fun
  | ⟨0, _⟩ => a0 m
  | ⟨1, _⟩ => a1 m
  | ⟨2, _⟩ => (Pipeline.Cfg.toPCfg_adm cfg2)
  | ⟨3, _⟩ => a3 m

/-- and the regions' proof data. -/
def pdats : (p : Fin 4) → (c : Dev nD) → Dat τ (Elt F) Unit ℕ (UR sig nD τ) ℕ (Pipeline.pin (pcfgs (F := F)) (adm m) p) c := fun
  | ⟨0, _⟩ => R0.dat (a0 m) (V1 m)
  | ⟨1, _⟩ => R1.dat (a1 m) (X2 m)
  | ⟨2, _⟩ => R2.dat (X4 m)
  | ⟨3, _⟩ => R3.dat (a3 m) (X10 m)

/-- One level for the pipelines' own counters. -/
def LL : GSem nD τ sig → Finset Unit := fun g => if g.1.2 = .tc then {()} else ∅
def lvl : GSem nD τ sig → Unit → ℕ := fun _ _ => 0

theorem cut (p : Fin 4) : Pipeline.LevelCut (pcfgs (F := F)) (adm m) () LL lvl p (fun _ => 0) (fun _ => 0) where
  hι c w s := by unfold LL; rw [if_pos rfl]; exact Finset.mem_singleton_self _
  hιb c w s := le_refl _
  hD c g i h := absurd h (lt_irrefl _)

/-- What rides along between regions. -/
def RG (c : Dev nD) : sProp 𝕄 := iprop(∃ r, prngReg c r)
def EE : Fin 5 → Dev nD → sProp 𝕄 := fun _ c => iprop((∃ Wd, owes (c : Thread nD τ) (0 : CellTallies nD τ sig Unit) Wd) ∗ RG (F := F) c ∗ emp)

/-- Call 0 as a segment. -/
def reg0 : RegionSeg (pcfgs (F := F)) (adm m) (pdats m) () (defs₀ (F := F)) Variants.none LL lvl 0 :=
  RegionSeg.ofHeldInT _ _ _ _ _ _ _ _ 0 (fun _ => 0) (Pipeline.ucRefs τ sig) (RG (F := F)) (RG (F := F)) launch0
    (fun c => (R0.body_obligation (a0 m) (V1 m) c).loose) (fun _ _ => rfl) (fun _ => rfl)
    (fun c w => by show ((R0.dat (a0 m) (V1 m)) c).share w = fullShare; exact ((R0.dat (a0 m) (V1 m)) c).share_full (fun _ => rfl) w)
    (fun c => R0.hin (a0 m) (V1 m) c) (fun c => R0.hout (a0 m) (V1 m) c) (fun _ => 0) (cut m 0) (fun _ => iprop(emp)) (V1 m)
    (fun c w => rfl) (fun c k => by rw [dev_eq c]; rfl)
theorem tblSwap1 (c : Dev nD) : iprop((Pipeline.scopedRest spec1 c ∗ RG (F := F) c) ∗ Pipeline.prefHeld pre1 c (fun _ => fullShare) (a1 m).1) ⊢ ((R1.dat (a1 m) (X2 m)) c).Φ 0 := by
  rw [R1.tables_eq (a1 m) c]
  exact .rfl
theorem tblBack1 (c : Dev nD) : ((R1.dat (a1 m) (X2 m)) c).Φ (Fin.last (cfg1 (a1 m)).N) ⊢ iprop((Pipeline.scopedRest spec1 c ∗ RG (F := F) c) ∗ Pipeline.prefHeld pre1 c (fun _ => fullShare) (a1 m).1) := by
  rw [R1.tables_eq (a1 m) c]
  exact .rfl
/-- Call 1 as a segment. -/
def reg1 : RegionSeg (pcfgs (F := F)) (adm m) (pdats m) () (defs₀ (F := F)) Variants.none LL lvl 1 :=
  RegionSeg.ofHeldInT _ _ _ _ _ _ _ _ 1 (fun _ => 0) (Pipeline.ucRefs τ sig) (RG (F := F)) (RG (F := F)) launch1
    (fun c => (R1.body_obligation (a1 m) (X2 m) c).loose) (fun _ _ => rfl) (fun _ => rfl)
    (fun c w => by show ((R1.dat (a1 m) (X2 m)) c).share w = fullShare; exact ((R1.dat (a1 m) (X2 m)) c).share_full (fun _ => rfl) w)
    (fun c => tblSwap1 m c) (fun c => tblBack1 m c) (fun _ => 0) (cut m 1) (fun _ => iprop(emp)) (X2 m)
    (fun c w => rfl) (fun c k => by rw [dev_eq c]; rfl)
/-- Call 2 as a segment. -/
def reg2 : RegionSeg (pcfgs (F := F)) (adm m) (pdats m) () (defs₀ (F := F)) Variants.none LL lvl 2 :=
  RegionSeg.ofHeldIn _ _ _ _ _ _ _ _ 2 (fun _ => 0) (Pipeline.ucRefs τ sig) (RG (F := F)) (RG (F := F)) (launch2 (F := F)) rfl
    (fun c => (R2.body_obligation (X4 m) c).loose) (fun _ _ => rfl) (fun _ => rfl)
    (fun c w => by show ((R2.dat (X4 m)) c).share w = fullShare; exact ((R2.dat (X4 m)) c).share_full (fun _ => rfl) w)
    (fun c => .rfl) (fun c => .rfl) (fun _ => 0) (cut m 2) (fun _ => iprop(emp)) (X4 m)
    (fun c w => rfl)
theorem tblSwap3 (c : Dev nD) : iprop((Pipeline.scopedRest spec3 c ∗ RG (F := F) c) ∗ Pipeline.prefHeld pre3 c (fun _ => fullShare) (a3 m).1) ⊢ ((R3.dat (a3 m) (X10 m)) c).Φ 0 := by
  rw [R3.tables_eq (a3 m) c]
  exact .rfl
theorem tblBack3 (c : Dev nD) : ((R3.dat (a3 m) (X10 m)) c).Φ (Fin.last (cfg3 (a3 m)).N) ⊢ iprop((Pipeline.scopedRest spec3 c ∗ RG (F := F) c) ∗ Pipeline.prefHeld pre3 c (fun _ => fullShare) (a3 m).1) := by
  rw [R3.tables_eq (a3 m) c]
  exact .rfl
/-- Call 3 as a segment. -/
def reg3 : RegionSeg (pcfgs (F := F)) (adm m) (pdats m) () (defs₀ (F := F)) Variants.none LL lvl 3 :=
  RegionSeg.ofHeldInT _ _ _ _ _ _ _ _ 3 (fun _ => 0) (Pipeline.ucRefs τ sig) (RG (F := F)) (RG (F := F)) launch3
    (fun c => (R3.body_obligation (a3 m) (X10 m) c).loose) (fun _ _ => rfl) (fun _ => rfl)
    (fun c w => by show ((R3.dat (a3 m) (X10 m)) c).share w = fullShare; exact ((R3.dat (a3 m) (X10 m)) c).share_full (fun _ => rfl) w)
    (fun c => tblSwap3 m c) (fun c => tblBack3 m c) (fun _ => 0) (cut m 3) (fun _ => iprop(emp)) (X10 m)
    (fun c w => rfl) (fun c k => by rw [dev_eq c]; rfl)
theorem sub0 : Pipeline.arrRefs (pcfgs (F := F) 0).spec ⊆ Pipeline.ucRefs τ sig := by
  exact Pipeline.arrRefs_sub_ucRefs _ (launch0 (F := F)).win.arr_unscoped
theorem pre0_link (c : Dev nD) : iprop(StableHlo.held (c : Thread nD τ) (Pipeline.ucRefs τ sig) (V1 m c) ∗ EE (F := F) 0 c) ⊢ (reg0 m).pre c := by
  unfold reg0 EE
  exact RegionSeg.ofHeldInT_pre (pcs := pcfgs (F := F)) (a := adm m) (pdats := pdats m) (ι := ()) (defs₀ := defs₀ (F := F)) (𝒱₀ := Variants.none) (L := LL) (lv := lvl) (p := 0) (D := fun _ => 0) (S := Pipeline.ucRefs τ sig) (X := RG (F := F)) (Y := RG (F := F)) (R := fun _ => iprop(emp)) (W := V1 m) (sub0 (F := F)) (Pipeline.tblRefs_sub_ucRefs pre0 (preFacts0.unscoped)) c
theorem post0_link (c : Dev nD) : (reg0 m).post c ⊢ iprop(StableHlo.held (c : Thread nD τ) (Pipeline.ucRefs τ sig) (X2 m c) ∗ EE (F := F) 1 c) := by
  unfold reg0 EE
  exact RegionSeg.ofHeldInT_post (pcs := pcfgs (F := F)) (a := adm m) (pdats := pdats m) (ι := ()) (defs₀ := defs₀ (F := F)) (𝒱₀ := Variants.none) (L := LL) (lv := lvl) (p := 0) (D := fun _ => 0) (S := Pipeline.ucRefs τ sig) (X := RG (F := F)) (Y := RG (F := F)) (R := fun _ => iprop(emp)) (W := V1 m) (sub0 (F := F)) (Pipeline.tblRefs_sub_ucRefs pre0 (preFacts0.unscoped)) c
theorem sub1 : Pipeline.arrRefs (pcfgs (F := F) 1).spec ⊆ Pipeline.ucRefs τ sig := by
  exact Pipeline.arrRefs_sub_ucRefs _ (launch1 (F := F)).win.arr_unscoped
theorem pre1_link (c : Dev nD) : iprop(StableHlo.held (c : Thread nD τ) (Pipeline.ucRefs τ sig) (X2 m c) ∗ EE (F := F) 1 c) ⊢ (reg1 m).pre c := by
  unfold reg1 EE
  exact RegionSeg.ofHeldInT_pre (pcs := pcfgs (F := F)) (a := adm m) (pdats := pdats m) (ι := ()) (defs₀ := defs₀ (F := F)) (𝒱₀ := Variants.none) (L := LL) (lv := lvl) (p := 1) (D := fun _ => 0) (S := Pipeline.ucRefs τ sig) (X := RG (F := F)) (Y := RG (F := F)) (R := fun _ => iprop(emp)) (W := X2 m) (sub1 (F := F)) (Pipeline.tblRefs_sub_ucRefs pre1 (preFacts1.unscoped)) c
theorem post1_link (c : Dev nD) : (reg1 m).post c ⊢ iprop(StableHlo.held (c : Thread nD τ) (Pipeline.ucRefs τ sig) (X3 m c) ∗ EE (F := F) 2 c) := by
  unfold reg1 EE
  exact RegionSeg.ofHeldInT_post (pcs := pcfgs (F := F)) (a := adm m) (pdats := pdats m) (ι := ()) (defs₀ := defs₀ (F := F)) (𝒱₀ := Variants.none) (L := LL) (lv := lvl) (p := 1) (D := fun _ => 0) (S := Pipeline.ucRefs τ sig) (X := RG (F := F)) (Y := RG (F := F)) (R := fun _ => iprop(emp)) (W := X2 m) (sub1 (F := F)) (Pipeline.tblRefs_sub_ucRefs pre1 (preFacts1.unscoped)) c
theorem sub2 : Pipeline.arrRefs (pcfgs (F := F) 2).spec ⊆ Pipeline.ucRefs τ sig := by
  exact Pipeline.arrRefs_sub_ucRefs _ (launch2 (F := F)).win.arr_unscoped
theorem pre2_link (c : Dev nD) : iprop(StableHlo.held (c : Thread nD τ) (Pipeline.ucRefs τ sig) (X4 m c) ∗ EE (F := F) 2 c) ⊢ (reg2 m).pre c := by
  unfold reg2 EE
  exact RegionSeg.ofHeldIn_pre (pcs := pcfgs (F := F)) (a := adm m) (pdats := pdats m) (ι := ()) (defs₀ := defs₀ (F := F)) (𝒱₀ := Variants.none) (L := LL) (lv := lvl) (p := 2) (D := fun _ => 0) (S := Pipeline.ucRefs τ sig) (X := RG (F := F)) (Y := RG (F := F)) (R := fun _ => iprop(emp)) (W := X4 m) (sub2 (F := F)) c
theorem post2_link (c : Dev nD) : (reg2 m).post c ⊢ iprop(StableHlo.held (c : Thread nD τ) (Pipeline.ucRefs τ sig) (X5 m c) ∗ EE (F := F) 3 c) := by
  unfold reg2 EE
  exact RegionSeg.ofHeldIn_post (pcs := pcfgs (F := F)) (a := adm m) (pdats := pdats m) (ι := ()) (defs₀ := defs₀ (F := F)) (𝒱₀ := Variants.none) (L := LL) (lv := lvl) (p := 2) (D := fun _ => 0) (S := Pipeline.ucRefs τ sig) (X := RG (F := F)) (Y := RG (F := F)) (R := fun _ => iprop(emp)) (W := X4 m) (sub2 (F := F)) c
theorem sub3 : Pipeline.arrRefs (pcfgs (F := F) 3).spec ⊆ Pipeline.ucRefs τ sig := by
  exact Pipeline.arrRefs_sub_ucRefs _ (launch3 (F := F)).win.arr_unscoped
theorem pre3_link (c : Dev nD) : iprop(StableHlo.held (c : Thread nD τ) (Pipeline.ucRefs τ sig) (X10 m c) ∗ EE (F := F) 3 c) ⊢ (reg3 m).pre c := by
  unfold reg3 EE
  exact RegionSeg.ofHeldInT_pre (pcs := pcfgs (F := F)) (a := adm m) (pdats := pdats m) (ι := ()) (defs₀ := defs₀ (F := F)) (𝒱₀ := Variants.none) (L := LL) (lv := lvl) (p := 3) (D := fun _ => 0) (S := Pipeline.ucRefs τ sig) (X := RG (F := F)) (Y := RG (F := F)) (R := fun _ => iprop(emp)) (W := X10 m) (sub3 (F := F)) (Pipeline.tblRefs_sub_ucRefs pre3 (preFacts3.unscoped)) c
theorem post3_link (c : Dev nD) : (reg3 m).post c ⊢ iprop(StableHlo.held (c : Thread nD τ) (Pipeline.ucRefs τ sig) (X11 m c) ∗ EE (F := F) 4 c) := by
  unfold reg3 EE
  exact RegionSeg.ofHeldInT_post (pcs := pcfgs (F := F)) (a := adm m) (pdats := pdats m) (ι := ()) (defs₀ := defs₀ (F := F)) (𝒱₀ := Variants.none) (L := LL) (lv := lvl) (p := 3) (D := fun _ => 0) (S := Pipeline.ucRefs τ sig) (X := RG (F := F)) (Y := RG (F := F)) (R := fun _ => iprop(emp)) (W := X10 m) (sub3 (F := F)) (Pipeline.tblRefs_sub_ucRefs pre3 (preFacts3.unscoped)) c

end Cert.Kernel.Run
-- ==== Proof.K.RunEnd.lean ====
/-
  The whole program's run: from any launch memory it ends with the results at the last valuation.
-/
module

public import proofs.«01_k».proof.Proof.Gen.Kernel.Launch
public import proofs.«01_k».proof.Proof.Gen.Kernel.Regions
public import proofs.«01_k».proof.Proof.K.Tabs
public import proofs.«01_k».proof.Proof.K.Run
public import proofs.«01_k».proof.Proof.K.R1
public import proofs.«01_k».proof.Proof.K.R2
public import proofs.«01_k».proof.Proof.K.R3
public import Idealize.ShloMosaic.Lib.Pipeline.Regions
public import Idealize.ShloMosaic.Lib.Pipeline.RegionArraysS
public import Idealize.ShloMosaic.Lib.Pipeline.RegionArraysTS

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-- The TensorCore alone carries a level. -/
theorem hL : ∀ g : GSem nD τ sig, g.1.2 ≠ .tc → LL g = ∅ := fun g h => by unfold LL; rw [if_neg h]

theorem hE0c (ρ : Dev nD → PrngReg) (c : Dev nD) : iprop(unscopedSems0 c ∗ owes (c : Thread nD τ) (0 : CellTallies nD τ sig Unit) ∅ ∗ Pipeline.launchCred (fun _ => 0) c ∗ prngReg c (ρ c) ∗ emp)
      ⊢ (EE (F := F) 0 c : sProp 𝕄) := by
  unfold EE RG
  iintro ⟨-, HO, -, Hp, -⟩
  isplitl [HO]; · iexists _; iexact HO
  isplitl [Hp]; · iexists _; iexact Hp
  iempintro

theorem hE0 (ρ : Dev nD → PrngReg) : iprop((bigSep Finset.univ fun c : Dev nD => iprop(unscopedSems0 c ∗ owes (c : Thread nD τ) (0 : CellTallies nD τ sig Unit) ∅ ∗ Pipeline.launchCred (fun _ => 0) c ∗ prngReg c (ρ c) ∗ emp)) ∗ levAts LL lvl)
      ⊢ (|={Set.univ}=> bigSep Finset.univ (EE (F := F) 0) : sProp 𝕄) := by
  have h : (bigSep Finset.univ fun c : Dev nD => iprop(unscopedSems0 c ∗ owes (c : Thread nD τ) (0 : CellTallies nD τ sig Unit) ∅ ∗ Pipeline.launchCred (fun _ => 0) c ∗ prngReg c (ρ c) ∗ emp))
      ⊢ (bigSep Finset.univ (EE (F := F) 0) : sProp 𝕄) := bigSep_mono fun c _ => hE0c ρ c
  iintro ⟨H, -⟩
  imodintro
  iapply h
  iexact H

theorem hE4 (c : Dev nD) : EE (F := F) 4 c ⊢ (iprop(∃ W, owes (c : Thread nD τ) (0 : CellTallies nD τ sig Unit) W) : sProp 𝕄) := by
  unfold EE
  iintro ⟨H, -⟩
  iexact H

set_option backward.isDefEq.respectTransparency.types false in
/-- THE RUN: from any memory the program terminates with every argument as launched, every result at the last valuation and
    every counter at zero. -/
theorem run (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_v33) = X12 m c main_v33
      ∧ r.2.mem ((c.tc : Thread nD τ).loc main_v34) = X12 m c main_v34
      ∧ r.2.mem ((c.tc : Thread nD τ).loc main_v4_0) = X12 m c main_v4_0
      ∧ r.2.mem ((c.tc : Thread nD τ).loc main_v35) = X12 m c main_v35
      ∧ r.2.mem ((c.tc : Thread nD τ).loc main_v2_0) = X12 m c main_v2_0
      ∧ r.2.mem ((c.tc : Thread nD τ).loc main_v36) = X12 m c main_v36)
      ∧ r.2.sem = fun _ => 0) := by
  have hpre0 : ∀ c : Dev nD, iprop(StableHlo.held (c : Thread nD τ) (Pipeline.ucRefs τ sig) (V1 m c) ∗ EE (F := F) 0 c) ⊢ (reg0 m).pre c := pre0_link m
  have hpost0 : ∀ c : Dev nD, (reg0 m).post c ⊢ iprop(StableHlo.held (c : Thread nD τ) (Pipeline.ucRefs τ sig) (V2 m (outs m) c) ∗ EE (F := F) 1 c) := fun c => by rw [V2_eq]; exact post0_link m c
  have hpre1 : ∀ c : Dev nD, iprop(StableHlo.held (c : Thread nD τ) (Pipeline.ucRefs τ sig) (V2 m (outs m) c) ∗ EE (F := F) 1 c) ⊢ (reg1 m).pre c := fun c => by rw [V2_eq]; exact pre1_link m c
  have hpost1 : ∀ c : Dev nD, (reg1 m).post c ⊢ iprop(StableHlo.held (c : Thread nD τ) (Pipeline.ucRefs τ sig) (V3 m (outs m) c) ∗ EE (F := F) 2 c) := fun c => by rw [V3_eq]; exact post1_link m c
  have hpre2 : ∀ c : Dev nD, iprop(StableHlo.held (c : Thread nD τ) (Pipeline.ucRefs τ sig) (V4 m (outs m) c) ∗ EE (F := F) 2 c) ⊢ (reg2 m).pre c := fun c => by rw [V4_eq]; exact pre2_link m c
  have hpost2 : ∀ c : Dev nD, (reg2 m).post c ⊢ iprop(StableHlo.held (c : Thread nD τ) (Pipeline.ucRefs τ sig) (V5 m (outs m) c) ∗ EE (F := F) 3 c) := fun c => by rw [V5_eq]; exact post2_link m c
  have hpre3 : ∀ c : Dev nD, iprop(StableHlo.held (c : Thread nD τ) (Pipeline.ucRefs τ sig) (V10 m (outs m) c) ∗ EE (F := F) 3 c) ⊢ (reg3 m).pre c := fun c => by rw [V10_eq]; exact pre3_link m c
  have hpost3 : ∀ c : Dev nD, (reg3 m).post c ⊢ iprop(StableHlo.held (c : Thread nD τ) (Pipeline.ucRefs τ sig) (V11 m (outs m) c) ∗ EE (F := F) 4 c) := fun c => by rw [V11_eq]; exact post3_link m c
  refine Pipeline.θ_run_regions_kit_dev_sems (pcfgs (F := F)) (adm m) (pdats m) () (cellOf_inj (adm m)) emb₁ defs₀ Variants.none LL lvl m ρ main
    (segs m (outs m) Variants.none LL lvl (EE (F := F)) () (adm m) (pdats m) (reg0 m) (reg1 m) (reg2 m) (reg3 m))
    (fun c Q => by
      rewrite [main_chain c, Seg.run_eq_chain,
        show (segs m (outs m) Variants.none LL lvl (EE (F := F)) () (adm m) (pdats m) (reg0 m) (reg1 m) (reg2 m) (reg3 m) c).map Seg.prog = [
          StableHlo.seq hostOps0,
          Prog.lift (.customCall (Pipeline.entry 0) ()),
          Prog.lift (.customCall (Pipeline.entry 1) ()),
          StableHlo.seq hostOps2,
          Prog.lift (.customCall (Pipeline.entry 2) ()),
          StableHlo.seq hostOps3,
          StableHlo.seq hostOps3_1,
          StableHlo.seq hostOps3_2,
          StableHlo.seq hostOps3_3,
          StableHlo.seq hostOps3_4,
          Prog.lift (.customCall (Pipeline.entry 3) ()),
          StableHlo.seq hostOps4 ] from rfl]
      dsimp (config := { failIfUnchanged := false }) only
      exact .rfl)
    (fun c => by simp only [segs, Seg.pipes_host, Seg.pipes_region, Seg.pipes_nil]; decide) (fun _ => 0) hL (fun _ => iprop(emp)) (initOf (Pipeline.cells (Pipeline.pin (pcfgs (F := F)) (adm m)) (cellOf_inj (adm m))) (Pipeline.launchToks (Pipeline.pin (pcfgs (F := F)) (adm m)) (cellOf_inj (adm m))))
    (by
      iintro Hu; imodintro
      isplitl [Hu]; · iapply (show (ownU _ : sProp 𝕄) ⊢ BI.own (emb₁ (initOf (Pipeline.cells (Pipeline.pin (pcfgs (F := F)) (adm m)) (cellOf_inj (adm m))) (Pipeline.launchToks (Pipeline.pin (pcfgs (F := F)) (adm m)) (cellOf_inj (adm m))))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ EE (F := F) 0 c))
    (Tₙ := fun c => StableHlo.held (c : Thread nD τ) (Pipeline.ucRefs τ sig) (V12 m (outs m) c))
    (hch := fun c => ⟨.rfl, hpre0 c, (hpost0 c).trans (hpre1 c), hpost1 c, hpre2 c, hpost2 c, .rfl, .rfl, .rfl, .rfl, hpre3 c, hpost3 c, sep_mono .rfl (hE4 c)⟩)
    (hinit := ?_) (QY := fun c s => s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_v33) = X12 m c main_v33 ∧ s.mem ((c.tc : Thread nD τ).loc main_v34) = X12 m c main_v34 ∧ s.mem ((c.tc : Thread nD τ).loc main_v4_0) = X12 m c main_v4_0 ∧ s.mem ((c.tc : Thread nD τ).loc main_v35) = X12 m c main_v35 ∧ s.mem ((c.tc : Thread nD τ).loc main_v2_0) = X12 m c main_v2_0 ∧ s.mem ((c.tc : Thread nD τ).loc main_v36) = X12 m c main_v36)
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) ((0 : CellTallies nD τ sig Unit)) ∅ ∗ Pipeline.launchCred (fun _ => 0) c ∗ prngReg c (ρ c) ∗ emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : CellTallies nD τ sig Unit)) ∅ ∗ Pipeline.launchCred (fun _ => 0) c ∗ prngReg c (ρ c) ∗ emp))
            : sProp (MT nD τ sig Unit (Elt F) ℕ (UR sig nD τ) ℕ)) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (hE0 ρ) $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V12 m (outs m) c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (V12_main_arg0 m (outs m) c),
        (h (Proc.devRef .tc main_arg1) (Finset.mem_filter.mpr ⟨StableHlo.devRef_mem_tcRefs main_arg1, by decide⟩)).trans (V12_main_arg1 m (outs m) c),
        (h (Proc.devRef .tc main_arg2) (Finset.mem_filter.mpr ⟨StableHlo.devRef_mem_tcRefs main_arg2, by decide⟩)).trans (V12_main_arg2 m (outs m) c),
        (h (Proc.devRef .tc main_arg3) (Finset.mem_filter.mpr ⟨StableHlo.devRef_mem_tcRefs main_arg3, by decide⟩)).trans (V12_main_arg3 m (outs m) c),
        (h (Proc.devRef .tc main_v33) (Finset.mem_filter.mpr ⟨StableHlo.devRef_mem_tcRefs main_v33, by decide⟩)).trans (congrFun (V12_eq m c) _),
        (h (Proc.devRef .tc main_v34) (Finset.mem_filter.mpr ⟨StableHlo.devRef_mem_tcRefs main_v34, by decide⟩)).trans (congrFun (V12_eq m c) _),
        (h (Proc.devRef .tc main_v4_0) (Finset.mem_filter.mpr ⟨StableHlo.devRef_mem_tcRefs main_v4_0, by decide⟩)).trans (congrFun (V12_eq m c) _),
        (h (Proc.devRef .tc main_v35) (Finset.mem_filter.mpr ⟨StableHlo.devRef_mem_tcRefs main_v35, by decide⟩)).trans (congrFun (V12_eq m c) _),
        (h (Proc.devRef .tc main_v2_0) (Finset.mem_filter.mpr ⟨StableHlo.devRef_mem_tcRefs main_v2_0, by decide⟩)).trans (congrFun (V12_eq m c) _),
        (h (Proc.devRef .tc main_v36) (Finset.mem_filter.mpr ⟨StableHlo.devRef_mem_tcRefs main_v36, by decide⟩)).trans (congrFun (V12_eq m c) _)⟩
    · iexact HSI

end Cert.Kernel.Run
-- ==== Proof.KI.Tabs.lean ====
/-
  The tables of the three calls that prefetch one: the index maps they feed stay inside the arrays.
-/
module

public import proofs.«01_k».proof.Proof.Gen.KernelIdeal.Launch
public import proofs.«01_k».proof.Proof.Gen.KernelIdeal.Regions
public import proofs.«01_k».proof.Proof.Words
public import Idealize.ShloMosaic.Lib.SortFacts
public import Idealize.ShloMosaic.Lib.ValueIdx

@[expose] public section

set_option maxRecDepth 16384

noncomputable section

namespace Cert.KernelIdeal.Tabs

open Cert.KernelIdeal.Gen
open Idealize.ShloMosaic Idealize.ShloMosaic.TcCoe

variable {F : FTy → Type} [FloatOps F]

theorem lt0 (i : grid0.Coords) : (i 0).val < 8 := (i 0).isLt
theorem lt1 (i : grid0.Coords) : (i 1).val < 4 := (i 1).isLt

/-- The length call 0's index map reads, -/
def len0 (pf : pre0.Contents (Elt F)) (i : grid0.Coords) : BitVec 32 := pf.at 0 (Rect.unit (s := S8) (k0_off1 i) S1.size (k0_off1_inb i)) numel1_S1
/-- and the map's block: the batch, and the tile's position clamped by the length. -/
theorem tr0 (pf : pre0.Contents (Elt F)) (i : grid0.Coords) :
    cc0_transform_0 k0_off1_inb numel1_S1 pf i = ![(i 0).val, (Cert.Words.clampBlk 512#32 (len0 pf i) (BitVec.ofNat 32 (i 1).val)).toNat, 0] := by
  have h : cc0_transform_0 k0_off1_inb numel1_S1 pf i = ![(BitVec.ofNat 32 (i 0).val).toNat, (Cert.Words.clampBlk 512#32 (len0 pf i) (BitVec.ofNat 32 (i 1).val)).toNat, 0] := rfl
  rw [h, WordCmp.toNat_ofNat_of_lt (by have := lt0 i; omega)]

theorem ok0_any (pf : pre0.Contents (Elt F)) : ok0 pf := by
  intro i
  have e := tr0 pf i
  have hc := Cert.Words.clampBlk_le 512#32 (len0 pf i) (by decide) (i 1).val (by have := lt1 i; omega)
  have h0 := lt0 i
  have h1 := lt1 i
  refine ⟨?_, .inr (Affine.block_words_dvd (of_decide_eq_true rfl) (by decide))⟩
  intro a
  rw [e]
  match a with
  | ⟨0, _⟩ => show ((i 0).val + 1) * 1 ≤ 8; omega
  | ⟨1, _⟩ => show ((Cert.Words.clampBlk 512#32 (len0 pf i) (BitVec.ofNat 32 (i 1).val)).toNat + 1) * 512 ≤ 2048; omega
  | ⟨2, _⟩ => show (0 + 1) * 4096 ≤ 4096; omega

theorem lt0' (i : grid1.Coords) : (i 0).val < 8 := (i 0).isLt
theorem lt1' (i : grid1.Coords) : (i 1).val < 8 := (i 1).isLt

def len1 (pf : pre1.Contents (Elt F)) (i : grid1.Coords) : BitVec 32 := pf.at 0 (Rect.unit (s := S8) (k1_off1 i) S1.size (k1_off1_inb i)) numel1_S1
theorem tr1 (pf : pre1.Contents (Elt F)) (i : grid1.Coords) :
    cc1_transform_0 k1_off1_inb numel1_S1 pf i = ![(i 0).val, (Cert.Words.clampBlk 256#32 (len1 pf i) (BitVec.ofNat 32 (i 1).val)).toNat, 0] := by
  have h : cc1_transform_0 k1_off1_inb numel1_S1 pf i = ![(BitVec.ofNat 32 (i 0).val).toNat, (Cert.Words.clampBlk 256#32 (len1 pf i) (BitVec.ofNat 32 (i 1).val)).toNat, 0] := rfl
  rw [h, WordCmp.toNat_ofNat_of_lt (by have := lt0' i; omega)]

theorem ok1_any (pf : pre1.Contents (Elt F)) : ok1 pf := by
  intro i
  have e := tr1 pf i
  have hc := Cert.Words.clampBlk_le 256#32 (len1 pf i) (by decide) (i 1).val (by have := lt1' i; omega)
  have h0 := lt0' i
  have h1 := lt1' i
  refine ⟨?_, .inr (Affine.block_words_dvd (of_decide_eq_true rfl) (by decide))⟩
  intro a
  rw [e]
  match a with
  | ⟨0, _⟩ => show ((i 0).val + 1) * 1 ≤ 8; omega
  | ⟨1, _⟩ => show ((Cert.Words.clampBlk 256#32 (len1 pf i) (BitVec.ofNat 32 (i 1).val)).toNat + 1) * 256 ≤ 2048; omega
  | ⟨2, _⟩ => show (0 + 1) * 4096 ≤ 4096; omega

/-- Call 3's side condition, from every word of the order and row tables being a tile. -/
theorem ok3_of (pf : pre3.Contents (Elt F)) (h0 : ∀ x, (pf 0 x : BitVec 32).toNat < 32) (h2 : ∀ x, (pf 2 x : BitVec 32).toNat < 32) : ok3 pf := by
  have lt (i : grid3.Coords) : (i 0).val < 14 := (i 0).isLt
  refine ⟨fun i => ⟨?_, .inr (Affine.block_words_dvd (of_decide_eq_true rfl) (by decide))⟩, fun i => ⟨?_, .inl rfl⟩,
    fun i => ⟨?_, .inr (Affine.block_words_dvd (of_decide_eq_true rfl) (by decide))⟩⟩
  · intro a
    have e : ∃ x, cc3_transform_0 k3_off1_inb numel1_S1 pf i = ![(pf 2 x : BitVec 32).toNat, 0] := ⟨_, rfl⟩
    obtain ⟨x, e⟩ := e
    have := h2 x
    rw [e]
    match a with
    | ⟨0, _⟩ => show ((pf 2 x : BitVec 32).toNat + 1) * 512 ≤ 16384; omega
    | ⟨1, _⟩ => show (0 + 1) * 4096 ≤ 4096; omega
  · intro a
    have e : ∃ x, cc3_transform_2 k3_off1_inb numel1_S1 pf i = ![(pf 2 x : BitVec 32).toNat, 0] := ⟨_, rfl⟩
    obtain ⟨x, e⟩ := e
    have := h2 x
    rw [e]
    match a with
    | ⟨0, _⟩ => show ((pf 2 x : BitVec 32).toNat + 1) * 512 ≤ 16384; omega
    | ⟨1, _⟩ => show (0 + 1) * 1 ≤ 1; omega
  · intro a
    have e : ∃ x, cc3_transform_4 k3_off1_inb numel1_S1 pf i = ![(pf 0 x : BitVec 32).toNat, (BitVec.ofNat 32 (i 0).val).toNat] := ⟨_, rfl⟩
    obtain ⟨x, e⟩ := e
    have := h0 x
    have := lt i
    rw [e, WordCmp.toNat_ofNat_of_lt (by omega)]
    match a with
    | ⟨0, _⟩ => show ((pf 0 x : BitVec 32).toNat + 1) * 512 ≤ 16384; omega
    | ⟨1, _⟩ => show ((i 0).val + 1) * 1024 ≤ 14336; omega

/-! ## The tables of call 3 -/

/-- The position a tile's entry of the order table is sorted from. -/
def src (x : S32.Idx → BitVec 1) (y : S32.Idx → BitVec 32) (t : Fin 32) : Fin 32 :=
  sortedFrom (fun k k' => comparator_i1_i32_d0 (x (ValueIdx.ix1 k), y (ValueIdx.ix1 k)) (x (ValueIdx.ix1 k'), y (ValueIdx.ix1 k')) == 1#1) t

theorem sort2_apply (x : S32.Idx → BitVec 1) (y : S32.Idx → BitVec 32) (t : S32.Idx) :
    (Host.sort2 S32 0 comparator_i1_i32_d0 x y).2 t = y (ValueIdx.ix1 (src x y (t 0))) := by
  have al : ∀ k : Fin 32, Shape.Idx.along t (0 : Fin 1) k = (ValueIdx.ix1 k : S32.Idx) := by
    intro k; funext b
    match b with
    | ⟨0, _⟩ => rfl
  have hs : (Host.sort2 S32 0 comparator_i1_i32_d0 x y).2 t = y (Shape.Idx.along t (0 : Fin 1) (sortedFrom (n := 32) (fun k k' => comparator_i1_i32_d0 (x (Shape.Idx.along t (0 : Fin 1) k), y (Shape.Idx.along t (0 : Fin 1) k)) (x (Shape.Idx.along t (0 : Fin 1) k'), y (Shape.Idx.along t (0 : Fin 1) k')) == 1#1) (t 0))) := rfl
  rw [hs, al]
  unfold src
  congr 3
  funext k k'
  rw [al k, al k']

variable (V : Valuation τ sig (Elt F))

theorem v13_eq : StableHlo.after hostOps3_3 V main_v13 = (Host.sort2 S32 0 comparator_i1_i32_d0 (V main_v12) (iotaInDim S32 32 0)).2 := by
  rfl

theorem v13_apply (t : S32.Idx) : (StableHlo.after hostOps3_3 V main_v13 t : BitVec 32)
    = BitVec.ofNat 32 (src (V main_v12) (iotaInDim S32 32 0) (t 0)).val := by
  rw [v13_eq]
  exact sort2_apply _ _ t

theorem v13_lt (t : S32.Idx) : (StableHlo.after hostOps3_3 V main_v13 t : BitVec 32).toNat < 32 := by
  rw [v13_apply]
  have h := (src (V main_v12) (iotaInDim S32 32 0) (t 0)).isLt
  rw [WordCmp.toNat_ofNat_of_lt (by omega)]; exact h

theorem v29_src (t : S32.Idx) : ∃ y : S32.Idx, StableHlo.after hostOps3_4 V main_v29 t = V main_v13 y := ⟨_, rfl⟩

end Cert.KernelIdeal.Tabs
-- ==== Proof.KI.R0Body.lean ====
/-
  Region 0 (`smooth`): what one grid point computes.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.ValueKit
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.R0

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The table and its word -/

/-- The table the body is handed: the lengths, whole. -/
abbrev tb : Memref sig .tc .smem S8 .i32 := Memref.whole main_arg1
abbrev htb : tb.IsWhole := Memref.isWhole_whole _
abbrev TbBuf (c : Dev nD) {S : Shape} {e : EltTy} (M : Memref sig .tc .smem S e) : Type := Buf (Elt F) (M.view.loc (c : Thread nD τ))
/-- The table held on core `c` at `f`. -/
abbrev tbPt (c : Dev nD) {S : Shape} {e : EltTy} (M : Memref sig .tc .smem S e) (f : TbBuf (F := F) c M) : sProp 𝕄 :=
  M.view.loc (c : Thread nD τ) ↦{fullShare} f
/-- The accumulator's buffer, whole. -/
abbrev scM : Memref sig .tc .vmem S16x4096 .bf16 := Memref.whole cc0_scratch0
abbrev hscM : scM.IsWhole := Memref.isWhole_whole _

/-- The word of the lengths the point reads: its batch's length. -/
abbrev word (pf : pre0.Contents (Elt F)) (i : grid0.Coords) : BitVec 32 := pf.atD 0 (k0_off1 i)

/-- What the body's scalar load reads is that word. -/
theorem readAt_word (c : Dev nD) (pf : pre0.Contents (Elt F)) (i : grid0.Coords) :
    tb.view.readAt (Elt F) (Rect.unit (s := S8) (k0_off1 i) S1.size (k0_off1_inb i)).toLoadRect (pf 0 : TbBuf (F := F) c tb)
      (Shape.Idx.first (numel1_S1.symm ▸ Nat.one_pos)) = word (F := F) pf i := by
  have h : ∀ a, k0_off1 i a + 1 ≤ (pre0.ref 0).ty.shape.size a := fun a => by
    have := k0_off1_inb i a; fin_cases a; exact this
  refine Eq.trans ?_ (dif_pos h).symm
  show pf 0 _ = pf 0 _
  congr 1

/-- The point is the first. -/
abbrev first (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1
/-- The number of valid rows from the tile's first row on, as the kernel computes it. -/
abbrev rem (i : grid0.Coords) (v : BitVec 32) : BitVec 32 := Scalar.subi v (Scalar.muli (BitVec.ofNat 32 (i 1).val) 512#32)
/-- Every row of the tile is valid. -/
abbrev full (i : grid0.Coords) (v : BitVec 32) : Prop := Scalar.cmpi .ne (Scalar.extui (Scalar.cmpi .sge (rem i v) 512#32)) 0#32 = 1#1
/-- Some rows of the tile are valid, not all. -/
abbrev part (i : grid0.Coords) (v : BitVec 32) : Prop :=
  Scalar.cmpi .ne (Scalar.extui (Scalar.andi (Scalar.cmpi .sgt (rem i v) 0#32) (Scalar.cmpi .slt (rem i v) 512#32))) 0#32 = 1#1

/-- The accumulator the point starts from. -/
def acc0 (i : grid0.Coords) (A : Vec F S16x4096 .bf16) : Vec F S16x4096 .bf16 := if first i then k0_pay1 else A
/-- The accumulator after a wholly valid tile. -/
def acc1 (i : grid0.Coords) (v : BitVec 32) (x0 : Vec F S1x512x4096 .bf16) (A : Vec F S16x4096 .bf16) : Vec F S16x4096 .bf16 := if full i v then k0_pay2 x0 A else A
/-- The accumulator after a partly valid tile. -/
def acc2 (i : grid0.Coords) (v : BitVec 32) (x0 : Vec F S1x512x4096 .bf16) (A : Vec F S16x4096 .bf16) : Vec F S16x4096 .bf16 := if part i v then k0_pay3 i v x0 A else A
/-- One point's step of the accumulator. -/
def step (i : grid0.Coords) (v : BitVec 32) (x0 : Vec F S1x512x4096 .bf16) (A : Vec F S16x4096 .bf16) : Vec F S16x4096 .bf16 :=
  acc2 i v x0 (acc1 i v x0 (acc0 i A))

abbrev r_0 : Rect S1x512x4096 := Rect.unit (s := S1x512x4096) ![0, 0, 0] S1x512x4096.size inb_S1x512x4096_S1x512x4096_0_0_0
abbrev r_1 : Rect S1x4096 := Rect.unit (s := S1x4096) ![0, 0] S1x4096.size inb_S1x4096_S1x4096_0_0
abbrev r_s : Rect S16x4096 := Rect.unit (s := S16x4096) ![0, 0] S16x4096.size inb_S16x4096_S16x4096_0_0

theorem off2 : (![0, 0] : Fin 2 → ℕ) = fun _ => 0 := by funext a; fin_cases a <;> rfl
theorem off3 : (![0, 0, 0] : Fin 3 → ℕ) = fun _ => 0 := by funext a; fin_cases a <;> rfl

theorem cover_s (p0 : Vec F S16x4096 .bf16) (y : S16x4096.Idx) :
    ∃ pc ∈ ([⟨r_s, p0⟩] : List (View.Piece (Elt F) S16x4096 .bf16)), y ∈ pc.1.set :=
  View.cover_of_tiled [⟨r_s, p0⟩] S16x4096.size (by rfl) y
theorem cover_1 (p0 : Vec F S1x4096 .f32) (y : S1x4096.Idx) :
    ∃ pc ∈ ([⟨r_1, p0⟩] : List (View.Piece (Elt F) S1x4096 .f32)), y ∈ pc.1.set :=
  View.cover_of_tiled [⟨r_1, p0⟩] S1x4096.size (by rfl) y
theorem canon_s (p : Vec F S16x4096 .bf16) : (View.canon [⟨r_s, p⟩] : Vec F S16x4096 .bf16) = p :=
  View.canon_unit_zero (S := S16x4096) off2 _ _
theorem canon_1 (p : Vec F S1x4096 .f32) : (View.canon [⟨r_1, p⟩] : Vec F S1x4096 .f32) = p :=
  View.canon_unit_zero (S := S1x4096) off2 _ _

/-! ## The body in four parts -/

/-- The first point's clearing of the accumulator. -/
def seg0 (i : grid0.Coords) (arg3 : Memref sig .tc .vmem S1x512x4096 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S16x4096 .bf16) (harg6 : arg6.IsWhole) (k : PUnit.{1} → Prog (TpuEff nD τ sig (Elt F) Λ₀ .tc) PUnit.{1}) :
    Prog (TpuEff nD τ sig (Elt F) Λ₀ .tc) PUnit.{1} := do
  if k0_h1 : first i then do
    let v23 : Vec F S16x4096 .bf16 ← Prog.lift (.load arg6 (Rect.unit (s := S16x4096) ![0, 0] S16x4096.size inb_S16x4096_S16x4096_0_0).toLoadRect (View.loadsAt_vmem h_S16x4096))
    Prog.lift (.store arg6 (Rect.unit (s := S16x4096) ![0, 0] S16x4096.size inb_S16x4096_S16x4096_0_0) (k0_pay1 (F := F)) Finset.univ (View.stores_vmem h_S16x4096 (harg6.storeExact_slice rfl _ packedbf16_S16x4096_S16x4096_0_0) (fun _ => rfl)) (.inl rfl))
    k ⟨⟩
  else do
    k ⟨⟩

/-- The wholly valid tile's maximum. -/
def seg1 (i : grid0.Coords) (v : BitVec 32) (arg3 : Memref sig .tc .vmem S1x512x4096 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S16x4096 .bf16) (harg6 : arg6.IsWhole) (k : PUnit.{1} → Prog (TpuEff nD τ sig (Elt F) Λ₀ .tc) PUnit.{1}) :
    Prog (TpuEff nD τ sig (Elt F) Λ₀ .tc) PUnit.{1} := do
  if full i v then do
    let v22 : Vec F S1x512x4096 .bf16 ← Prog.lift (.load arg3 (Rect.unit (s := S1x512x4096) ![0, 0, 0] S1x512x4096.size inb_S1x512x4096_S1x512x4096_0_0_0).toLoadRect (View.loadsAt_vmem h_S1x512x4096))
    let v27 : Vec F S16x4096 .bf16 ← Prog.lift (.load arg6 (Rect.unit (s := S16x4096) ![0, 0] S16x4096.size inb_S16x4096_S16x4096_0_0).toLoadRect (View.loadsAt_vmem h_S16x4096))
    let v29 : Vec F S16x4096 .bf16 ← Prog.lift (.load arg6 (Rect.unit (s := S16x4096) ![0, 0] S16x4096.size inb_S16x4096_S16x4096_0_0).toLoadRect (View.loadsAt_vmem h_S16x4096))
    Prog.lift (.store arg6 (Rect.unit (s := S16x4096) ![0, 0] S16x4096.size inb_S16x4096_S16x4096_0_0) (k0_pay2 v22 v27) Finset.univ (View.stores_vmem h_S16x4096 (harg6.storeExact_slice rfl _ packedbf16_S16x4096_S16x4096_0_0) (fun _ => rfl)) (.inl rfl))
    k ⟨⟩
  else do
    k ⟨⟩

/-- The partly valid tile's maximum. -/
def seg2 (i : grid0.Coords) (v : BitVec 32) (arg3 : Memref sig .tc .vmem S1x512x4096 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S16x4096 .bf16) (harg6 : arg6.IsWhole) (k : PUnit.{1} → Prog (TpuEff nD τ sig (Elt F) Λ₀ .tc) PUnit.{1}) :
    Prog (TpuEff nD τ sig (Elt F) Λ₀ .tc) PUnit.{1} := do
  if part i v then do
    let v25 : Vec F S1x512x4096 .bf16 ← Prog.lift (.load arg3 (Rect.unit (s := S1x512x4096) ![0, 0, 0] S1x512x4096.size inb_S1x512x4096_S1x512x4096_0_0_0).toLoadRect (View.loadsAt_vmem h_S1x512x4096))
    let v33 : Vec F S16x4096 .bf16 ← Prog.lift (.load arg6 (Rect.unit (s := S16x4096) ![0, 0] S16x4096.size inb_S16x4096_S16x4096_0_0).toLoadRect (View.loadsAt_vmem h_S16x4096))
    let v36 : Vec F S16x4096 .bf16 ← Prog.lift (.load arg6 (Rect.unit (s := S16x4096) ![0, 0] S16x4096.size inb_S16x4096_S16x4096_0_0).toLoadRect (View.loadsAt_vmem h_S16x4096))
    Prog.lift (.store arg6 (Rect.unit (s := S16x4096) ![0, 0] S16x4096.size inb_S16x4096_S16x4096_0_0) (k0_pay3 i v v25 v33) Finset.univ (View.stores_vmem h_S16x4096 (harg6.storeExact_slice rfl _ packedbf16_S16x4096_S16x4096_0_0) (fun _ => rfl)) (.inl rfl))
    k ⟨⟩
  else do
    k ⟨⟩

/-- The last point's scale. -/
def seg3 (i : grid0.Coords) (arg3 : Memref sig .tc .vmem S1x512x4096 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S16x4096 .bf16) (harg6 : arg6.IsWhole) (k : PUnit.{1} → Prog (TpuEff nD τ sig (Elt F) Λ₀ .tc) PUnit.{1}) :
    Prog (TpuEff nD τ sig (Elt F) Λ₀ .tc) PUnit.{1} := do
  if k0_h4 : k0_cond4 i = 1#1 then do
    let v22 : Vec F S16x4096 .bf16 ← Prog.lift (.load arg6 (Rect.unit (s := S16x4096) ![0, 0] S16x4096.size inb_S16x4096_S16x4096_0_0).toLoadRect (View.loadsAt_vmem h_S16x4096))
    let v29 : Vec F S1x4096 .f32 ← Prog.lift (.load arg4 (Rect.unit (s := S1x4096) ![0, 0] S1x4096.size inb_S1x4096_S1x4096_0_0).toLoadRect (View.loadsAt_vmem h_S1x4096))
    let v35 : Vec F S1x4096 .f32 ← Prog.lift (.load arg5 (Rect.unit (s := S1x4096) ![0, 0] S1x4096.size inb_S1x4096_S1x4096_0_0).toLoadRect (View.loadsAt_vmem h_S1x4096))
    Prog.lift (.store arg5 (Rect.unit (s := S1x4096) ![0, 0] S1x4096.size inb_S1x4096_S1x4096_0_0) (k0_pay4 v22 v29) Finset.univ (View.stores_vmem_bits_univ h_S1x4096 rfl) (.inl rfl))
    k ⟨⟩
  else do
    k ⟨⟩

/-- The body is its four parts, the length's word read after the first. -/
theorem skel_eq (i : grid0.Coords) (arg2 : Memref sig .tc .smem S8 .i32) (harg2 : arg2.IsWhole) (arg3 : Memref sig .tc .vmem S1x512x4096 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S16x4096 .bf16) (harg6 : arg6.IsWhole) :
    cc0_smooth_skel (F := F) i arg2 harg2 arg3 harg3 arg4 harg4 arg5 harg5 arg6 harg6 =
      seg0 i arg3 harg3 arg4 harg4 arg5 harg5 arg6 harg6 fun _ => smemLoad arg2 (Rect.unit (s := S8) (k0_off1 i) S1.size (k0_off1_inb i)) numel1_S1 rfl >>= fun v =>
        seg1 i v arg3 harg3 arg4 harg4 arg5 harg5 arg6 harg6 fun _ => seg2 i v arg3 harg3 arg4 harg4 arg5 harg5 arg6 harg6 fun _ => seg3 i arg3 harg3 arg4 harg4 arg5 harg5 arg6 harg6 fun _ => pure ⟨⟩ := by
  rfl

set_option maxHeartbeats 2000000 in
theorem sound_0 (c : Dev nD) (E : Set ℕ) (i : grid0.Coords) (arg3 : Memref sig .tc .vmem S1x512x4096 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S16x4096 .bf16) (harg6 : arg6.IsWhole) (A : Vec F S16x4096 .bf16) (k : PUnit.{1} → Prog (TpuEff nD τ sig (Elt F) Λ₀ .tc) PUnit.{1}) (K : PUnit.{1} → sProp 𝕄) :
    iprop(owns (c : Thread nD τ) arg6 fullShare A ∗ (owns (c : Thread nD τ) arg6 fullShare (acc0 i A) -∗ wp frame (wpE (defs₀ (F := F)) Variants.none c none) E (k ⟨⟩) K))
      ⊢ wp frame (wpE (defs₀ (F := F)) Variants.none c none) E (seg0 i arg3 harg3 arg4 harg4 arg5 harg5 arg6 harg6 k) K := by
  by_cases h : first i
  · rw [acc0, if_pos h, ← canon_s (F := F) k0_pay1]
    unfold seg0
    unfold owns
    iintro ⟨⟨%f0, %hf0, H0⟩, Hk⟩
    sl_exec (disch := sl_exact h)
    iapply Hk
    iexists _; isplitr
    swap; · iexact H0
    ipureintro
    exact View.read_writes_eq_canon _ _ _ (cover_s (k0_pay1 (F := F)))
  · unfold seg0
    rw [acc0, if_neg h, dif_neg h]
    iintro ⟨H0, Hk⟩
    iapply Hk
    iexact H0
set_option maxHeartbeats 2000000 in
theorem sound_1 (c : Dev nD) (E : Set ℕ) (i : grid0.Coords) (v : BitVec 32) (arg3 : Memref sig .tc .vmem S1x512x4096 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S16x4096 .bf16) (harg6 : arg6.IsWhole) (x0 : Vec F S1x512x4096 .bf16) (A : Vec F S16x4096 .bf16) (k : PUnit.{1} → Prog (TpuEff nD τ sig (Elt F) Λ₀ .tc) PUnit.{1}) (K : PUnit.{1} → sProp 𝕄) :
    iprop(owns (c : Thread nD τ) arg3 fullShare x0 ∗ owns (c : Thread nD τ) arg6 fullShare A ∗ (iprop(owns (c : Thread nD τ) arg3 fullShare x0 ∗ owns (c : Thread nD τ) arg6 fullShare (acc1 i v x0 A)) -∗ wp frame (wpE (defs₀ (F := F)) Variants.none c none) E (k ⟨⟩) K))
      ⊢ wp frame (wpE (defs₀ (F := F)) Variants.none c none) E (seg1 i v arg3 harg3 arg4 harg4 arg5 harg5 arg6 harg6 k) K := by
  unfold seg1
  by_cases h : full i v
  · have e : k0_pay2 x0 A = (View.canon [⟨r_s, k0_pay2 (View.ld x0 r_0) (View.ld A r_s)⟩] : Vec F S16x4096 .bf16) := by
      rw [View.ld_unit_zero (S := S1x512x4096) off3, View.ld_unit_zero (S := S16x4096) off2, canon_s]
    rw [acc1, if_pos h, e, if_pos h]
    unfold owns
    iintro ⟨⟨%f0, %hf0, H0⟩, ⟨%f1, %hf1, H1⟩, Hk⟩
    subst hf0 hf1
    sl_exec
    iapply Hk
    isplitl [H0]
    · iexists f0; isplitr; · ipureintro; rfl
      iexact H0
    iexists _; isplitr
    swap; · iexact H1
    ipureintro
    exact View.read_writes_eq_canon _ _ _ (cover_s _)
  · rw [acc1, if_neg h, if_neg h]
    iintro ⟨H0, H1, Hk⟩
    iapply Hk
    isplitl [H0]; · iexact H0
    iexact H1
set_option maxHeartbeats 2000000 in
theorem sound_2 (c : Dev nD) (E : Set ℕ) (i : grid0.Coords) (v : BitVec 32) (arg3 : Memref sig .tc .vmem S1x512x4096 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S16x4096 .bf16) (harg6 : arg6.IsWhole) (x0 : Vec F S1x512x4096 .bf16) (A : Vec F S16x4096 .bf16) (k : PUnit.{1} → Prog (TpuEff nD τ sig (Elt F) Λ₀ .tc) PUnit.{1}) (K : PUnit.{1} → sProp 𝕄) :
    iprop(owns (c : Thread nD τ) arg3 fullShare x0 ∗ owns (c : Thread nD τ) arg6 fullShare A ∗ (iprop(owns (c : Thread nD τ) arg3 fullShare x0 ∗ owns (c : Thread nD τ) arg6 fullShare (acc2 i v x0 A)) -∗ wp frame (wpE (defs₀ (F := F)) Variants.none c none) E (k ⟨⟩) K))
      ⊢ wp frame (wpE (defs₀ (F := F)) Variants.none c none) E (seg2 i v arg3 harg3 arg4 harg4 arg5 harg5 arg6 harg6 k) K := by
  unfold seg2
  by_cases h : part i v
  · have e : k0_pay3 i v x0 A = (View.canon [⟨r_s, k0_pay3 i v (View.ld x0 r_0) (View.ld A r_s)⟩] : Vec F S16x4096 .bf16) := by
      rw [View.ld_unit_zero (S := S1x512x4096) off3, View.ld_unit_zero (S := S16x4096) off2, canon_s]
    rw [acc2, if_pos h, e, if_pos h]
    unfold owns
    iintro ⟨⟨%f0, %hf0, H0⟩, ⟨%f1, %hf1, H1⟩, Hk⟩
    subst hf0 hf1
    sl_exec
    iapply Hk
    isplitl [H0]
    · iexists f0; isplitr; · ipureintro; rfl
      iexact H0
    iexists _; isplitr
    swap; · iexact H1
    ipureintro
    exact View.read_writes_eq_canon _ _ _ (cover_s _)
  · rw [acc2, if_neg h, if_neg h]
    iintro ⟨H0, H1, Hk⟩
    iapply Hk
    isplitl [H0]; · iexact H0
    iexact H1
/-- What the last point leaves in the output's buffer. -/
def outV (i : grid0.Coords) (A : Vec F S16x4096 .bf16) (x1 d : Vec F S1x4096 .f32) : Vec F S1x4096 .f32 := if k0_cond4 i = 1#1 then k0_pay4 A x1 else d

set_option maxHeartbeats 2000000 in
theorem sound_3 (c : Dev nD) (E : Set ℕ) (i : grid0.Coords) (arg3 : Memref sig .tc .vmem S1x512x4096 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S16x4096 .bf16) (harg6 : arg6.IsWhole) (x1 d : Vec F S1x4096 .f32) (A : Vec F S16x4096 .bf16) (k : PUnit.{1} → Prog (TpuEff nD τ sig (Elt F) Λ₀ .tc) PUnit.{1}) (K : PUnit.{1} → sProp 𝕄) :
    iprop(owns (c : Thread nD τ) arg4 fullShare x1 ∗ owns (c : Thread nD τ) arg5 fullShare d ∗ owns (c : Thread nD τ) arg6 fullShare A ∗ (iprop(owns (c : Thread nD τ) arg4 fullShare x1 ∗ owns (c : Thread nD τ) arg5 fullShare (outV i A x1 d) ∗ owns (c : Thread nD τ) arg6 fullShare A) -∗ wp frame (wpE (defs₀ (F := F)) Variants.none c none) E (k ⟨⟩) K))
      ⊢ wp frame (wpE (defs₀ (F := F)) Variants.none c none) E (seg3 i arg3 harg3 arg4 harg4 arg5 harg5 arg6 harg6 k) K := by
  unfold seg3
  by_cases h : k0_cond4 i = 1#1
  · have e : k0_pay4 A x1 = (View.canon [⟨r_1, k0_pay4 (View.ld A r_s) (View.ld x1 r_1)⟩] : Vec F S1x4096 .f32) := by
      rw [View.ld_unit_zero (S := S16x4096) off2, View.ld_unit_zero (S := S1x4096) off2, canon_1]
    rw [outV, if_pos h, e]
    unfold owns
    iintro ⟨⟨%f0, %hf0, H0⟩, ⟨%f1, -, H1⟩, ⟨%f2, %hf2, H2⟩, Hk⟩
    subst hf0 hf2
    sl_exec (disch := sl_exact h)
    iapply Hk
    isplitl [H0]
    · iexists f0; isplitr; · ipureintro; rfl
      iexact H0
    isplitl [H1]
    · iexists _; isplitr
      swap; · iexact H1
      ipureintro
      exact View.read_writes_eq_canon _ _ _ (cover_1 _)
    iexists f2; isplitr; · ipureintro; rfl
    iexact H2
  · rw [outV, if_neg h, dif_neg h]
    iintro ⟨H0, H1, H2, Hk⟩
    iapply Hk
    isplitl [H0]; · iexact H0
    isplitl [H1]; · iexact H1
    iexact H2

/-- The scalar load hands on the table's word. -/
theorem sound_word (c : Dev nD) (E : Set ℕ) (i : grid0.Coords) (xt : TbBuf (F := F) c tb) (k : Elt F .i32 → Prog (TpuEff nD τ sig (Elt F) Λ₀ .tc) PUnit.{1}) (K : PUnit.{1} → sProp 𝕄) :
    iprop(tbPt c tb xt ∗ (tbPt c tb xt -∗ wp frame (wpE (defs₀ (F := F)) Variants.none c none) E
        (k (tb.view.readAt (Elt F) (Rect.unit (s := S8) (k0_off1 i) S1.size (k0_off1_inb i)).toLoadRect xt (Shape.Idx.first (numel1_S1.symm ▸ Nat.one_pos)))) K))
      ⊢ wp frame (wpE (defs₀ (F := F)) Variants.none c none) E
          (smemLoad tb (Rect.unit (s := S8) (k0_off1 i) S1.size (k0_off1_inb i)) numel1_S1 rfl >>= k) K := by
  iintro ⟨HT, Hk⟩
  sl_exec
  iapply Hk
  iexact HT

attribute [local irreducible] seg0 seg1 seg2 seg3

set_option maxHeartbeats 2000000 in
/-- The body's triple: the inputs' buffers and the table are kept, the accumulator steps, the output is stored at the last point. -/
theorem sound_kernel (c : Dev nD) (E : Set ℕ) (i : grid0.Coords) (arg3 : Memref sig .tc .vmem S1x512x4096 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S16x4096 .bf16) (harg6 : arg6.IsWhole)
    (x0 : Vec F S1x512x4096 .bf16) (x1 d : Vec F S1x4096 .f32) (A : Vec F S16x4096 .bf16) (xt : TbBuf (F := F) c tb) (v : BitVec 32)
    (hv : tb.view.readAt (Elt F) (Rect.unit (s := S8) (k0_off1 i) S1.size (k0_off1_inb i)).toLoadRect xt (Shape.Idx.first (numel1_S1.symm ▸ Nat.one_pos)) = v)
    (K : PUnit.{1} → sProp 𝕄) :
    iprop(owns (c : Thread nD τ) arg3 fullShare x0 ∗ owns (c : Thread nD τ) arg4 fullShare x1 ∗ owns (c : Thread nD τ) arg5 fullShare d ∗ owns (c : Thread nD τ) arg6 fullShare A ∗ tbPt c tb xt
        ∗ (iprop(owns (c : Thread nD τ) arg3 fullShare x0 ∗ owns (c : Thread nD τ) arg4 fullShare x1 ∗ owns (c : Thread nD τ) arg5 fullShare (outV i (step i v x0 A) x1 d) ∗ owns (c : Thread nD τ) arg6 fullShare (step i v x0 A) ∗ tbPt c tb xt) -∗ K ⟨⟩))
      ⊢ wp frame (wpE (defs₀ (F := F)) Variants.none c none) E (cc0_smooth i tb htb arg3 harg3 arg4 harg4 arg5 harg5 arg6 harg6) K := by
  subst hv
  rw [cc0_smooth_eq_skeleton, skel_eq]
  iintro ⟨H0, H1, H2, H3, HT, Hk⟩
  iapply (sound_0 c E i arg3 harg3 arg4 harg4 arg5 harg5 arg6 harg6 A _ _)
  isplitl [H3]; · iexact H3
  iintro H3
  iapply (sound_word c E i xt _ _)
  isplitl [HT]; · iexact HT
  iintro HT
  iapply (sound_1 c E i _ arg3 harg3 arg4 harg4 arg5 harg5 arg6 harg6 x0 _ _ _)
  isplitl [H0]; · iexact H0
  isplitl [H3]; · iexact H3
  iintro ⟨H0, H3⟩
  iapply (sound_2 c E i _ arg3 harg3 arg4 harg4 arg5 harg5 arg6 harg6 x0 _ _ _)
  isplitl [H0]; · iexact H0
  isplitl [H3]; · iexact H3
  iintro ⟨H0, H3⟩
  iapply (sound_3 c E i arg3 harg3 arg4 harg4 arg5 harg5 arg6 harg6 x1 d _ _ _)
  isplitl [H1]; · iexact H1
  isplitl [H2]; · iexact H2
  isplitl [H3]; · iexact H3
  iintro ⟨H1, H2, H3⟩
  sl_step
  iapply Hk
  isplitl [H0]; · iexact H0
  isplitl [H1]; · iexact H1
  isplitl [H2]; · iexact H2
  isplitl [H3]; · iexact H3
  iexact HT

/-- The body's triple with what it leaves named. -/
theorem sound_kernel_at (c : Dev nD) (E : Set ℕ) (i : grid0.Coords) (arg3 : Memref sig .tc .vmem S1x512x4096 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S16x4096 .bf16) (harg6 : arg6.IsWhole)
    (x0 : Vec F S1x512x4096 .bf16) (x1 d : Vec F S1x4096 .f32) (A : Vec F S16x4096 .bf16) (xt : TbBuf (F := F) c tb) (v : BitVec 32)
    (hv : tb.view.readAt (Elt F) (Rect.unit (s := S8) (k0_off1 i) S1.size (k0_off1_inb i)).toLoadRect xt (Shape.Idx.first (numel1_S1.symm ▸ Nat.one_pos)) = v)
    (B : Vec F S16x4096 .bf16) (hB : step i v x0 A = B) (o : Vec F S1x4096 .f32) (ho : outV i B x1 d = o) (K : PUnit.{1} → sProp 𝕄) :
    iprop(owns (c : Thread nD τ) arg3 fullShare x0 ∗ owns (c : Thread nD τ) arg4 fullShare x1 ∗ owns (c : Thread nD τ) arg5 fullShare d ∗ owns (c : Thread nD τ) arg6 fullShare A ∗ tbPt c tb xt
        ∗ (iprop(owns (c : Thread nD τ) arg3 fullShare x0 ∗ owns (c : Thread nD τ) arg4 fullShare x1 ∗ owns (c : Thread nD τ) arg5 fullShare o ∗ owns (c : Thread nD τ) arg6 fullShare B ∗ tbPt c tb xt) -∗ K ⟨⟩))
      ⊢ wp frame (wpE (defs₀ (F := F)) Variants.none c none) E (cc0_smooth i tb htb arg3 harg3 arg4 harg4 arg5 harg5 arg6 harg6) K := by
  subst hB ho
  exact sound_kernel c E i arg3 harg3 arg4 harg4 arg5 harg5 arg6 harg6 x0 x1 d A xt v hv K

end Cert.KernelIdeal.R0

end
-- ==== Proof.KI.R0.lean ====
/-
  Region 0 (`smooth`): the region's proof data from any contents of the buffers.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.ValueKit
public import proofs.«01_k».proof.Proof.KI.R0Body
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.R0

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which points do what -/

theorem extBit (b : BitVec 1) : Scalar.cmpi .ne (Scalar.extui b : BitVec 32) 0#32 = b := by revert b; decide

theorem coords_0 (t : Fin grid0.N) : (grid0.coords t 0).val = t.val / 4 % 8 := Pipeline.Grid.coords_val t 0 (by decide) rfl
theorem coords_1 (t : Fin grid0.N) : (grid0.coords t 1).val = t.val % 4 := by
  have e : (grid0.coords t 1).val = t.val / 1 % 4 := Pipeline.Grid.coords_val t 1 (by decide) rfl
  rw [e, Nat.div_one]

/-- The first point is point `0`. -/
theorem first_iff (t : Fin grid0.N) : first (grid0.coords t) ↔ t.val = 0 := by
  have ht : t.val < 32 := Nat.lt_of_lt_of_eq t.isLt N_0
  unfold first
  rw [coords_0, coords_1]
  word_cmp

/-- The last point is point `31`. -/
theorem last_iff (t : Fin grid0.N) : k0_cond4 (grid0.coords t) = 1#1 ↔ t.val = 31 := by
  have ht : t.val < 32 := Nat.lt_of_lt_of_eq t.isLt N_0
  show Scalar.cmpi .ne (Scalar.extui (Scalar.andi (Scalar.cmpi .eq (BitVec.ofNat 32 (grid0.coords t 0).val) 7#32) (Scalar.cmpi .eq (BitVec.ofNat 32 (grid0.coords t 1).val) 3#32))) 0#32 = 1#1 ↔ _
  rw [coords_0, coords_1]
  word_cmp

/-! ## The region's proof data -/

variable (a : (pcfg0 (F := F)).Adm) (V : Dev nD → Valuation τ sig (Elt F))

/-- Window `w`'s block at point `t`, read off its array as the region finds it. -/
def iblk (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (V c (Pipeline.arrRef spec0 w))

theorem before_0_of {c : Dev nD} (dat : Dat τ (Elt F) Unit ℕ (UR sig nD τ) ℕ (cfg0 a) c) (hA : dat.A 0 = V c (Pipeline.arrRef spec0 0))
    (hafter : ∀ t, dat.after 0 t = iblk a V c 0 t) (t : Fin (cfg0 a).N) (d) : dat.before 0 t d = iblk a V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ (cfg0 a) c) (hA : dat.A 1 = V c (Pipeline.arrRef spec0 1))
    (hafter : ∀ t, dat.after 1 t = iblk a V c 1 t) (t : Fin (cfg0 a).N) (d) : dat.before 1 t d = iblk a V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The tables held whole, as one points-to. -/
theorem tables_eq (c : Dev nD) : (Pipeline.prefHeld pre0 c (fun _ => fullShare) a.1 : sProp 𝕄) = tbPt c tb (a.1 0) := by
  unfold Pipeline.prefHeld
  rw [show (Finset.univ : Finset (Fin 1)) = {(0 : Fin 1)} from by decide, bigSep_singleton]
  rfl

/-- One point's step of the accumulator. -/
def stepAt (c : Dev nD) (t : Fin (cfg0 a).N) (A : Vec F S16x4096 .bf16) : Vec F S16x4096 .bf16 :=
  step (grid0.coords t) (word a.1 (grid0.coords t)) (iblk a V c 0 t) A

/-- The accumulator before point `n`. -/
def accAt (c : Dev nD) : ℕ → Vec F S16x4096 .bf16
  | 0 => k0_pay1
  | n + 1 => if h : n < (cfg0 a).N then stepAt a V c ⟨n, h⟩ (accAt c n) else accAt c n

theorem accAt_succ (c : Dev nD) (t : Fin (cfg0 a).N) : accAt a V c (t.val + 1) = stepAt a V c t (accAt a V c t.val) :=
  dif_pos t.isLt

/-- The first point clears what it finds. -/
theorem stepAt_first (c : Dev nD) (t : Fin (cfg0 a).N) (ht : t.val = 0) (A B : Vec F S16x4096 .bf16) : stepAt a V c t A = stepAt a V c t B := by
  unfold stepAt step acc0
  rw [if_pos ((first_iff t).mpr ht), if_pos ((first_iff t).mpr ht)]

/-- What the last point stores. -/
def sblk (c : Dev nD) (t : Fin (cfg0 a).N) : Vec F S1x4096 .f32 := k0_pay4 (accAt a V c (t.val + 1)) (iblk a V c 1 t)

/-- The accumulator's buffer before point `n`. -/
def scr (c : Dev nD) : ℕ → sProp 𝕄
  | 0 => iprop(∃ d, owns (c : Thread nD τ) scM fullShare d)
  | n + 1 => owns (c : Thread nD τ) scM fullShare (accAt a V c (n + 1))

/-- What the region's other buffers and the generator are. -/
def rest (c : Dev nD) : sProp 𝕄 := iprop(Pipeline.scopedRestBut spec0 c [cc0_scratch0] ∗ (∃ r, prngReg c r))

/-- The region's proof data: arrays as found, inputs kept, the output at what the last point stores. -/
def dat (c : Dev nD) : Dat τ (Elt F) Unit ℕ (UR sig nD τ) ℕ (cfg0 a) c where
  A w := V c (Pipeline.arrRef spec0 w)
  after w t := match w with
    | ⟨0, _⟩ => iblk a V c 0 t
    | ⟨1, _⟩ => iblk a V c 1 t
    | ⟨2, _⟩ => sblk a V c t
  Φ t := iprop(scr a V c t.val ∗ rest c ∗ tbPt c tb (a.1 0))
  q _ := fullShare
  owed _ := 0

theorem A_eq (c : Dev nD) (w : Fin (cfg0 a).W) : (dat a V c).A w = V c (Pipeline.arrRef spec0 w) := by
  dsimp only [dat]
theorem after_0 (c : Dev nD) (t : Fin (cfg0 a).N) : (dat a V c).after 0 t = iblk a V c 0 t := by dsimp only [dat]; rfl
theorem after_1 (c : Dev nD) (t : Fin (cfg0 a).N) : (dat a V c).after 1 t = iblk a V c 1 t := by dsimp only [dat]; rfl
theorem after_2 (c : Dev nD) (t : Fin (cfg0 a).N) : (dat a V c).after 2 t = sblk a V c t := by dsimp only [dat]; rfl
theorem before_0 (c : Dev nD) (t : Fin (cfg0 a).N) (d) : (dat a V c).before 0 t d = iblk a V c 0 t :=
  before_0_of a V (dat a V c) (A_eq a V c 0) (after_0 a V c) t d
theorem before_1 (c : Dev nD) (t : Fin (cfg0 a).N) (d) : (dat a V c).before 1 t d = iblk a V c 1 t :=
  before_1_of a V (dat a V c) (A_eq a V c 1) (after_1 a V c) t d
theorem Phi_eq (c : Dev nD) (t : Fin ((cfg0 a).N + 1)) : (dat a V c).Φ t = iprop(scr a V c t.val ∗ rest c ∗ tbPt c tb (a.1 0)) := by
  dsimp only [dat]

abbrev st_0 (t : Fin (cfg0 a).N) : Memref sig .tc .vmem S1x512x4096 .bf16 := ((cfg0 a).win 0).stage ((cfg0 a).slots t 0)
abbrev st_1 (t : Fin (cfg0 a).N) : Memref sig .tc .vmem S1x4096 .f32 := ((cfg0 a).win 1).stage ((cfg0 a).slots t 1)
abbrev st_2 (t : Fin (cfg0 a).N) : Memref sig .tc .vmem S1x4096 .f32 := ((cfg0 a).win 2).stage ((cfg0 a).slots t 2)

/-- The body at point `t`. -/
abbrev bodyAt (t : Fin (cfg0 a).N) : Prog (TpuEff nD τ sig (Elt F) Λ₀ .tc) PUnit :=
  cc0_smooth (grid0.coords t) tb htb
    (st_0 a t) (hstage0_0 (((cfg0 a).slots t 0).cast nbuf0_0)) (st_1 a t) (hstage0_1 (((cfg0 a).slots t 1).cast nbuf0_1))
    (st_2 a t) (hstage0_2 (((cfg0 a).slots t 2).cast nbuf0_2)) scM hscM

theorem defs₀_row (t : Fin (cfg0 a).N) :
    defs₀ (F := F) .tc (cfg0 a).body ((cfg0 a).bodyArgs t ((cfg0 a).slots t)) = bodyAt a t := by
  unfold defs₀; rw [Defs.onTc_tc]; rfl

/-- What the body is called with at point `t`, -/
def bodyPre (c : Dev nD) (t : Fin (cfg0 a).N) : sProp 𝕄 :=
  iprop((dat a V c).Φ t.castSucc ∗ (dat a V c).owesAt () t.castSucc
    ∗ (∃ d, owns (c : Thread nD τ) (st_0 a t) fullShare ((dat a V c).before 0 t d))
    ∗ (∃ d, owns (c : Thread nD τ) (st_1 a t) fullShare ((dat a V c).before 1 t d))
    ∗ (∃ d, owns (c : Thread nD τ) (st_2 a t) fullShare ((dat a V c).before 2 t d)))
/-- and what it returns. -/
def bodyPost (c : Dev nD) (t : Fin (cfg0 a).N) : sProp 𝕄 :=
  iprop((dat a V c).Φ t.succ ∗ (dat a V c).owesAt () t.succ
    ∗ (dat a V c).leavesExact 0 t ∗ (dat a V c).leavesExact 1 t ∗ (dat a V c).leavesExact 2 t)

theorem leaves_0 (c : Dev nD) (t : Fin (cfg0 a).N) :
    (dat a V c).leavesExact 0 t = owns (c : Thread nD τ) (st_0 a t) fullShare ((dat a V c).after 0 t) := by
  unfold Dat.leavesExact
  rw [show (cfg0 a).idle 0 ((cfg0 a).grid.coords t) = false from rfl]
  rfl
theorem leaves_1 (c : Dev nD) (t : Fin (cfg0 a).N) :
    (dat a V c).leavesExact 1 t = owns (c : Thread nD τ) (st_1 a t) fullShare ((dat a V c).after 1 t) := by
  unfold Dat.leavesExact
  rw [show (cfg0 a).idle 1 ((cfg0 a).grid.coords t) = false from rfl]
  rfl
/-- At the last point the output's buffer holds what that point stores, -/
theorem leaves_2_last (c : Dev nD) (t : Fin (cfg0 a).N) (h : k0_cond4 (grid0.coords t) = 1#1) :
    (dat a V c).leavesExact 2 t = owns (c : Thread nD τ) (st_2 a t) fullShare ((dat a V c).after 2 t) := by
  unfold Dat.leavesExact
  rw [show (cfg0 a).idle 2 ((cfg0 a).grid.coords t) = false from by
    show (!(k0_cond4 (grid0.coords t) == 1#1)) = false
    rw [h]; rfl]
  rfl
/-- at the others what it held. -/
theorem leaves_2_idle (c : Dev nD) (t : Fin (cfg0 a).N) (h : ¬ k0_cond4 (grid0.coords t) = 1#1) :
    (dat a V c).leavesExact 2 t = iprop(∃ d, owns (c : Thread nD τ) (st_2 a t) fullShare ((dat a V c).before 2 t d)) := by
  refine (dat a V c).leavesExact_idle 2 t ?_ ?_
  · show (!(k0_cond4 (grid0.coords t) == 1#1)) = true
    simp [h]
  · have ht : t.val ≠ 31 := fun e => h ((last_iff t).mpr e)
    by_contra hf
    rw [Bool.not_eq_false] at hf
    have := (Pipeline.Window.flush_const ((cfg0 a).win 2) rfl (fun _ _ => rfl) (n := 32) (m := 31) N_0 (by decide) t).mp hf
    have h32 : t.val < 32 := Nat.lt_of_lt_of_eq t.isLt N_0
    omega

theorem sound_body (c : Dev nD) (t : Fin (cfg0 a).N) :
    bodyPre a V c t ⊢ wp frame (wpE (defs₀ (F := F)) Variants.none c none) Set.univ (bodyAt a t) (fun _ => bodyPost a V c t) := by
  unfold bodyPre bodyPost bodyAt
  simp only [before_0, before_1]
  rw [leaves_0, leaves_1, show (dat a V c).owesAt () t.succ = (dat a V c).owesAt () t.castSucc from rfl, after_0, after_1]
  rw [Phi_eq, Phi_eq, show t.succ.val = t.val + 1 from rfl, show t.castSucc.val = t.val from rfl,
    show scr a V c (t.val + 1) = owns (c : Thread nD τ) scM fullShare (accAt a V c (t.val + 1)) from rfl]
  have hscr : scr a V c t.val ⊢ (iprop(∃ d, ⌜stepAt a V c t d = accAt a V c (t.val + 1)⌝ ∗ owns (c : Thread nD τ) scM fullShare d) : sProp 𝕄) := by
    rw [accAt_succ]
    rcases hn : t.val with _ | n
    · unfold scr
      iintro ⟨%d, H⟩
      iexists d
      isplitr
      · ipureintro; exact stepAt_first a V c t hn _ _
      iexact H
    · unfold scr
      iintro H
      iexists _
      isplitr
      swap; · iexact H
      ipureintro; rfl
  by_cases h : k0_cond4 (grid0.coords t) = 1#1
  · rw [leaves_2_last a V c t h, after_2]
    iintro ⟨⟨HS, Hr, HT⟩, Ho, ⟨%d0, H0⟩, ⟨%d1, H1⟩, ⟨%d2, H2⟩⟩
    ihave HS := hscr $$ HS
    icases HS with ⟨%A, %hA, HS⟩
    iapply (sound_kernel_at c Set.univ (grid0.coords t) _ _ _ _ _ _ _ _ (iblk a V c 0 t) (iblk a V c 1 t) _ A (a.1 0) _ (readAt_word c a.1 (grid0.coords t)) _ hA _ (if_pos h) _)
    isplitl [H0]; · iexact H0
    isplitl [H1]; · iexact H1
    isplitl [H2]; · iexact H2
    isplitl [HS]; · iexact HS
    isplitl [HT]; · iexact HT
    iintro ⟨H0, H1, H2, HS, HT⟩
    isplitl [HS Hr HT]
    · isplitl [HS]; · iexact HS
      isplitl [Hr]; · iexact Hr
      iexact HT
    isplitl [Ho]; · iexact Ho
    isplitl [H0]; · iexact H0
    isplitl [H1]; · iexact H1
    iexact H2
  · rw [leaves_2_idle a V c t h]
    iintro ⟨⟨HS, Hr, HT⟩, Ho, ⟨%d0, H0⟩, ⟨%d1, H1⟩, ⟨%d2, H2⟩⟩
    ihave HS := hscr $$ HS
    icases HS with ⟨%A, %hA, HS⟩
    iapply (sound_kernel_at c Set.univ (grid0.coords t) _ _ _ _ _ _ _ _ (iblk a V c 0 t) (iblk a V c 1 t) _ A (a.1 0) _ (readAt_word c a.1 (grid0.coords t)) _ hA _ (if_neg h) _)
    isplitl [H0]; · iexact H0
    isplitl [H1]; · iexact H1
    isplitl [H2]; · iexact H2
    isplitl [HS]; · iexact HS
    isplitl [HT]; · iexact HT
    iintro ⟨H0, H1, H2, HS, HT⟩
    isplitl [HS Hr HT]
    · isplitl [HS]; · iexact HS
      isplitl [Hr]; · iexact Hr
      iexact HT
    isplitl [Ho]; · iexact Ho
    isplitl [H0]; · iexact H0
    isplitl [H1]; · iexact H1
    iexists _; iexact H2

/-- The body obligation at every point. -/
theorem body_obligation (c : Dev nD) : BodyObligation (dat (F := F) a V c) (defs₀ (F := F)) Variants.none () Set.univ := fun t => by
  rw [bigSep_W0, bigSep_W0, defs₀_row]
  exact triple_restated (sound_body a V c t) rfl .rfl fun _ => .rfl

/-- What the launch hands the region is the invariant before the first point. -/
theorem hin (c : Dev nD) : iprop((Pipeline.scopedRest spec0 c ∗ ∃ r, prngReg c r) ∗ Pipeline.prefHeld pre0 c (fun _ => fullShare) a.1) ⊢ (dat a V c).Φ 0 := by
  rw [Phi_eq, tables_eq, scopedRest0_split]
  show _ ⊢ iprop((∃ d, owns (c : Thread nD τ) scM fullShare d) ∗ rest c ∗ tbPt c tb (a.1 0))
  unfold rest
  simp only [scM, owns_whole]
  iintro ⟨⟨⟨HS, Hb⟩, Hg⟩, HT⟩
  isplitl [HS]; · iexact HS
  isplitl [Hb Hg]
  · isplitl [Hb]; · iexact Hb
    iexact Hg
  iexact HT

/-- After the last point the invariant gives it back. -/
theorem hout (c : Dev nD) : (dat a V c).Φ (Fin.last (cfg0 a).N) ⊢ iprop((Pipeline.scopedRest spec0 c ∗ ∃ r, prngReg c r) ∗ Pipeline.prefHeld pre0 c (fun _ => fullShare) a.1) := by
  rw [Phi_eq, tables_eq, scopedRest0_split, show (Fin.last (cfg0 a).N).val = 31 + 1 from N_0]
  unfold scr rest
  simp only [scM, owns_whole]
  iintro ⟨HS, ⟨Hb, Hg⟩, HT⟩
  isplitr [HT]
  swap; · iexact HT
  isplitr [Hg]
  swap; · iexact Hg
  isplitl [HS]; · iexists _; iexact HS
  iexact Hb

end Cert.KernelIdeal.R0

end
-- ==== Proof.KI.R1Body.lean ====
/-
  Region 1 (`quant_x`): what one grid point computes.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.ValueKit
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.R1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The table and its word -/

/-- The table the body is handed: the lengths, whole. -/
abbrev tb : Memref sig .tc .smem S8 .i32 := Memref.whole main_arg1
abbrev htb : tb.IsWhole := Memref.isWhole_whole _
abbrev TbBuf (c : Dev nD) {S : Shape} {e : EltTy} (M : Memref sig .tc .smem S e) : Type := Buf (Elt F) (M.view.loc (c : Thread nD τ))
/-- The table held on core `c` at `f`. -/
abbrev tbPt (c : Dev nD) {S : Shape} {e : EltTy} (M : Memref sig .tc .smem S e) (f : TbBuf (F := F) c M) : sProp 𝕄 :=
  M.view.loc (c : Thread nD τ) ↦{fullShare} f

/-- The word of the lengths the point reads: its batch's length. -/
abbrev word (pf : pre1.Contents (Elt F)) (i : grid1.Coords) : BitVec 32 := pf.atD 0 (k1_off1 i)

/-- What the body's scalar load reads is that word. -/
theorem readAt_word (c : Dev nD) (pf : pre1.Contents (Elt F)) (i : grid1.Coords) :
    tb.view.readAt (Elt F) (Rect.unit (s := S8) (k1_off1 i) S1.size (k1_off1_inb i)).toLoadRect (pf 0 : TbBuf (F := F) c tb)
      (Shape.Idx.first (numel1_S1.symm ▸ Nat.one_pos)) = word (F := F) pf i := by
  have h : ∀ a, k1_off1 i a + 1 ≤ (pre1.ref 0).ty.shape.size a := fun a => by
    have := k1_off1_inb i a; fin_cases a; exact this
  refine Eq.trans ?_ (dif_pos h).symm
  show pf 0 _ = pf 0 _
  congr 1

theorem extBit (b : BitVec 1) : Scalar.cmpi .ne (Scalar.extui b : BitVec 32) 0#32 = b := by revert b; decide

theorem cond1_iff (i : grid1.Coords) (v : BitVec 32) :
    k1_cond1 i v = 1#1 ↔ (Scalar.subi v (Scalar.muli (BitVec.ofNat 32 (i 1).val) 256#32)).toInt ≤ 0 := by
  show Scalar.cmpi .ne (Scalar.extui (Scalar.cmpi .sle (Scalar.subi v (Scalar.muli (BitVec.ofNat 32 (i 1).val) 256#32)) 0#32)) 0#32 = 1#1 ↔ _
  rw [extBit]
  show BitVec.ofBool (BitVec.sle _ _) = 1#1 ↔ _
  rw [BitVec.sle]
  by_cases h : (Scalar.subi v (Scalar.muli (BitVec.ofNat 32 (i 1).val) 256#32)).toInt ≤ 0 <;> simp [h]
theorem cond2_iff (i : grid1.Coords) (v : BitVec 32) :
    k1_cond2 i v = 1#1 ↔ ¬ (Scalar.subi v (Scalar.muli (BitVec.ofNat 32 (i 1).val) 256#32)).toInt ≤ 0 := by
  show Scalar.cmpi .ne (Scalar.extui (Scalar.cmpi .sgt (Scalar.subi v (Scalar.muli (BitVec.ofNat 32 (i 1).val) 256#32)) 0#32)) 0#32 = 1#1 ↔ _
  rw [extBit]
  show BitVec.ofBool (BitVec.slt _ _) = 1#1 ↔ _
  rw [BitVec.slt, not_le]
  by_cases h : 0 < (Scalar.subi v (Scalar.muli (BitVec.ofNat 32 (i 1).val) 256#32)).toInt <;> simp [h]
/-- Either the tile has no valid row or it has one. -/
theorem cond2_of (i : grid1.Coords) (v : BitVec 32) (h : ¬ k1_cond1 i v = 1#1) : k1_cond2 i v = 1#1 := by
  rw [cond1_iff] at h; rwa [cond2_iff]
theorem not_cond2_of (i : grid1.Coords) (v : BitVec 32) (h : k1_cond1 i v = 1#1) : ¬ k1_cond2 i v = 1#1 := by
  rw [cond1_iff] at h; rw [cond2_iff]; exact not_not.mpr h

/-- The number of valid rows from the tile's first row on, as the kernel computes it. -/
abbrev rem (i : grid1.Coords) (v : BitVec 32) : BitVec 32 := Scalar.subi v (Scalar.muli (BitVec.ofNat 32 (i 1).val) 256#32)
/-- What the body leaves in the codes' buffer. -/
def outC (i : grid1.Coords) (v : BitVec 32) (x0 : Vec F S1x256x4096 .bf16) (x1 : Vec F S1x4096 .f32) : Vec F S1x256x4096 .i8 :=
  if k1_cond1 i v = 1#1 then k1_pay1 else k1_pay6 (rem i v) x0 x1
/-- What the body leaves in the scales' buffer. -/
def outS (i : grid1.Coords) (v : BitVec 32) (x0 : Vec F S1x256x4096 .bf16) (x1 : Vec F S1x4096 .f32) : Vec F S1x256x1 .f32 :=
  if k1_cond1 i v = 1#1 then k1_pay2 else k1_pay7 (rem i v) x0 x1

abbrev r_0 : Rect S1x256x4096 := Rect.unit (s := S1x256x4096) ![0, 0, 0] S1x256x4096.size inb_S1x256x4096_S1x256x4096_0_0_0
abbrev r_1 : Rect S1x4096 := Rect.unit (s := S1x4096) ![0, 0] S1x4096.size inb_S1x4096_S1x4096_0_0
abbrev r_2 : Rect S1x256x1 := Rect.unit (s := S1x256x1) ![0, 0, 0] S1x256x1.size inb_S1x256x1_S1x256x1_0_0_0

theorem cover_2 (p0 : Vec F S1x256x4096 .i8) (y : S1x256x4096.Idx) :
    ∃ pc ∈ ([⟨r_0, p0⟩] : List (View.Piece (Elt F) S1x256x4096 .i8)), y ∈ pc.1.set :=
  View.cover_of_tiled [⟨r_0, p0⟩] S1x256x4096.size (by rfl) y
theorem cover_3 (p0 : Vec F S1x256x1 .f32) (y : S1x256x1.Idx) :
    ∃ pc ∈ ([⟨r_2, p0⟩] : List (View.Piece (Elt F) S1x256x1 .f32)), y ∈ pc.1.set :=
  View.cover_of_tiled [⟨r_2, p0⟩] S1x256x1.size (by rfl) y

theorem off2 : (![0, 0] : Fin 2 → ℕ) = fun _ => 0 := by funext a; fin_cases a <;> rfl
theorem off3 : (![0, 0, 0] : Fin 3 → ℕ) = fun _ => 0 := by funext a; fin_cases a <;> rfl

theorem canon_2a (p : Vec F S1x256x4096 .i8) : (View.canon [⟨r_0, p⟩] : Vec F S1x256x4096 .i8) = p :=
  View.canon_unit_zero (S := S1x256x4096) off3 _ _
theorem canon_3a (p : Vec F S1x256x1 .f32) : (View.canon [⟨r_2, p⟩] : Vec F S1x256x1 .f32) = p :=
  View.canon_unit_zero (S := S1x256x1) off3 _ _

set_option maxHeartbeats 2000000 in
/-- The body's triple: the inputs' buffers and the table are kept and the outputs' hold what the word decides. -/
theorem sound_kernel (c : Dev nD) (E : Set ℕ) (i : grid1.Coords) (arg3 : Memref sig .tc .vmem S1x256x4096 .bf16) (harg3 : arg3.IsWhole) (arg4 : Memref sig .tc .vmem S1x4096 .f32) (harg4 : arg4.IsWhole) (arg5 : Memref sig .tc .vmem S1x256x4096 .i8) (harg5 : arg5.IsWhole) (arg6 : Memref sig .tc .vmem S1x256x1 .f32) (harg6 : arg6.IsWhole)
    (x0 : Vec F S1x256x4096 .bf16) (x1 : Vec F S1x4096 .f32) (xt : TbBuf (F := F) c tb) (v : BitVec 32)
    (hv : tb.view.readAt (Elt F) (Rect.unit (s := S8) (k1_off1 i) S1.size (k1_off1_inb i)).toLoadRect xt (Shape.Idx.first (numel1_S1.symm ▸ Nat.one_pos)) = v)
    (K : PUnit → sProp 𝕄) :
    iprop(owns (c : Thread nD τ) arg3 fullShare x0 ∗ owns (c : Thread nD τ) arg4 fullShare x1 ∗ (∃ d, owns (c : Thread nD τ) arg5 fullShare d) ∗ (∃ d, owns (c : Thread nD τ) arg6 fullShare d)
        ∗ tbPt c tb xt
        ∗ (iprop(owns (c : Thread nD τ) arg3 fullShare x0 ∗ owns (c : Thread nD τ) arg4 fullShare x1 ∗ owns (c : Thread nD τ) arg5 fullShare (outC i v x0 x1) ∗ owns (c : Thread nD τ) arg6 fullShare (outS i v x0 x1) ∗ tbPt c tb xt) -∗ K ⟨⟩))
      ⊢ wp frame (wpE (defs₀ (F := F)) Variants.none c none) E (cc1_quant_x i tb htb arg3 harg3 arg4 harg4 arg5 harg5 arg6 harg6) K := by
  by_cases hc : k1_cond1 i v = 1#1
  · have hc2 := not_cond2_of i v hc
    rw [outC, outS, if_pos hc, if_pos hc, ← canon_2a (F := F) k1_pay1, ← canon_3a (F := F) k1_pay2]
    subst hv
    simp only [cc1_quant_x_eq_skeleton]; unfold cc1_quant_x_skel
    unfold owns
    iintro ⟨⟨%f0, %hf0, H0⟩, ⟨%f1, %hf1, H1⟩, ⟨%d2, %f2, -, H2⟩, ⟨%d3, %f3, -, H3⟩, HT, Hk⟩
    subst hf0 hf1
    sl_exec (disch := first | sl_exact hc | sl_exact hc2)
    sl_step
    iapply Hk
    isplitl [H0]
    · iexists f0; isplitr; · ipureintro; rfl
      iexact H0
    isplitl [H1]
    · iexists f1; isplitr; · ipureintro; rfl
      iexact H1
    isplitl [H2]
    · iexists _; isplitr
      swap; · iexact H2
      ipureintro
      exact View.read_writes_eq_canon _ _ _ (cover_2 _)
    isplitl [H3]
    · iexists _; isplitr
      swap; · iexact H3
      ipureintro
      exact View.read_writes_eq_canon _ _ _ (cover_3 _)
    iexact HT
  · have hc2 := cond2_of i v hc
    have e6 : k1_pay6 (rem i v) x0 x1 = (View.canon [⟨r_0, k1_pay6 (rem i v) (View.ld x0 r_0) (View.ld x1 r_1)⟩] : Vec F S1x256x4096 .i8) := by
      rw [View.ld_unit_zero (S := S1x256x4096) off3, View.ld_unit_zero (S := S1x4096) off2, canon_2a]
    have e7 : k1_pay7 (rem i v) x0 x1 = (View.canon [⟨r_2, k1_pay7 (rem i v) (View.ld x0 r_0) (View.ld x1 r_1)⟩] : Vec F S1x256x1 .f32) := by
      rw [View.ld_unit_zero (S := S1x256x4096) off3, View.ld_unit_zero (S := S1x4096) off2, canon_3a]
    rw [outC, outS, if_neg hc, if_neg hc, e6, e7]
    subst hv
    simp only [cc1_quant_x_eq_skeleton]; unfold cc1_quant_x_skel
    simp only [k1_part1_eq_skeleton]; unfold k1_part1_skel
    unfold owns
    iintro ⟨⟨%f0, %hf0, H0⟩, ⟨%f1, %hf1, H1⟩, ⟨%d2, %f2, -, H2⟩, ⟨%d3, %f3, -, H3⟩, HT, Hk⟩
    subst hf0 hf1
    sl_exec (disch := first | sl_exact hc | sl_exact hc2)
    sl_step
    iapply Hk
    isplitl [H0]
    · iexists f0; isplitr; · ipureintro; rfl
      iexact H0
    isplitl [H1]
    · iexists f1; isplitr; · ipureintro; rfl
      iexact H1
    isplitl [H2]
    · iexists _; isplitr
      swap; · iexact H2
      ipureintro
      exact View.read_writes_eq_canon _ _ _ (cover_2 _)
    isplitl [H3]
    · iexists _; isplitr
      swap; · iexact H3
      ipureintro
      exact View.read_writes_eq_canon _ _ _ (cover_3 _)
    iexact HT

end Cert.KernelIdeal.R1

end
-- ==== Proof.KI.R1.lean ====
/-
  Region 1 (`quant_x`): the region's proof data from any contents of the buffers.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.ValueKit
public import proofs.«01_k».proof.Proof.KI.R1Body
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.R1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The region's proof data -/

variable (a : (pcfg1 (F := F)).Adm) (V : Dev nD → Valuation τ sig (Elt F))

/-- Window `w`'s block at point `t`, read off its array as the region finds it. -/
def iblk (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (V c (Pipeline.arrRef spec1 w))

theorem before_0_of {c : Dev nD} (dat : Dat τ (Elt F) Unit ℕ (UR sig nD τ) ℕ (cfg1 a) c) (hA : dat.A 0 = V c (Pipeline.arrRef spec1 0))
    (hafter : ∀ t, dat.after 0 t = iblk a V c 0 t) (t : Fin (cfg1 a).N) (d) : dat.before 0 t d = iblk a V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ (cfg1 a) c) (hA : dat.A 1 = V c (Pipeline.arrRef spec1 1))
    (hafter : ∀ t, dat.after 1 t = iblk a V c 1 t) (t : Fin (cfg1 a).N) (d) : dat.before 1 t d = iblk a V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The tables held whole, as one points-to. -/
theorem tables_eq (c : Dev nD) : (Pipeline.prefHeld pre1 c (fun _ => fullShare) a.1 : sProp 𝕄) = tbPt c tb (a.1 0) := by
  unfold Pipeline.prefHeld
  rw [show (Finset.univ : Finset (Fin 1)) = {(0 : Fin 1)} from by decide, bigSep_singleton]
  rfl

/-- The region's proof data: arrays as found, inputs kept, outputs at what the word decides of the input blocks. -/
def dat (c : Dev nD) : Dat τ (Elt F) Unit ℕ (UR sig nD τ) ℕ (cfg1 a) c where
  A w := V c (Pipeline.arrRef spec1 w)
  after w t := match w with
    | ⟨0, _⟩ => iblk a V c 0 t
    | ⟨1, _⟩ => iblk a V c 1 t
    | ⟨2, _⟩ => outC (grid1.coords t) (word a.1 (grid1.coords t)) (iblk a V c 0 t) (iblk a V c 1 t)
    | ⟨3, _⟩ => outS (grid1.coords t) (word a.1 (grid1.coords t)) (iblk a V c 0 t) (iblk a V c 1 t)
  Φ _ := iprop(Pipeline.ΦA spec1 c ∗ tbPt c tb (a.1 0))
  q _ := fullShare
  owed _ := 0

theorem A_eq (c : Dev nD) (w : Fin (cfg1 a).W) : (dat a V c).A w = V c (Pipeline.arrRef spec1 w) := by
  dsimp only [dat]
theorem after_0 (c : Dev nD) (t : Fin (cfg1 a).N) : (dat a V c).after 0 t = iblk a V c 0 t := by dsimp only [dat]; rfl
theorem after_1 (c : Dev nD) (t : Fin (cfg1 a).N) : (dat a V c).after 1 t = iblk a V c 1 t := by dsimp only [dat]; rfl
theorem after_2 (c : Dev nD) (t : Fin (cfg1 a).N) : (dat a V c).after 2 t = outC (grid1.coords t) (word a.1 (grid1.coords t)) (iblk a V c 0 t) (iblk a V c 1 t) := by dsimp only [dat]; rfl
theorem after_3 (c : Dev nD) (t : Fin (cfg1 a).N) : (dat a V c).after 3 t = outS (grid1.coords t) (word a.1 (grid1.coords t)) (iblk a V c 0 t) (iblk a V c 1 t) := by dsimp only [dat]; rfl
theorem before_0 (c : Dev nD) (t : Fin (cfg1 a).N) (d) : (dat a V c).before 0 t d = iblk a V c 0 t :=
  before_0_of a V (dat a V c) (A_eq a V c 0) (after_0 a V c) t d
theorem before_1 (c : Dev nD) (t : Fin (cfg1 a).N) (d) : (dat a V c).before 1 t d = iblk a V c 1 t :=
  before_1_of a V (dat a V c) (A_eq a V c 1) (after_1 a V c) t d

abbrev st_0 (t : Fin (cfg1 a).N) : Memref sig .tc .vmem S1x256x4096 .bf16 := ((cfg1 a).win 0).stage ((cfg1 a).slots t 0)
abbrev st_1 (t : Fin (cfg1 a).N) : Memref sig .tc .vmem S1x4096 .f32 := ((cfg1 a).win 1).stage ((cfg1 a).slots t 1)
abbrev st_2 (t : Fin (cfg1 a).N) : Memref sig .tc .vmem S1x256x4096 .i8 := ((cfg1 a).win 2).stage ((cfg1 a).slots t 2)
abbrev st_3 (t : Fin (cfg1 a).N) : Memref sig .tc .vmem S1x256x1 .f32 := ((cfg1 a).win 3).stage ((cfg1 a).slots t 3)

/-- The body at point `t`. -/
abbrev bodyAt (t : Fin (cfg1 a).N) : Prog (TpuEff nD τ sig (Elt F) Λ₀ .tc) PUnit :=
  cc1_quant_x (grid1.coords t) tb htb
    (st_0 a t) (hstage1_0 (((cfg1 a).slots t 0).cast nbuf1_0)) (st_1 a t) (hstage1_1 (((cfg1 a).slots t 1).cast nbuf1_1))
    (st_2 a t) (hstage1_2 (((cfg1 a).slots t 2).cast nbuf1_2)) (st_3 a t) (hstage1_3 (((cfg1 a).slots t 3).cast nbuf1_3))

theorem defs₀_row (t : Fin (cfg1 a).N) :
    defs₀ (F := F) .tc (cfg1 a).body ((cfg1 a).bodyArgs t ((cfg1 a).slots t)) = bodyAt a t := by
  unfold defs₀; rw [Defs.onTc_tc]; rfl

/-- No point leaves the outputs alone. -/
theorem live (i : grid1.Coords) (w : Fin 4) : idle1 a.1 w i = false := by
  have h : ∀ v : BitVec 32, (!(k1_cond1 i v == 1#1) && !(k1_cond2 i v == 1#1)) = false := fun v => by
    by_cases hc : k1_cond1 i v = 1#1
    · simp [hc]
    · simp [cond2_of i v hc]
  fin_cases w
  · rfl
  · rfl
  · exact h _
  · exact h _

/-- What the body is called with at point `t`, -/
def bodyPre (c : Dev nD) (t : Fin (cfg1 a).N) : sProp 𝕄 :=
  iprop((dat a V c).Φ t.castSucc ∗ (dat a V c).owesAt () t.castSucc
    ∗ (∃ d, owns (c : Thread nD τ) (st_0 a t) fullShare ((dat a V c).before 0 t d))
    ∗ (∃ d, owns (c : Thread nD τ) (st_1 a t) fullShare ((dat a V c).before 1 t d))
    ∗ (∃ d, owns (c : Thread nD τ) (st_2 a t) fullShare ((dat a V c).before 2 t d))
    ∗ (∃ d, owns (c : Thread nD τ) (st_3 a t) fullShare ((dat a V c).before 3 t d)))
/-- and what it returns. -/
def bodyPost (c : Dev nD) (t : Fin (cfg1 a).N) : sProp 𝕄 :=
  iprop((dat a V c).Φ t.succ ∗ (dat a V c).owesAt () t.succ
    ∗ (dat a V c).leavesExact 0 t ∗ (dat a V c).leavesExact 1 t ∗ (dat a V c).leavesExact 2 t ∗ (dat a V c).leavesExact 3 t)

theorem leaves_eq (c : Dev nD) (t : Fin (cfg1 a).N) (w : Fin (cfg1 a).W) :
    (dat a V c).leavesExact w t = owns (c : Thread nD τ) (((cfg1 a).win w).stage ((cfg1 a).slots t w)) fullShare ((dat a V c).after w t) := by
  unfold Dat.leavesExact
  rw [show (cfg1 a).idle w ((cfg1 a).grid.coords t) = false from live a (grid1.coords t) w]

theorem sound_body (c : Dev nD) (t : Fin (cfg1 a).N) :
    bodyPre a V c t ⊢ wp frame (wpE (defs₀ (F := F)) Variants.none c none) Set.univ (bodyAt a t) (fun _ => bodyPost a V c t) := by
  unfold bodyPre bodyPost bodyAt
  simp only [before_0, before_1]
  rw [leaves_eq a V c t 0, leaves_eq a V c t 1, leaves_eq a V c t 2, leaves_eq a V c t 3]
  rw [show (dat a V c).Φ t.succ = (dat a V c).Φ t.castSucc from rfl,
    show (dat a V c).owesAt () t.succ = (dat a V c).owesAt () t.castSucc from rfl,
    after_0, after_1, after_2, after_3]
  rw [show (dat a V c).Φ t.castSucc = iprop(Pipeline.ΦA spec1 c ∗ tbPt c tb (a.1 0)) from rfl]
  iintro ⟨⟨HΦ, HT⟩, Ho, ⟨%d0, H0⟩, ⟨%d1, H1⟩, ⟨%d2, H2⟩, ⟨%d3, H3⟩⟩
  iapply (sound_kernel c Set.univ (grid1.coords t) _ _ _ _ _ _ _ _ (iblk a V c 0 t) (iblk a V c 1 t) (a.1 0) _ (readAt_word c a.1 (grid1.coords t)) _)
  isplitl [H0]; · iexact H0
  isplitl [H1]; · iexact H1
  isplitl [H2]; · iexists _; iexact H2
  isplitl [H3]; · iexists _; iexact H3
  isplitl [HT]; · iexact HT
  iintro ⟨H0, H1, H2, H3, HT⟩
  isplitl [HΦ HT]
  · isplitl [HΦ]; · iexact HΦ
    iexact HT
  isplitl [Ho]; · iexact Ho
  isplitl [H0]; · iexact H0
  isplitl [H1]; · iexact H1
  isplitl [H2]; · iexact H2
  iexact H3

/-- The body obligation at every point. -/
theorem body_obligation (c : Dev nD) : BodyObligation (dat (F := F) a V c) (defs₀ (F := F)) Variants.none () Set.univ := fun t => by
  rw [bigSep_W1, bigSep_W1, defs₀_row]
  exact triple_restated (sound_body a V c t) rfl .rfl fun _ => .rfl

end Cert.KernelIdeal.R1

end
-- ==== Proof.KI.R2.lean ====
/-
  Region 2 (`quant_w`): what one grid point computes, and the region's proof data from any contents of the buffers.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.ValueKit
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.R2

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point. -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point. -/
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

abbrev r_0 : Rect S4096x256 := Rect.unit (s := S4096x256) ![0, 0] S4096x256.size inb_S4096x256_S4096x256_0_0
abbrev r_1 : Rect S4096x1 := Rect.unit (s := S4096x1) ![0, 0] S4096x1.size inb_S4096x1_S4096x1_0_0
abbrev r_2 : Rect S1x256 := Rect.unit (s := S1x256) ![0, 0] S1x256.size inb_S1x256_S1x256_0_0

/-- The body's stores cover the codes' buffer. -/
theorem cover_2 (p0 : Vec F S4096x256 .i8) (y : S4096x256.Idx) :
    ∃ pc ∈ ([⟨r_0, p0⟩] : List (View.Piece (Elt F) S4096x256 .i8)), y ∈ pc.1.set :=
  View.cover_of_tiled [⟨r_0, p0⟩] S4096x256.size (by rfl) y
/-- The body's stores cover the scales' buffer. -/
theorem cover_3 (p0 : Vec F S1x256 .f32) (y : S1x256.Idx) :
    ∃ pc ∈ ([⟨r_2, p0⟩] : List (View.Piece (Elt F) S1x256 .f32)), y ∈ pc.1.set :=
  View.cover_of_tiled [⟨r_2, p0⟩] S1x256.size (by rfl) y

theorem off2 : (![0, 0] : Fin 2 → ℕ) = fun _ => 0 := by funext a; fin_cases a <;> rfl

/-- What is left in the codes' buffer is the payload. -/
theorem canon_2 (x0 : Vec F S4096x256 .bf16) (x1 : Vec F S4096x1 .f32) :
    (View.canon [⟨r_0, k2_pay3 (View.ld x0 r_0) (View.ld x1 r_1)⟩] : Vec F S4096x256 .i8) = k2_pay3 x0 x1 := by
  rw [View.ld_unit_zero (S := S4096x256) off2, View.ld_unit_zero (S := S4096x1) off2]
  exact View.canon_unit_zero (S := S4096x256) off2 _ _
/-- What is left in the scales' buffer is the payload. -/
theorem canon_3 (x0 : Vec F S4096x256 .bf16) (x1 : Vec F S4096x1 .f32) :
    (View.canon [⟨r_2, k2_pay2 (View.ld x0 r_0) (View.ld x1 r_1)⟩] : Vec F S1x256 .f32) = k2_pay2 x0 x1 := by
  rw [View.ld_unit_zero (S := S4096x256) off2, View.ld_unit_zero (S := S4096x1) off2]
  exact View.canon_unit_zero (S := S1x256) off2 _ _

set_option maxHeartbeats 1000000 in
/-- The body's triple: the inputs' buffers are kept and the outputs' hold the payloads of the inputs. -/
theorem sound_kernel (c : Dev nD) (E : Set ℕ) (i : grid2.Coords) (arg1 : Memref sig .tc .vmem S4096x256 .bf16) (harg1 : arg1.IsWhole) (arg2 : Memref sig .tc .vmem S4096x1 .f32) (harg2 : arg2.IsWhole) (arg3 : Memref sig .tc .vmem S4096x256 .i8) (harg3 : arg3.IsWhole) (arg4 : Memref sig .tc .vmem S1x256 .f32) (harg4 : arg4.IsWhole)
    (x0 : Vec F S4096x256 .bf16) (x1 : Vec F S4096x1 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (k2_pay3 x0 x1) ∗ owns (c : Thread nD τ) arg4 fullShare (k2_pay2 x0 x1)) -∗ K ⟨⟩))
      ⊢ wp frame (wpE (defs₀ (F := F)) Variants.none c none) E (cc2_quant_w i arg1 harg1 arg2 harg2 arg3 harg3 arg4 harg4) K := by
  rw [← canon_2 x0 x1, ← canon_3 x0 x1]
  simp only [cc2_quant_w_eq_skeleton]; unfold cc2_quant_w_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover_2 _)
  iexists _; isplitr
  swap; · iexact H3
  ipureintro
  exact View.read_writes_eq_canon _ _ _ (cover_3 _)

/-- The region's proof data: arrays as found, inputs kept, outputs at the payloads of the input blocks. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => k2_pay3 (iblk V c 0 t) (iblk V c 1 t)
    | ⟨3, _⟩ => k2_pay2 (iblk V c 0 t) (iblk V c 1 t)
  Φ _ := Pipeline.ΦA spec2 c
  q _ := fullShare
  owed _ := 0

theorem A_eq (c : Dev nD) (w : Fin cfg2.W) : (dat V c).A w = V c (Pipeline.arrRef spec2 w) := by
  dsimp only [dat]
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = k2_pay3 (iblk V c 0 t) (iblk V c 1 t) := by dsimp only [dat]
theorem after_3 (c : Dev nD) (t : Fin cfg2.N) : (dat V c).after 3 t = k2_pay2 (iblk V c 0 t) (iblk V c 1 t) := by dsimp only [dat]
theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d

/-- What the body is called with at point `t`, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d)))
/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t))

theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ (grid2.coords t) _ _ _ _ _ _ _ _ (iblk V c 0 t) (iblk V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem defs₀_row (t : Fin cfg2.N) :
    defs₀ (F := F) .tc cfg2.body (cfg2.bodyArgs t (cfg2.slots t)) = bodyAt2 t := by
  unfold defs₀; rw [Defs.onTc_tc]

/-- The body obligation at every point. -/
theorem body_obligation (c : Dev nD) : BodyObligation (dat (F := F) V c) (defs₀ (F := F)) Variants.none () Set.univ := fun t => by
  rw [bigSep_W2, bigSep_W2, defs₀_row]
  exact triple_restated (sound_body V c t) rfl .rfl fun _ => .rfl

end Cert.KernelIdeal.R2

end
-- ==== Proof.KI.R3Body.lean ====
/-
  Region 3 (`matmul`): what one grid point computes.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.ValueKit
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.R3

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The tables and the word -/

/-- The tables the body is handed: the tiles' order, the number of valid tiles, the tiles' rows. -/
abbrev tb0 : Memref sig .tc .smem S32 .i32 := Memref.whole main_v13
abbrev htb0 : tb0.IsWhole := Memref.isWhole_whole _
abbrev tb1 : Memref sig .tc .smem S1 .i32 := Memref.whole main_v16
abbrev htb1 : tb1.IsWhole := Memref.isWhole_whole _
abbrev tb2 : Memref sig .tc .smem S32 .i32 := Memref.whole main_v29
abbrev htb2 : tb2.IsWhole := Memref.isWhole_whole _
abbrev TbBuf (c : Dev nD) {S : Shape} {e : EltTy} (M : Memref sig .tc .smem S e) : Type := Buf (Elt F) (M.view.loc (c : Thread nD τ))
/-- A table held on core `c` at `f`. -/
abbrev tbPt (c : Dev nD) {S : Shape} {e : EltTy} (M : Memref sig .tc .smem S e) (f : TbBuf (F := F) c M) : sProp 𝕄 :=
  M.view.loc (c : Thread nD τ) ↦{fullShare} f

/-- The word the body reads: the number of valid tiles. -/
abbrev word (pf : pre3.Contents (Elt F)) : BitVec 32 := pf.atD 1 ![0]

/-- What the body's scalar load reads is that word. -/
theorem readAt_word (c : Dev nD) (pf : pre3.Contents (Elt F)) :
    tb1.view.readAt (Elt F) (Rect.unit (s := S1) ![0] S1.size inb_S1_S1_0).toLoadRect (pf 1 : TbBuf (F := F) c tb1)
      (Shape.Idx.first (numel1_S1.symm ▸ Nat.one_pos)) = word (F := F) pf := by
  have h : ∀ a, (![0] : Fin 1 → ℕ) a + 1 ≤ (pre3.ref 1).ty.shape.size a := fun a => by
    have := inb_S1_S1_0 a; fin_cases a; exact this
  refine Eq.trans ?_ (dif_pos h).symm
  show pf 1 _ = pf 1 _
  congr 1

theorem extBit (b : BitVec 1) : Scalar.cmpi .ne (Scalar.extui b : BitVec 32) 0#32 = b := by revert b; decide

theorem cond1_iff (i : grid3.Coords) (v : BitVec 32) : k3_cond1 i v = 1#1 ↔ (BitVec.ofNat 32 (i 1).val).toInt < v.toInt := by
  show Scalar.cmpi .ne (Scalar.extui (Scalar.cmpi .slt (BitVec.ofNat 32 (i 1).val) v)) 0#32 = 1#1 ↔ _
  rw [extBit]
  show BitVec.ofBool (BitVec.slt _ _) = 1#1 ↔ _
  rw [BitVec.slt]
  by_cases h : (BitVec.ofNat 32 (i 1).val).toInt < v.toInt <;> simp only [h, decide_true, decide_false] <;> decide
theorem cond2_iff (i : grid3.Coords) (v : BitVec 32) : k3_cond2 i v = 1#1 ↔ ¬ (BitVec.ofNat 32 (i 1).val).toInt < v.toInt := by
  show Scalar.cmpi .ne (Scalar.extui (Scalar.cmpi .sge (BitVec.ofNat 32 (i 1).val) v)) 0#32 = 1#1 ↔ _
  rw [extBit]
  show BitVec.ofBool (BitVec.sle _ _) = 1#1 ↔ _
  rw [BitVec.sle, not_lt]
  by_cases h : v.toInt ≤ (BitVec.ofNat 32 (i 1).val).toInt <;> simp only [h, decide_true, decide_false] <;> decide
/-- Either the tile is a valid one or it is not. -/
theorem cond2_of (i : grid3.Coords) (v : BitVec 32) (h : ¬ k3_cond1 i v = 1#1) : k3_cond2 i v = 1#1 := by
  rw [cond1_iff] at h; rwa [cond2_iff]
theorem not_cond2_of (i : grid3.Coords) (v : BitVec 32) (h : k3_cond1 i v = 1#1) : ¬ k3_cond2 i v = 1#1 := by
  rw [cond1_iff] at h; rw [cond2_iff]; exact not_not.mpr h

/-- What the body leaves in the output's buffer. -/
def outY (i : grid3.Coords) (v : BitVec 32) (x0 : Vec F S512x4096 .i8) (x1 : Vec F S4096x1024 .i8) (x2 : Vec F S512x1 .f32) (x3 : Vec F S1x1024 .f32) : Vec F S512x1024 .bf16 :=
  if k3_cond1 i v = 1#1 then k3_pay1 x0 x1 x2 x3 else k3_pay2

abbrev r_0 : Rect S512x4096 := Rect.unit (s := S512x4096) ![0, 0] S512x4096.size inb_S512x4096_S512x4096_0_0
abbrev r_1 : Rect S4096x1024 := Rect.unit (s := S4096x1024) ![0, 0] S4096x1024.size inb_S4096x1024_S4096x1024_0_0
abbrev r_2 : Rect S512x1 := Rect.unit (s := S512x1) ![0, 0] S512x1.size inb_S512x1_S512x1_0_0
abbrev r_3 : Rect S1x1024 := Rect.unit (s := S1x1024) ![0, 0] S1x1024.size inb_S1x1024_S1x1024_0_0
abbrev r_4 : Rect S512x1024 := Rect.unit (s := S512x1024) ![0, 0] S512x1024.size inb_S512x1024_S512x1024_0_0

theorem cover_4 (p0 : Vec F S512x1024 .bf16) (y : S512x1024.Idx) :
    ∃ pc ∈ ([⟨r_4, p0⟩] : List (View.Piece (Elt F) S512x1024 .bf16)), y ∈ pc.1.set :=
  View.cover_of_tiled [⟨r_4, p0⟩] S512x1024.size (by rfl) y

theorem off2 : (![0, 0] : Fin 2 → ℕ) = fun _ => 0 := by funext a; fin_cases a <;> rfl

theorem canon_4a (p : Vec F S512x1024 .bf16) : (View.canon [⟨r_4, p⟩] : Vec F S512x1024 .bf16) = p :=
  View.canon_unit_zero (S := S512x1024) off2 _ _

set_option maxHeartbeats 2000000 in
/-- The body's triple: the inputs' buffers and the tables are kept and the output's holds what the word decides. -/
theorem sound_kernel (c : Dev nD) (E : Set ℕ) (i : grid3.Coords) (arg5 : Memref sig .tc .vmem S512x4096 .i8) (harg5 : arg5.IsWhole) (arg6 : Memref sig .tc .vmem S4096x1024 .i8) (harg6 : arg6.IsWhole) (arg7 : Memref sig .tc .vmem S512x1 .f32) (harg7 : arg7.IsWhole) (arg8 : Memref sig .tc .vmem S1x1024 .f32) (harg8 : arg8.IsWhole) (arg9 : Memref sig .tc .vmem S512x1024 .bf16) (harg9 : arg9.IsWhole)
    (x0 : Vec F S512x4096 .i8) (x1 : Vec F S4096x1024 .i8) (x2 : Vec F S512x1 .f32) (x3 : Vec F S1x1024 .f32) (xt : TbBuf (F := F) c tb1) (v : BitVec 32)
    (hv : tb1.view.readAt (Elt F) (Rect.unit (s := S1) ![0] S1.size inb_S1_S1_0).toLoadRect xt (Shape.Idx.first (numel1_S1.symm ▸ Nat.one_pos)) = v)
    (K : PUnit → sProp 𝕄) :
    iprop(owns (c : Thread nD τ) arg5 fullShare x0 ∗ owns (c : Thread nD τ) arg6 fullShare x1 ∗ owns (c : Thread nD τ) arg7 fullShare x2 ∗ owns (c : Thread nD τ) arg8 fullShare x3 ∗ (∃ d, owns (c : Thread nD τ) arg9 fullShare d)
        ∗ tbPt c tb1 xt
        ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare (outY i v x0 x1 x2 x3) ∗ tbPt c tb1 xt) -∗ K ⟨⟩))
      ⊢ wp frame (wpE (defs₀ (F := F)) Variants.none c none) E (cc3_matmul i tb0 htb0 tb1 htb1 tb2 htb2 arg5 harg5 arg6 harg6 arg7 harg7 arg8 harg8 arg9 harg9) K := by
  by_cases hc : k3_cond1 i v = 1#1
  · have hc2 := not_cond2_of i v hc
    have e1 : k3_pay1 x0 x1 x2 x3 = (View.canon [⟨r_4, k3_pay1 (View.ld x0 r_0) (View.ld x1 r_1) (View.ld x2 r_2) (View.ld x3 r_3)⟩] : Vec F S512x1024 .bf16) := by
      rw [View.ld_unit_zero (S := S512x4096) off2, View.ld_unit_zero (S := S4096x1024) off2, View.ld_unit_zero (S := S512x1) off2, View.ld_unit_zero (S := S1x1024) off2, canon_4a]
    rw [outY, if_pos hc, e1]
    subst hv
    simp only [cc3_matmul_eq_skeleton]; unfold cc3_matmul_skel
    unfold owns
    iintro ⟨⟨%f0, %hf0, H0⟩, ⟨%f1, %hf1, H1⟩, ⟨%f2, %hf2, H2⟩, ⟨%f3, %hf3, H3⟩, ⟨%d4, %f4, -, H4⟩, HT, Hk⟩
    subst hf0 hf1 hf2 hf3
    sl_exec (disch := first | sl_exact hc | sl_exact hc2)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists _; isplitr
      swap; · iexact H4
      ipureintro
      exact View.read_writes_eq_canon _ _ _ (cover_4 _)
    iexact HT
  · have hc2 := cond2_of i v hc
    rw [outY, if_neg hc, ← canon_4a (F := F) k3_pay2]
    subst hv
    simp only [cc3_matmul_eq_skeleton]; unfold cc3_matmul_skel
    unfold owns
    iintro ⟨⟨%f0, %hf0, H0⟩, ⟨%f1, %hf1, H1⟩, ⟨%f2, %hf2, H2⟩, ⟨%f3, %hf3, H3⟩, ⟨%d4, %f4, -, H4⟩, HT, Hk⟩
    subst hf0 hf1 hf2 hf3
    sl_exec (disch := first | sl_exact hc | sl_exact hc2)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists _; isplitr
      swap; · iexact H4
      ipureintro
      exact View.read_writes_eq_canon _ _ _ (cover_4 _)
    iexact HT

end Cert.KernelIdeal.R3

end
-- ==== Proof.KI.R3.lean ====
/-
  Region 3 (`matmul`): the region's proof data from any contents of the buffers.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.ValueKit
public import proofs.«01_k».proof.Proof.KI.R3Body
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.R3

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The region's proof data -/

variable (a : (pcfg3 (F := F)).Adm) (V : Dev nD → Valuation τ sig (Elt F))

/-- Window `w`'s block at point `t`, read off its array as the region finds it. -/
def iblk (c : Dev nD) (w : Fin (cfg3 a).W) (t : Fin (cfg3 a).N) : (((cfg3 a).win w).xblock ((cfg3 a).grid.coords t)).Idx → Elt F ((cfg3 a).win w).elt :=
  (((cfg3 a).win w).blk t).view.read (Elt F) (V c (Pipeline.arrRef spec3 w))

theorem before_0_of {c : Dev nD} (dat : Dat τ (Elt F) Unit ℕ (UR sig nD τ) ℕ (cfg3 a) c) (hA : dat.A 0 = V c (Pipeline.arrRef spec3 0))
    (hafter : ∀ t, dat.after 0 t = iblk a V c 0 t) (t : Fin (cfg3 a).N) (d) : dat.before 0 t d = iblk a V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ (cfg3 a) c) (hA : dat.A 1 = V c (Pipeline.arrRef spec3 1))
    (hafter : ∀ t, dat.after 1 t = iblk a V c 1 t) (t : Fin (cfg3 a).N) (d) : dat.before 1 t d = iblk a V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ (cfg3 a) c) (hA : dat.A 2 = V c (Pipeline.arrRef spec3 2))
    (hafter : ∀ t, dat.after 2 t = iblk a V c 2 t) (t : Fin (cfg3 a).N) (d) : dat.before 2 t d = iblk a V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ (cfg3 a) c) (hA : dat.A 3 = V c (Pipeline.arrRef spec3 3))
    (hafter : ∀ t, dat.after 3 t = iblk a V c 3 t) (t : Fin (cfg3 a).N) (d) : dat.before 3 t d = iblk a V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The tables held whole, one by one. -/
theorem tables_eq (c : Dev nD) : (Pipeline.prefHeld pre3 c (fun _ => fullShare) a.1 : sProp 𝕄)
    = iprop(tbPt c tb0 (a.1 0) ∗ tbPt c tb1 (a.1 1) ∗ tbPt c tb2 (a.1 2)) := by
  unfold Pipeline.prefHeld
  exact bigSep_univ_eq_bigSepL [(0 : Fin 3), (1 : Fin 3), (2 : Fin 3)] (by decide) (by decide) _

/-- What the body leaves in the output's buffer at point `t`. -/
def yblk (c : Dev nD) (t : Fin (cfg3 a).N) : Vec F S512x1024 .bf16 :=
  outY (grid3.coords t) (word a.1) (iblk a V c 0 t) (iblk a V c 1 t) (iblk a V c 2 t) (iblk a V c 3 t)

/-- The region's proof data: arrays as found, inputs kept, the output at what the word decides of the input blocks. -/
def dat (c : Dev nD) : Dat τ (Elt F) Unit ℕ (UR sig nD τ) ℕ (cfg3 a) c where
  A w := V c (Pipeline.arrRef spec3 w)
  after w t := match w with
    | ⟨0, _⟩ => iblk a V c 0 t
    | ⟨1, _⟩ => iblk a V c 1 t
    | ⟨2, _⟩ => iblk a V c 2 t
    | ⟨3, _⟩ => iblk a V c 3 t
    | ⟨4, _⟩ => yblk a V c t
  Φ _ := iprop(Pipeline.ΦA spec3 c ∗ (tbPt c tb0 (a.1 0) ∗ tbPt c tb1 (a.1 1) ∗ tbPt c tb2 (a.1 2)))
  q _ := fullShare
  owed _ := 0

theorem A_eq (c : Dev nD) (w : Fin (cfg3 a).W) : (dat a V c).A w = V c (Pipeline.arrRef spec3 w) := by
  dsimp only [dat]
theorem after_0 (c : Dev nD) (t : Fin (cfg3 a).N) : (dat a V c).after 0 t = iblk a V c 0 t := by dsimp only [dat]; rfl
theorem after_1 (c : Dev nD) (t : Fin (cfg3 a).N) : (dat a V c).after 1 t = iblk a V c 1 t := by dsimp only [dat]; rfl
theorem after_2 (c : Dev nD) (t : Fin (cfg3 a).N) : (dat a V c).after 2 t = iblk a V c 2 t := by dsimp only [dat]; rfl
theorem after_3 (c : Dev nD) (t : Fin (cfg3 a).N) : (dat a V c).after 3 t = iblk a V c 3 t := by dsimp only [dat]; rfl
theorem after_4 (c : Dev nD) (t : Fin (cfg3 a).N) : (dat a V c).after 4 t = yblk a V c t := by dsimp only [dat]; rfl
theorem before_0 (c : Dev nD) (t : Fin (cfg3 a).N) (d) : (dat a V c).before 0 t d = iblk a V c 0 t :=
  before_0_of a V (dat a V c) (A_eq a V c 0) (after_0 a V c) t d
theorem before_1 (c : Dev nD) (t : Fin (cfg3 a).N) (d) : (dat a V c).before 1 t d = iblk a V c 1 t :=
  before_1_of a V (dat a V c) (A_eq a V c 1) (after_1 a V c) t d
theorem before_2 (c : Dev nD) (t : Fin (cfg3 a).N) (d) : (dat a V c).before 2 t d = iblk a V c 2 t :=
  before_2_of a V (dat a V c) (A_eq a V c 2) (after_2 a V c) t d
theorem before_3 (c : Dev nD) (t : Fin (cfg3 a).N) (d) : (dat a V c).before 3 t d = iblk a V c 3 t :=
  before_3_of a V (dat a V c) (A_eq a V c 3) (after_3 a V c) t d

abbrev st_0 (t : Fin (cfg3 a).N) : Memref sig .tc .vmem S512x4096 .i8 := ((cfg3 a).win 0).stage ((cfg3 a).slots t 0)
abbrev st_1 (t : Fin (cfg3 a).N) : Memref sig .tc .vmem S4096x1024 .i8 := ((cfg3 a).win 1).stage ((cfg3 a).slots t 1)
abbrev st_2 (t : Fin (cfg3 a).N) : Memref sig .tc .vmem S512x1 .f32 := ((cfg3 a).win 2).stage ((cfg3 a).slots t 2)
abbrev st_3 (t : Fin (cfg3 a).N) : Memref sig .tc .vmem S1x1024 .f32 := ((cfg3 a).win 3).stage ((cfg3 a).slots t 3)
abbrev st_4 (t : Fin (cfg3 a).N) : Memref sig .tc .vmem S512x1024 .bf16 := ((cfg3 a).win 4).stage ((cfg3 a).slots t 4)

/-- The body at point `t`. -/
abbrev bodyAt (t : Fin (cfg3 a).N) : Prog (TpuEff nD τ sig (Elt F) Λ₀ .tc) PUnit :=
  cc3_matmul (grid3.coords t) tb0 htb0 tb1 htb1 tb2 htb2
    (st_0 a t) (hstage3_0 (((cfg3 a).slots t 0).cast nbuf3_0)) (st_1 a t) (hstage3_1 (((cfg3 a).slots t 1).cast nbuf3_1)) (st_2 a t) (hstage3_2 (((cfg3 a).slots t 2).cast nbuf3_2)) (st_3 a t) (hstage3_3 (((cfg3 a).slots t 3).cast nbuf3_3)) (st_4 a t) (hstage3_4 (((cfg3 a).slots t 4).cast nbuf3_4))

theorem defs₀_row (t : Fin (cfg3 a).N) :
    defs₀ (F := F) .tc (cfg3 a).body ((cfg3 a).bodyArgs t ((cfg3 a).slots t)) = bodyAt a t := by
  unfold defs₀; rw [Defs.onTc_tc]; rfl

/-- No point leaves the output alone. -/
theorem live (i : grid3.Coords) (w : Fin 5) : idle3 a.1 w i = false := by
  have h : ∀ v : BitVec 32, (!(k3_cond1 i v == 1#1) && !(k3_cond2 i v == 1#1)) = false := fun v => by
    by_cases hc : k3_cond1 i v = 1#1
    · simp [hc]
    · simp [cond2_of i v hc]
  fin_cases w
  · rfl
  · rfl
  · rfl
  · rfl
  · exact h _

/-- What the body is called with at point `t`, -/
def bodyPre (c : Dev nD) (t : Fin (cfg3 a).N) : sProp 𝕄 :=
  iprop((dat a V c).Φ t.castSucc ∗ (dat a V c).owesAt () t.castSucc
    ∗ (∃ d, owns (c : Thread nD τ) (st_0 a t) fullShare ((dat a V c).before 0 t d))
    ∗ (∃ d, owns (c : Thread nD τ) (st_1 a t) fullShare ((dat a V c).before 1 t d))
    ∗ (∃ d, owns (c : Thread nD τ) (st_2 a t) fullShare ((dat a V c).before 2 t d))
    ∗ (∃ d, owns (c : Thread nD τ) (st_3 a t) fullShare ((dat a V c).before 3 t d))
    ∗ (∃ d, owns (c : Thread nD τ) (st_4 a t) fullShare ((dat a V c).before 4 t d)))
/-- and what it returns. -/
def bodyPost (c : Dev nD) (t : Fin (cfg3 a).N) : sProp 𝕄 :=
  iprop((dat a V c).Φ t.succ ∗ (dat a V c).owesAt () t.succ
    ∗ (dat a V c).leavesExact 0 t ∗ (dat a V c).leavesExact 1 t ∗ (dat a V c).leavesExact 2 t ∗ (dat a V c).leavesExact 3 t ∗ (dat a V c).leavesExact 4 t)

theorem leaves_eq (c : Dev nD) (t : Fin (cfg3 a).N) (w : Fin (cfg3 a).W) :
    (dat a V c).leavesExact w t = owns (c : Thread nD τ) (((cfg3 a).win w).stage ((cfg3 a).slots t w)) fullShare ((dat a V c).after w t) := by
  unfold Dat.leavesExact
  rw [show (cfg3 a).idle w ((cfg3 a).grid.coords t) = false from live a (grid3.coords t) w]

theorem sound_body (c : Dev nD) (t : Fin (cfg3 a).N) :
    bodyPre a V c t ⊢ wp frame (wpE (defs₀ (F := F)) Variants.none c none) Set.univ (bodyAt a t) (fun _ => bodyPost a V c t) := by
  unfold bodyPre bodyPost bodyAt
  simp only [before_0, before_1, before_2, before_3]
  rw [leaves_eq a V c t 0, leaves_eq a V c t 1, leaves_eq a V c t 2, leaves_eq a V c t 3, leaves_eq a V c t 4]
  rw [show (dat a V c).Φ t.succ = (dat a V c).Φ t.castSucc from rfl,
    show (dat a V c).owesAt () t.succ = (dat a V c).owesAt () t.castSucc from rfl,
    after_0, after_1, after_2, after_3, after_4]
  rw [show (dat a V c).Φ t.castSucc = iprop(Pipeline.ΦA spec3 c ∗ (tbPt c tb0 (a.1 0) ∗ tbPt c tb1 (a.1 1) ∗ tbPt c tb2 (a.1 2))) from rfl]
  iintro ⟨⟨HΦ, HT0, HT1, HT2⟩, Ho, ⟨%d0, H0⟩, ⟨%d1, H1⟩, ⟨%d2, H2⟩, ⟨%d3, H3⟩, ⟨%d4, H4⟩⟩
  iapply (sound_kernel c Set.univ (grid3.coords t) _ _ _ _ _ _ _ _ _ _ (iblk a V c 0 t) (iblk a V c 1 t) (iblk a V c 2 t) (iblk a V c 3 t) (a.1 1) _ (readAt_word c a.1) _)
  isplitl [H0]; · iexact H0
  isplitl [H1]; · iexact H1
  isplitl [H2]; · iexact H2
  isplitl [H3]; · iexact H3
  isplitl [H4]; · iexists _; iexact H4
  isplitl [HT1]; · iexact HT1
  iintro ⟨H0, H1, H2, H3, H4, HT1⟩
  isplitl [HΦ HT0 HT1 HT2]
  · isplitl [HΦ]; · iexact HΦ
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  iexact H4

/-- The body obligation at every point. -/
theorem body_obligation (c : Dev nD) : BodyObligation (dat (F := F) a V c) (defs₀ (F := F)) Variants.none () Set.univ := fun t => by
  rw [bigSep_W3, bigSep_W3, defs₀_row]
  exact triple_restated (sound_body a V c t) rfl .rfl fun _ => .rfl

end Cert.KernelIdeal.R3

end
-- ==== Proof.KI.Run.lean ====
/-
  The whole program's run: what each region leaves, and what the buffers hold at the end.
-/
module

public import proofs.«01_k».proof.Proof.Gen.KernelIdeal.Launch
public import proofs.«01_k».proof.Proof.Gen.KernelIdeal.Regions
public import proofs.«01_k».proof.Proof.KI.Tabs
public import proofs.«01_k».proof.Proof.KI.R0
public import proofs.«01_k».proof.Proof.KI.R1
public import proofs.«01_k».proof.Proof.KI.R2
public import proofs.«01_k».proof.Proof.KI.R3
public import Idealize.ShloMosaic.Lib.Pipeline.Regions
public import Idealize.ShloMosaic.Lib.Pipeline.RegionArraysS
public import Idealize.ShloMosaic.Lib.Pipeline.RegionArraysTS

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-- The only device. -/
def c₀ : Dev nD := ⟨0, by decide⟩
theorem dev_eq (c : Dev nD) : c = c₀ := Subsingleton.elim _ _

/-! ## The buffers' contents between items, and the tables as the regions find them -/

/-- Call 0's table as it finds it, -/
def a0 : (pcfg0 (F := F)).Adm := ⟨fun k => V1 m c₀ (pre0.ref k), Tabs.ok0_any _⟩
/-- and what it leaves; -/
def X2 (c : Dev nD) : Valuation τ sig (Elt F) := Pipeline.afterRegion (R0.dat (a0 m) (V1 m) c) (V1 m c)
/-- call 1's, -/
def a1 : (pcfg1 (F := F)).Adm := ⟨fun k => X2 m c₀ (pre1.ref k), Tabs.ok1_any _⟩
def X3 (c : Dev nD) : Valuation τ sig (Elt F) := Pipeline.afterRegion (R1.dat (a1 m) (X2 m) c) (X2 m c)
def X4 (c : Dev nD) : Valuation τ sig (Elt F) := StableHlo.after hostOps2 (X3 m c)
def X5 (c : Dev nD) : Valuation τ sig (Elt F) := Pipeline.afterRegion (R2.dat (X4 m) c) (X4 m c)
def X6 (c : Dev nD) : Valuation τ sig (Elt F) := StableHlo.after hostOps3 (X5 m c)
def X7 (c : Dev nD) : Valuation τ sig (Elt F) := StableHlo.after hostOps3_1 (X6 m c)
def X8 (c : Dev nD) : Valuation τ sig (Elt F) := StableHlo.after hostOps3_2 (X7 m c)
def X9 (c : Dev nD) : Valuation τ sig (Elt F) := StableHlo.after hostOps3_3 (X8 m c)
def X10 (c : Dev nD) : Valuation τ sig (Elt F) := StableHlo.after hostOps3_4 (X9 m c)

theorem X10_v13 (c : Dev nD) : X10 m c main_v13 = X9 m c main_v13 :=
  StableHlo.after_of_writes_sub hostOps3_4 _ hostOps3_4_writes (by decide)

theorem ok3_X : ok3 (F := F) (fun k => X10 m c₀ (pre3.ref k)) := by
  refine Tabs.ok3_of _ (fun x => ?_) (fun x => ?_)
  · show (X10 m c₀ main_v13 x : BitVec 32).toNat < 32
    rw [X10_v13]
    exact Tabs.v13_lt _ x
  · obtain ⟨y, hy⟩ := Tabs.v29_src (X9 m c₀) x
    show (StableHlo.after hostOps3_4 (X9 m c₀) main_v29 x : BitVec 32).toNat < 32
    rw [hy]
    exact Tabs.v13_lt _ y

def a3 : (pcfg3 (F := F)).Adm := ⟨fun k => X10 m c₀ (pre3.ref k), ok3_X m⟩
def X11 (c : Dev nD) : Valuation τ sig (Elt F) := Pipeline.afterRegion (R3.dat (a3 m) (X10 m) c) (X10 m c)
def X12 (c : Dev nD) : Valuation τ sig (Elt F) := StableHlo.after hostOps4 (X11 m c)

/-- What the regions leave in the buffers they may change. -/
def outs : Outs (F := F) := fun J r c => match J with
  | 2 => X2 m c r
  | 3 => X3 m c r
  | 5 => X5 m c r
  | _ => X11 m c r

/-- A region changes its output windows' arrays only. -/
theorem keepsDev {cfg : Pipeline.Cfg sig Λ₀} {c : Dev nD} (dat : Dat τ (Elt F) Unit ℕ (UR sig nD τ) ℕ cfg c) (V : Valuation τ sig (Elt F))
    (hinj : Function.Injective (Pipeline.arrRef cfg.spec)) (hA : ∀ w, dat.A w = V (Proc.devRef .tc (Pipeline.arrRef cfg.spec w)))
    (b : DevRef τ sig) (h : ∀ w, b = Proc.devRef .tc (Pipeline.arrRef cfg.spec w) → (cfg.win w).isOut = false) :
    Pipeline.afterRegion dat V b = V b := by
  by_cases hw : ∃ w, b = Proc.devRef .tc (Pipeline.arrRef cfg.spec w)
  · obtain ⟨w, rfl⟩ := hw
    exact (Pipeline.afterRegion_arr dat V hinj w).trans ((dat.arrAt_in w (h w rfl) _).trans (hA w))
  · unfold Pipeline.afterRegion
    rw [dif_neg hw]

theorem X2_keeps (c : Dev nD) (b : DevRef τ sig) (h : b ≠ Proc.devRef .tc main_v1) : X2 m c b = V1 m c b := by
  refine keepsDev (R0.dat (a0 m) (V1 m) c) (V1 m c) (launch0 (F := F)).win.arr_inj (fun w => by first | exact R0.A_eq (a0 m) (V1 m) c w | rfl) b (fun w hw => ?_)
  match w with
  | ⟨0, _⟩ => rfl
  | ⟨1, _⟩ => rfl
  | ⟨2, _⟩ => exact absurd hw h

theorem X3_keeps (c : Dev nD) (b : DevRef τ sig) (h : b ≠ Proc.devRef .tc main_v2_0) (h' : b ≠ Proc.devRef .tc main_v2_1) : X3 m c b = X2 m c b := by
  refine keepsDev (R1.dat (a1 m) (X2 m) c) (X2 m c) (launch1 (F := F)).win.arr_inj (fun w => by first | exact R1.A_eq (a1 m) (X2 m) c w | rfl) b (fun w hw => ?_)
  match w with
  | ⟨0, _⟩ => rfl
  | ⟨1, _⟩ => rfl
  | ⟨2, _⟩ => exact absurd hw h
  | ⟨3, _⟩ => exact absurd hw h'

theorem X5_keeps (c : Dev nD) (b : DevRef τ sig) (h : b ≠ Proc.devRef .tc main_v4_0) (h' : b ≠ Proc.devRef .tc main_v4_1) : X5 m c b = X4 m c b := by
  refine keepsDev (R2.dat (X4 m) c) (X4 m c) (launch2 (F := F)).win.arr_inj (fun w => by first | exact R2.A_eq (X4 m) c w | rfl) b (fun w hw => ?_)
  match w with
  | ⟨0, _⟩ => rfl
  | ⟨1, _⟩ => rfl
  | ⟨2, _⟩ => exact absurd hw h
  | ⟨3, _⟩ => exact absurd hw h'

theorem X11_keeps (c : Dev nD) (b : DevRef τ sig) (h : b ≠ Proc.devRef .tc main_v32) : X11 m c b = X10 m c b := by
  refine keepsDev (R3.dat (a3 m) (X10 m) c) (X10 m c) (launch3 (F := F)).win.arr_inj (fun w => by first | exact R3.A_eq (a3 m) (X10 m) c w | rfl) b (fun w hw => ?_)
  match w with
  | ⟨0, _⟩ => rfl
  | ⟨1, _⟩ => rfl
  | ⟨2, _⟩ => rfl
  | ⟨3, _⟩ => rfl
  | ⟨4, _⟩ => exact absurd hw h

theorem upd1 (V X : Valuation τ sig (Elt F)) (r : DevRef τ sig) (h : ∀ b, b ≠ r → X b = V b) : Function.update V r (X r) = X := by
  funext b
  by_cases e : b = r
  · subst e; exact Function.update_self ..
  · exact (Function.update_of_ne e _ _).trans (h b e).symm
theorem upd2 (V X : Valuation τ sig (Elt F)) (r r' : DevRef τ sig) (h : ∀ b, b ≠ r → b ≠ r' → X b = V b) :
    Function.update (Function.update V r (X r)) r' (X r') = X := by
  funext b
  by_cases e : b = r'
  · subst e; exact Function.update_self ..
  · refine (Function.update_of_ne e _ _).trans ?_
    by_cases e' : b = r
    · subst e'; exact Function.update_self ..
    · exact (Function.update_of_ne e' _ _).trans (h b e' e).symm

theorem V2_eq (c : Dev nD) : V2 m (outs m) c = X2 m c := upd1 _ _ _ (X2_keeps m c)
theorem V3_eq (c : Dev nD) : V3 m (outs m) c = X3 m c := by
  show Function.update (Function.update (V2 m (outs m) c) _ _) _ _ = _
  rw [V2_eq]; exact upd2 _ _ _ _ (X3_keeps m c)
theorem V4_eq (c : Dev nD) : V4 m (outs m) c = X4 m c := by
  show StableHlo.after hostOps2 (V3 m (outs m) c) = _
  rw [V3_eq]; rfl
theorem V5_eq (c : Dev nD) : V5 m (outs m) c = X5 m c := by
  show Function.update (Function.update (V4 m (outs m) c) _ _) _ _ = _
  rw [V4_eq]; exact upd2 _ _ _ _ (X5_keeps m c)
theorem V10_eq (c : Dev nD) : V10 m (outs m) c = X10 m c := by
  show StableHlo.after hostOps3_4 (StableHlo.after hostOps3_3 (StableHlo.after hostOps3_2 (StableHlo.after hostOps3_1 (StableHlo.after hostOps3 (V5 m (outs m) c))))) = _
  rw [V5_eq]; rfl
theorem V11_eq (c : Dev nD) : V11 m (outs m) c = X11 m c := by
  show Function.update (V10 m (outs m) c) _ _ = _
  rw [V10_eq]; exact upd1 _ _ _ (X11_keeps m c)
theorem V12_eq (c : Dev nD) : V12 m (outs m) c = X12 m c := by
  show StableHlo.after hostOps4 (V11 m (outs m) c) = _
  rw [V11_eq]; rfl

/-! ## The regions as segments -/

/-- The tables' contents, call by call, -/
def adm : (p : Fin 4) → (pcfgs (F := F) p).Adm := fun
  | ⟨0, _⟩ => a0 m
  | ⟨1, _⟩ => a1 m
  | ⟨2, _⟩ => (Pipeline.Cfg.toPCfg_adm cfg2)
  | ⟨3, _⟩ => a3 m

/-- and the regions' proof data. -/
def pdats : (p : Fin 4) → (c : Dev nD) → Dat τ (Elt F) Unit ℕ (UR sig nD τ) ℕ (Pipeline.pin (pcfgs (F := F)) (adm m) p) c := fun
  | ⟨0, _⟩ => R0.dat (a0 m) (V1 m)
  | ⟨1, _⟩ => R1.dat (a1 m) (X2 m)
  | ⟨2, _⟩ => R2.dat (X4 m)
  | ⟨3, _⟩ => R3.dat (a3 m) (X10 m)

/-- One level for the pipelines' own counters. -/
def LL : GSem nD τ sig → Finset Unit := fun g => if g.1.2 = .tc then {()} else ∅
def lvl : GSem nD τ sig → Unit → ℕ := fun _ _ => 0

theorem cut (p : Fin 4) : Pipeline.LevelCut (pcfgs (F := F)) (adm m) () LL lvl p (fun _ => 0) (fun _ => 0) where
  hι c w s := by unfold LL; rw [if_pos rfl]; exact Finset.mem_singleton_self _
  hιb c w s := le_refl _
  hD c g i h := absurd h (lt_irrefl _)

/-- What rides along between regions. -/
def RG (c : Dev nD) : sProp 𝕄 := iprop(∃ r, prngReg c r)
def EE : Fin 5 → Dev nD → sProp 𝕄 := fun _ c => iprop((∃ Wd, owes (c : Thread nD τ) (0 : CellTallies nD τ sig Unit) Wd) ∗ RG (F := F) c ∗ emp)

/-- Call 0 as a segment. -/
def reg0 : RegionSeg (pcfgs (F := F)) (adm m) (pdats m) () (defs₀ (F := F)) Variants.none LL lvl 0 :=
  RegionSeg.ofHeldInT _ _ _ _ _ _ _ _ 0 (fun _ => 0) (Pipeline.ucRefs τ sig) (RG (F := F)) (RG (F := F)) launch0
    (fun c => (R0.body_obligation (a0 m) (V1 m) c).loose) (fun _ _ => rfl) (fun _ => rfl)
    (fun c w => by show ((R0.dat (a0 m) (V1 m)) c).share w = fullShare; exact ((R0.dat (a0 m) (V1 m)) c).share_full (fun _ => rfl) w)
    (fun c => R0.hin (a0 m) (V1 m) c) (fun c => R0.hout (a0 m) (V1 m) c) (fun _ => 0) (cut m 0) (fun _ => iprop(emp)) (V1 m)
    (fun c w => rfl) (fun c k => by rw [dev_eq c]; rfl)
theorem tblSwap1 (c : Dev nD) : iprop((Pipeline.scopedRest spec1 c ∗ RG (F := F) c) ∗ Pipeline.prefHeld pre1 c (fun _ => fullShare) (a1 m).1) ⊢ ((R1.dat (a1 m) (X2 m)) c).Φ 0 := by
  rw [R1.tables_eq (a1 m) c]
  exact .rfl
theorem tblBack1 (c : Dev nD) : ((R1.dat (a1 m) (X2 m)) c).Φ (Fin.last (cfg1 (a1 m)).N) ⊢ iprop((Pipeline.scopedRest spec1 c ∗ RG (F := F) c) ∗ Pipeline.prefHeld pre1 c (fun _ => fullShare) (a1 m).1) := by
  rw [R1.tables_eq (a1 m) c]
  exact .rfl
/-- Call 1 as a segment. -/
def reg1 : RegionSeg (pcfgs (F := F)) (adm m) (pdats m) () (defs₀ (F := F)) Variants.none LL lvl 1 :=
  RegionSeg.ofHeldInT _ _ _ _ _ _ _ _ 1 (fun _ => 0) (Pipeline.ucRefs τ sig) (RG (F := F)) (RG (F := F)) launch1
    (fun c => (R1.body_obligation (a1 m) (X2 m) c).loose) (fun _ _ => rfl) (fun _ => rfl)
    (fun c w => by show ((R1.dat (a1 m) (X2 m)) c).share w = fullShare; exact ((R1.dat (a1 m) (X2 m)) c).share_full (fun _ => rfl) w)
    (fun c => tblSwap1 m c) (fun c => tblBack1 m c) (fun _ => 0) (cut m 1) (fun _ => iprop(emp)) (X2 m)
    (fun c w => rfl) (fun c k => by rw [dev_eq c]; rfl)
/-- Call 2 as a segment. -/
def reg2 : RegionSeg (pcfgs (F := F)) (adm m) (pdats m) () (defs₀ (F := F)) Variants.none LL lvl 2 :=
  RegionSeg.ofHeldIn _ _ _ _ _ _ _ _ 2 (fun _ => 0) (Pipeline.ucRefs τ sig) (RG (F := F)) (RG (F := F)) (launch2 (F := F)) rfl
    (fun c => (R2.body_obligation (X4 m) c).loose) (fun _ _ => rfl) (fun _ => rfl)
    (fun c w => by show ((R2.dat (X4 m)) c).share w = fullShare; exact ((R2.dat (X4 m)) c).share_full (fun _ => rfl) w)
    (fun c => .rfl) (fun c => .rfl) (fun _ => 0) (cut m 2) (fun _ => iprop(emp)) (X4 m)
    (fun c w => rfl)
theorem tblSwap3 (c : Dev nD) : iprop((Pipeline.scopedRest spec3 c ∗ RG (F := F) c) ∗ Pipeline.prefHeld pre3 c (fun _ => fullShare) (a3 m).1) ⊢ ((R3.dat (a3 m) (X10 m)) c).Φ 0 := by
  rw [R3.tables_eq (a3 m) c]
  exact .rfl
theorem tblBack3 (c : Dev nD) : ((R3.dat (a3 m) (X10 m)) c).Φ (Fin.last (cfg3 (a3 m)).N) ⊢ iprop((Pipeline.scopedRest spec3 c ∗ RG (F := F) c) ∗ Pipeline.prefHeld pre3 c (fun _ => fullShare) (a3 m).1) := by
  rw [R3.tables_eq (a3 m) c]
  exact .rfl
/-- Call 3 as a segment. -/
def reg3 : RegionSeg (pcfgs (F := F)) (adm m) (pdats m) () (defs₀ (F := F)) Variants.none LL lvl 3 :=
  RegionSeg.ofHeldInT _ _ _ _ _ _ _ _ 3 (fun _ => 0) (Pipeline.ucRefs τ sig) (RG (F := F)) (RG (F := F)) launch3
    (fun c => (R3.body_obligation (a3 m) (X10 m) c).loose) (fun _ _ => rfl) (fun _ => rfl)
    (fun c w => by show ((R3.dat (a3 m) (X10 m)) c).share w = fullShare; exact ((R3.dat (a3 m) (X10 m)) c).share_full (fun _ => rfl) w)
    (fun c => tblSwap3 m c) (fun c => tblBack3 m c) (fun _ => 0) (cut m 3) (fun _ => iprop(emp)) (X10 m)
    (fun c w => rfl) (fun c k => by rw [dev_eq c]; rfl)
theorem sub0 : Pipeline.arrRefs (pcfgs (F := F) 0).spec ⊆ Pipeline.ucRefs τ sig := by
  exact Pipeline.arrRefs_sub_ucRefs _ (launch0 (F := F)).win.arr_unscoped
theorem pre0_link (c : Dev nD) : iprop(StableHlo.held (c : Thread nD τ) (Pipeline.ucRefs τ sig) (V1 m c) ∗ EE (F := F) 0 c) ⊢ (reg0 m).pre c := by
  unfold reg0 EE
  exact RegionSeg.ofHeldInT_pre (pcs := pcfgs (F := F)) (a := adm m) (pdats := pdats m) (ι := ()) (defs₀ := defs₀ (F := F)) (𝒱₀ := Variants.none) (L := LL) (lv := lvl) (p := 0) (D := fun _ => 0) (S := Pipeline.ucRefs τ sig) (X := RG (F := F)) (Y := RG (F := F)) (R := fun _ => iprop(emp)) (W := V1 m) (sub0 (F := F)) (Pipeline.tblRefs_sub_ucRefs pre0 (preFacts0.unscoped)) c
theorem post0_link (c : Dev nD) : (reg0 m).post c ⊢ iprop(StableHlo.held (c : Thread nD τ) (Pipeline.ucRefs τ sig) (X2 m c) ∗ EE (F := F) 1 c) := by
  unfold reg0 EE
  exact RegionSeg.ofHeldInT_post (pcs := pcfgs (F := F)) (a := adm m) (pdats := pdats m) (ι := ()) (defs₀ := defs₀ (F := F)) (𝒱₀ := Variants.none) (L := LL) (lv := lvl) (p := 0) (D := fun _ => 0) (S := Pipeline.ucRefs τ sig) (X := RG (F := F)) (Y := RG (F := F)) (R := fun _ => iprop(emp)) (W := V1 m) (sub0 (F := F)) (Pipeline.tblRefs_sub_ucRefs pre0 (preFacts0.unscoped)) c
theorem sub1 : Pipeline.arrRefs (pcfgs (F := F) 1).spec ⊆ Pipeline.ucRefs τ sig := by
  exact Pipeline.arrRefs_sub_ucRefs _ (launch1 (F := F)).win.arr_unscoped
theorem pre1_link (c : Dev nD) : iprop(StableHlo.held (c : Thread nD τ) (Pipeline.ucRefs τ sig) (X2 m c) ∗ EE (F := F) 1 c) ⊢ (reg1 m).pre c := by
  unfold reg1 EE
  exact RegionSeg.ofHeldInT_pre (pcs := pcfgs (F := F)) (a := adm m) (pdats := pdats m) (ι := ()) (defs₀ := defs₀ (F := F)) (𝒱₀ := Variants.none) (L := LL) (lv := lvl) (p := 1) (D := fun _ => 0) (S := Pipeline.ucRefs τ sig) (X := RG (F := F)) (Y := RG (F := F)) (R := fun _ => iprop(emp)) (W := X2 m) (sub1 (F := F)) (Pipeline.tblRefs_sub_ucRefs pre1 (preFacts1.unscoped)) c
theorem post1_link (c : Dev nD) : (reg1 m).post c ⊢ iprop(StableHlo.held (c : Thread nD τ) (Pipeline.ucRefs τ sig) (X3 m c) ∗ EE (F := F) 2 c) := by
  unfold reg1 EE
  exact RegionSeg.ofHeldInT_post (pcs := pcfgs (F := F)) (a := adm m) (pdats := pdats m) (ι := ()) (defs₀ := defs₀ (F := F)) (𝒱₀ := Variants.none) (L := LL) (lv := lvl) (p := 1) (D := fun _ => 0) (S := Pipeline.ucRefs τ sig) (X := RG (F := F)) (Y := RG (F := F)) (R := fun _ => iprop(emp)) (W := X2 m) (sub1 (F := F)) (Pipeline.tblRefs_sub_ucRefs pre1 (preFacts1.unscoped)) c
theorem sub2 : Pipeline.arrRefs (pcfgs (F := F) 2).spec ⊆ Pipeline.ucRefs τ sig := by
  exact Pipeline.arrRefs_sub_ucRefs _ (launch2 (F := F)).win.arr_unscoped
theorem pre2_link (c : Dev nD) : iprop(StableHlo.held (c : Thread nD τ) (Pipeline.ucRefs τ sig) (X4 m c) ∗ EE (F := F) 2 c) ⊢ (reg2 m).pre c := by
  unfold reg2 EE
  exact RegionSeg.ofHeldIn_pre (pcs := pcfgs (F := F)) (a := adm m) (pdats := pdats m) (ι := ()) (defs₀ := defs₀ (F := F)) (𝒱₀ := Variants.none) (L := LL) (lv := lvl) (p := 2) (D := fun _ => 0) (S := Pipeline.ucRefs τ sig) (X := RG (F := F)) (Y := RG (F := F)) (R := fun _ => iprop(emp)) (W := X4 m) (sub2 (F := F)) c
theorem post2_link (c : Dev nD) : (reg2 m).post c ⊢ iprop(StableHlo.held (c : Thread nD τ) (Pipeline.ucRefs τ sig) (X5 m c) ∗ EE (F := F) 3 c) := by
  unfold reg2 EE
  exact RegionSeg.ofHeldIn_post (pcs := pcfgs (F := F)) (a := adm m) (pdats := pdats m) (ι := ()) (defs₀ := defs₀ (F := F)) (𝒱₀ := Variants.none) (L := LL) (lv := lvl) (p := 2) (D := fun _ => 0) (S := Pipeline.ucRefs τ sig) (X := RG (F := F)) (Y := RG (F := F)) (R := fun _ => iprop(emp)) (W := X4 m) (sub2 (F := F)) c
theorem sub3 : Pipeline.arrRefs (pcfgs (F := F) 3).spec ⊆ Pipeline.ucRefs τ sig := by
  exact Pipeline.arrRefs_sub_ucRefs _ (launch3 (F := F)).win.arr_unscoped
theorem pre3_link (c : Dev nD) : iprop(StableHlo.held (c : Thread nD τ) (Pipeline.ucRefs τ sig) (X10 m c) ∗ EE (F := F) 3 c) ⊢ (reg3 m).pre c := by
  unfold reg3 EE
  exact RegionSeg.ofHeldInT_pre (pcs := pcfgs (F := F)) (a := adm m) (pdats := pdats m) (ι := ()) (defs₀ := defs₀ (F := F)) (𝒱₀ := Variants.none) (L := LL) (lv := lvl) (p := 3) (D := fun _ => 0) (S := Pipeline.ucRefs τ sig) (X := RG (F := F)) (Y := RG (F := F)) (R := fun _ => iprop(emp)) (W := X10 m) (sub3 (F := F)) (Pipeline.tblRefs_sub_ucRefs pre3 (preFacts3.unscoped)) c
theorem post3_link (c : Dev nD) : (reg3 m).post c ⊢ iprop(StableHlo.held (c : Thread nD τ) (Pipeline.ucRefs τ sig) (X11 m c) ∗ EE (F := F) 4 c) := by
  unfold reg3 EE
  exact RegionSeg.ofHeldInT_post (pcs := pcfgs (F := F)) (a := adm m) (pdats := pdats m) (ι := ()) (defs₀ := defs₀ (F := F)) (𝒱₀ := Variants.none) (L := LL) (lv := lvl) (p := 3) (D := fun _ => 0) (S := Pipeline.ucRefs τ sig) (X := RG (F := F)) (Y := RG (F := F)) (R := fun _ => iprop(emp)) (W := X10 m) (sub3 (F := F)) (Pipeline.tblRefs_sub_ucRefs pre3 (preFacts3.unscoped)) c

end Cert.KernelIdeal.Run
-- ==== Proof.KI.RunEnd.lean ====
/-
  The whole program's run: from any launch memory it ends with the results at the last valuation.
-/
module

public import proofs.«01_k».proof.Proof.Gen.KernelIdeal.Launch
public import proofs.«01_k».proof.Proof.Gen.KernelIdeal.Regions
public import proofs.«01_k».proof.Proof.KI.Tabs
public import proofs.«01_k».proof.Proof.KI.Run
public import proofs.«01_k».proof.Proof.KI.R1
public import proofs.«01_k».proof.Proof.KI.R2
public import proofs.«01_k».proof.Proof.KI.R3
public import Idealize.ShloMosaic.Lib.Pipeline.Regions
public import Idealize.ShloMosaic.Lib.Pipeline.RegionArraysS
public import Idealize.ShloMosaic.Lib.Pipeline.RegionArraysTS

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-- The TensorCore alone carries a level. -/
theorem hL : ∀ g : GSem nD τ sig, g.1.2 ≠ .tc → LL g = ∅ := fun g h => by unfold LL; rw [if_neg h]

theorem hE0c (ρ : Dev nD → PrngReg) (c : Dev nD) : iprop(unscopedSems0 c ∗ owes (c : Thread nD τ) (0 : CellTallies nD τ sig Unit) ∅ ∗ Pipeline.launchCred (fun _ => 0) c ∗ prngReg c (ρ c) ∗ emp)
      ⊢ (EE (F := F) 0 c : sProp 𝕄) := by
  unfold EE RG
  iintro ⟨-, HO, -, Hp, -⟩
  isplitl [HO]; · iexists _; iexact HO
  isplitl [Hp]; · iexists _; iexact Hp
  iempintro

theorem hE0 (ρ : Dev nD → PrngReg) : iprop((bigSep Finset.univ fun c : Dev nD => iprop(unscopedSems0 c ∗ owes (c : Thread nD τ) (0 : CellTallies nD τ sig Unit) ∅ ∗ Pipeline.launchCred (fun _ => 0) c ∗ prngReg c (ρ c) ∗ emp)) ∗ levAts LL lvl)
      ⊢ (|={Set.univ}=> bigSep Finset.univ (EE (F := F) 0) : sProp 𝕄) := by
  have h : (bigSep Finset.univ fun c : Dev nD => iprop(unscopedSems0 c ∗ owes (c : Thread nD τ) (0 : CellTallies nD τ sig Unit) ∅ ∗ Pipeline.launchCred (fun _ => 0) c ∗ prngReg c (ρ c) ∗ emp))
      ⊢ (bigSep Finset.univ (EE (F := F) 0) : sProp 𝕄) := bigSep_mono fun c _ => hE0c ρ c
  iintro ⟨H, -⟩
  imodintro
  iapply h
  iexact H

theorem hE4 (c : Dev nD) : EE (F := F) 4 c ⊢ (iprop(∃ W, owes (c : Thread nD τ) (0 : CellTallies nD τ sig Unit) W) : sProp 𝕄) := by
  unfold EE
  iintro ⟨H, -⟩
  iexact H

set_option backward.isDefEq.respectTransparency.types false in
/-- THE RUN: from any memory the program terminates with every argument as launched, every result at the last valuation and
    every counter at zero. -/
theorem run (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_v33) = X12 m c main_v33
      ∧ r.2.mem ((c.tc : Thread nD τ).loc main_v34) = X12 m c main_v34
      ∧ r.2.mem ((c.tc : Thread nD τ).loc main_v4_0) = X12 m c main_v4_0
      ∧ r.2.mem ((c.tc : Thread nD τ).loc main_v35) = X12 m c main_v35
      ∧ r.2.mem ((c.tc : Thread nD τ).loc main_v2_0) = X12 m c main_v2_0
      ∧ r.2.mem ((c.tc : Thread nD τ).loc main_v36) = X12 m c main_v36)
      ∧ r.2.sem = fun _ => 0) := by
  have hpre0 : ∀ c : Dev nD, iprop(StableHlo.held (c : Thread nD τ) (Pipeline.ucRefs τ sig) (V1 m c) ∗ EE (F := F) 0 c) ⊢ (reg0 m).pre c := pre0_link m
  have hpost0 : ∀ c : Dev nD, (reg0 m).post c ⊢ iprop(StableHlo.held (c : Thread nD τ) (Pipeline.ucRefs τ sig) (V2 m (outs m) c) ∗ EE (F := F) 1 c) := fun c => by rw [V2_eq]; exact post0_link m c
  have hpre1 : ∀ c : Dev nD, iprop(StableHlo.held (c : Thread nD τ) (Pipeline.ucRefs τ sig) (V2 m (outs m) c) ∗ EE (F := F) 1 c) ⊢ (reg1 m).pre c := fun c => by rw [V2_eq]; exact pre1_link m c
  have hpost1 : ∀ c : Dev nD, (reg1 m).post c ⊢ iprop(StableHlo.held (c : Thread nD τ) (Pipeline.ucRefs τ sig) (V3 m (outs m) c) ∗ EE (F := F) 2 c) := fun c => by rw [V3_eq]; exact post1_link m c
  have hpre2 : ∀ c : Dev nD, iprop(StableHlo.held (c : Thread nD τ) (Pipeline.ucRefs τ sig) (V4 m (outs m) c) ∗ EE (F := F) 2 c) ⊢ (reg2 m).pre c := fun c => by rw [V4_eq]; exact pre2_link m c
  have hpost2 : ∀ c : Dev nD, (reg2 m).post c ⊢ iprop(StableHlo.held (c : Thread nD τ) (Pipeline.ucRefs τ sig) (V5 m (outs m) c) ∗ EE (F := F) 3 c) := fun c => by rw [V5_eq]; exact post2_link m c
  have hpre3 : ∀ c : Dev nD, iprop(StableHlo.held (c : Thread nD τ) (Pipeline.ucRefs τ sig) (V10 m (outs m) c) ∗ EE (F := F) 3 c) ⊢ (reg3 m).pre c := fun c => by rw [V10_eq]; exact pre3_link m c
  have hpost3 : ∀ c : Dev nD, (reg3 m).post c ⊢ iprop(StableHlo.held (c : Thread nD τ) (Pipeline.ucRefs τ sig) (V11 m (outs m) c) ∗ EE (F := F) 4 c) := fun c => by rw [V11_eq]; exact post3_link m c
  refine Pipeline.θ_run_regions_kit_dev_sems (pcfgs (F := F)) (adm m) (pdats m) () (cellOf_inj (adm m)) emb₁ defs₀ Variants.none LL lvl m ρ main
    (segs m (outs m) Variants.none LL lvl (EE (F := F)) () (adm m) (pdats m) (reg0 m) (reg1 m) (reg2 m) (reg3 m))
    (fun c Q => by
      rewrite [main_chain c, Seg.run_eq_chain,
        show (segs m (outs m) Variants.none LL lvl (EE (F := F)) () (adm m) (pdats m) (reg0 m) (reg1 m) (reg2 m) (reg3 m) c).map Seg.prog = [
          StableHlo.seq hostOps0,
          Prog.lift (.customCall (Pipeline.entry 0) ()),
          Prog.lift (.customCall (Pipeline.entry 1) ()),
          StableHlo.seq hostOps2,
          Prog.lift (.customCall (Pipeline.entry 2) ()),
          StableHlo.seq hostOps3,
          StableHlo.seq hostOps3_1,
          StableHlo.seq hostOps3_2,
          StableHlo.seq hostOps3_3,
          StableHlo.seq hostOps3_4,
          Prog.lift (.customCall (Pipeline.entry 3) ()),
          StableHlo.seq hostOps4 ] from rfl]
      dsimp (config := { failIfUnchanged := false }) only
      exact .rfl)
    (fun c => by simp only [segs, Seg.pipes_host, Seg.pipes_region, Seg.pipes_nil]; decide) (fun _ => 0) hL (fun _ => iprop(emp)) (initOf (Pipeline.cells (Pipeline.pin (pcfgs (F := F)) (adm m)) (cellOf_inj (adm m))) (Pipeline.launchToks (Pipeline.pin (pcfgs (F := F)) (adm m)) (cellOf_inj (adm m))))
    (by
      iintro Hu; imodintro
      isplitl [Hu]; · iapply (show (ownU _ : sProp 𝕄) ⊢ BI.own (emb₁ (initOf (Pipeline.cells (Pipeline.pin (pcfgs (F := F)) (adm m)) (cellOf_inj (adm m))) (Pipeline.launchToks (Pipeline.pin (pcfgs (F := F)) (adm m)) (cellOf_inj (adm m))))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ EE (F := F) 0 c))
    (Tₙ := fun c => StableHlo.held (c : Thread nD τ) (Pipeline.ucRefs τ sig) (V12 m (outs m) c))
    (hch := fun c => ⟨.rfl, hpre0 c, (hpost0 c).trans (hpre1 c), hpost1 c, hpre2 c, hpost2 c, .rfl, .rfl, .rfl, .rfl, hpre3 c, hpost3 c, sep_mono .rfl (hE4 c)⟩)
    (hinit := ?_) (QY := fun c s => s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_v33) = X12 m c main_v33 ∧ s.mem ((c.tc : Thread nD τ).loc main_v34) = X12 m c main_v34 ∧ s.mem ((c.tc : Thread nD τ).loc main_v4_0) = X12 m c main_v4_0 ∧ s.mem ((c.tc : Thread nD τ).loc main_v35) = X12 m c main_v35 ∧ s.mem ((c.tc : Thread nD τ).loc main_v2_0) = X12 m c main_v2_0 ∧ s.mem ((c.tc : Thread nD τ).loc main_v36) = X12 m c main_v36)
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) ((0 : CellTallies nD τ sig Unit)) ∅ ∗ Pipeline.launchCred (fun _ => 0) c ∗ prngReg c (ρ c) ∗ emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : CellTallies nD τ sig Unit)) ∅ ∗ Pipeline.launchCred (fun _ => 0) c ∗ prngReg c (ρ c) ∗ emp))
            : sProp (MT nD τ sig Unit (Elt F) ℕ (UR sig nD τ) ℕ)) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (hE0 ρ) $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V12 m (outs m) c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (V12_main_arg0 m (outs m) c),
        (h (Proc.devRef .tc main_arg1) (Finset.mem_filter.mpr ⟨StableHlo.devRef_mem_tcRefs main_arg1, by decide⟩)).trans (V12_main_arg1 m (outs m) c),
        (h (Proc.devRef .tc main_arg2) (Finset.mem_filter.mpr ⟨StableHlo.devRef_mem_tcRefs main_arg2, by decide⟩)).trans (V12_main_arg2 m (outs m) c),
        (h (Proc.devRef .tc main_arg3) (Finset.mem_filter.mpr ⟨StableHlo.devRef_mem_tcRefs main_arg3, by decide⟩)).trans (V12_main_arg3 m (outs m) c),
        (h (Proc.devRef .tc main_v33) (Finset.mem_filter.mpr ⟨StableHlo.devRef_mem_tcRefs main_v33, by decide⟩)).trans (congrFun (V12_eq m c) _),
        (h (Proc.devRef .tc main_v34) (Finset.mem_filter.mpr ⟨StableHlo.devRef_mem_tcRefs main_v34, by decide⟩)).trans (congrFun (V12_eq m c) _),
        (h (Proc.devRef .tc main_v4_0) (Finset.mem_filter.mpr ⟨StableHlo.devRef_mem_tcRefs main_v4_0, by decide⟩)).trans (congrFun (V12_eq m c) _),
        (h (Proc.devRef .tc main_v35) (Finset.mem_filter.mpr ⟨StableHlo.devRef_mem_tcRefs main_v35, by decide⟩)).trans (congrFun (V12_eq m c) _),
        (h (Proc.devRef .tc main_v2_0) (Finset.mem_filter.mpr ⟨StableHlo.devRef_mem_tcRefs main_v2_0, by decide⟩)).trans (congrFun (V12_eq m c) _),
        (h (Proc.devRef .tc main_v36) (Finset.mem_filter.mpr ⟨StableHlo.devRef_mem_tcRefs main_v36, by decide⟩)).trans (congrFun (V12_eq m c) _)⟩
    · iexact HSI

end Cert.KernelIdeal.Run
-- ==== Proof.Val.Spec.lean ====
/-
  The scalar functions both programs are read in at the ideal instance: the symmetric scale of a maximum, the code of a
  value at a scale, the maximum of a row, and what a bounded fold of maxima means.
-/
module

public import Idealize.ShloMosaic.Lib.Pointwise

@[expose] public section

noncomputable section

namespace Cert.Val

open Idealize.ShloMosaic

/-- The absolute value of an extended real. -/
def ab (x : EReal) : EReal := max x (-x)

/-- The scale of a row or column whose largest absolute value is `M`: one if it is zero, else a 127th of it. -/
def sc (M : EReal) : EReal := if M = 0 then 1 else Ideal.div M (Ideal.ofBits FTy.f32 0x42FE0000#32)

/-- The rounded and clipped code of `v` at scale `s`, before the conversion to an integer. -/
def cd (v s : EReal) : EReal :=
  min (Ideal.ofBits FTy.f32 0x42FE0000#32) (max (Ideal.ofBits FTy.f32 0xC2FE0000#32) (Ideal.liftRound Ideal.roundHalfEven (Ideal.div v s)))

/-- The scale as the programs select it. -/
theorem sc_sel (M : EReal) : Scalar.select (FloatOps.cmpf (F := Ideal) (φ := .f32) .oeq M (FloatOps.ofBits .f32 0x00000000#32))
    (FloatOps.ofBits .f32 0x3F800000#32 : Ideal .f32) (FloatOps.divf M (FloatOps.ofBits (F := Ideal) .f32 0x42FE0000#32)) = sc M := by
  have h0 : (FloatOps.ofBits .f32 0x00000000#32 : Ideal .f32) = 0 := by pointwise
  have h1 : (FloatOps.ofBits .f32 0x3F800000#32 : Ideal .f32) = 1 := by pointwise
  rw [h0, h1]
  show Scalar.select (BitVec.ofBool (decide (M = 0))) _ _ = _
  unfold sc
  by_cases h : M = 0
  · rw [if_pos h, decide_eq_true h]; rfl
  · rw [if_neg h, decide_eq_false h]; rfl

/-- The scales the programs select, at an index. -/
theorem scale_at {s : Shape} (M : FVec Ideal s .f32) (i : s.Idx) :
    select (cmpf .oeq M (broadcast s (Scalar.ofBits .f32 0x00000000#32))) (broadcast s (Scalar.ofBits .f32 0x3F800000#32))
      (divf M (broadcast s (Scalar.ofBits .f32 0x42FE0000#32))) i = sc (M i) := by
  rw [← sc_sel]
  rfl

/-- The rounded and clipped quotients, at an index. -/
theorem clip_at {s : Shape} (P Q : FVec Ideal s .f32) (i : s.Idx) :
    minimumf (broadcast s (Scalar.ofBits .f32 0x42FE0000#32)) (maximumf (broadcast s (Scalar.ofBits .f32 0xC2FE0000#32)) (roundeven (divf P Q))) i
      = cd (P i) (Q i) := by
  unfold cd
  rfl

/-- The codes, at an index. -/
theorem codes_at {s : Shape} (P Q : FVec Ideal s .f32) (i : s.Idx) :
    fptosi 8 (minimumf (broadcast s (Scalar.ofBits .f32 0x42FE0000#32)) (maximumf (broadcast s (Scalar.ofBits .f32 0xC2FE0000#32)) (roundeven (divf P Q)))) i
      = Ideal.fptosi 8 (cd (P i) (Q i)) := by
  unfold cd
  rfl

/-- The largest of finitely many values, from minus infinity. -/
def mx {n : ℕ} (f : Fin n → EReal) : EReal := Finset.univ.fold max (Ideal.ofBits FTy.f32 0xFF800000#32) f

/-- The smoothing factor of a channel from the activations' maximum and the weights' maximum. -/
def sm (A B : EReal) : EReal :=
  Ideal.div (Ideal.sqrt (max A (Ideal.ofBits FTy.f32 0x3727C5AC#32))) (Ideal.sqrt (max B (Ideal.ofBits FTy.f32 0x3727C5AC#32)))

/-- The constant that begins a fold of maxima is minus infinity. -/
theorem ninf : Ideal.ofBits FTy.f32 0xFF800000#32 = ⊥ := by
  simp [Ideal.ofBits, Ideal.ieee]

theorem ninf' : Ideal.ofBits FTy.bf16 0xFF80#16 = ⊥ := by
  simp [Ideal.ofBits, Ideal.ieee]

/-- A fold of maxima over a set of indices is bounded when every value is. -/
theorem fold_le {ι : Type} (s : Finset ι) (f : ι → EReal) (z : EReal) :
    s.fold max (Ideal.ofBits FTy.f32 0xFF800000#32) f ≤ z ↔ ∀ i ∈ s, f i ≤ z := by
  rw [Finset.fold_max_le, ninf]
  simp

theorem mx_le {n : ℕ} (f : Fin n → EReal) (z : EReal) : mx f ≤ z ↔ ∀ k, f k ≤ z := by
  unfold mx
  rw [Finset.fold_max_le, ninf]
  simp

/-- The half that both programs raise to is one half. -/
theorem half : Ideal.ofBits FTy.f32 0x3F000000#32 = ((1 / 2 : ℝ) : EReal) := by
  simp [Ideal.ofBits, Ideal.ieee]
  rw [← EReal.coe_mul]
  congr 1
  norm_num

/-- The floor of the maxima is a nonnegative real. -/
theorem eps_nonneg : (0 : EReal) ≤ Ideal.ofBits FTy.f32 0x3727C5AC#32 := by
  simp [Ideal.ofBits, Ideal.ieee]
  rw [← EReal.coe_mul]
  exact EReal.coe_nonneg.mpr (by norm_num)

/-- On nonnegative values the half power is the square root. -/
theorem pow_half (x : EReal) (h : 0 ≤ x) : Ideal.pow x (Ideal.ofBits FTy.f32 0x3F000000#32) = Ideal.sqrt x := by
  rw [half]
  induction x with
  | bot => exact absurd h (by simp)
  | top => rw [Ideal.pow_top, Ideal.sqrt_top, if_pos (EReal.coe_pos.mpr (by norm_num))]
  | coe r =>
    have hr : 0 ≤ r := by exact_mod_cast h
    rw [Ideal.pow_coe_coe, Ideal.sqrt_coe, if_neg (not_lt.mpr hr), Real.sqrt_eq_rpow]
    rfl

/-- The code zero. -/
theorem fptosi_zero : Ideal.fptosi 8 0 = 0#8 := by
  unfold Ideal.fptosi
  rw [← EReal.coe_zero, Ideal.toIntClamped_coe]
  simp

/-- The reference's smoothing factor, with powers in place of roots. -/
theorem sm_pow (A B : EReal) :
    Ideal.div (Ideal.pow (max A (Ideal.ofBits FTy.f32 0x3727C5AC#32)) (Ideal.ofBits FTy.f32 0x3F000000#32))
      (Ideal.pow (max B (Ideal.ofBits FTy.f32 0x3727C5AC#32)) (Ideal.ofBits FTy.f32 0x3F000000#32)) = sm A B := by
  rw [pow_half _ (le_max_of_le_right eps_nonneg), pow_half _ (le_max_of_le_right eps_nonneg)]
  rfl

end Cert.Val

end
-- ==== Proof.Val.RPay.lean ====
/-
  The reference's results at the ideal instance, read at an index.
-/
module

public import proofs.«01_k».proof.Proof.Gen.ReferenceIdeal.Skeleton
public import proofs.«01_k».proof.Proof.Val.Spec

@[expose] public section

noncomputable section

namespace Cert.ReferenceIdeal.Val

open Idealize.ShloMosaic Cert.ReferenceIdeal Cert.ReferenceIdeal.Gen Cert.Val

/-- A maximum over the last of three axes, at an index. -/
theorem max_last {n0 n1 n2 : ℕ} (h : (⟨3, ![n0, n1, n2]⟩ : Shape).Reduces [2] ⟨2, ![n0, n1]⟩) (v : FVec Ideal ⟨3, ![n0, n1, n2]⟩ .f32)
    (hφ : FKind.Formats .f32) (hacc : (0xFF800000#32 : BitVec 32) = FKind.maximumf.neutral .f32 hφ) (i : Fin n0) (j : Fin n1) :
    multiReduction .maximumf [2] ⟨2, ![n0, n1]⟩ v 0xFF800000#32 h hφ hacc (ix2 i j) = mx fun k : Fin n2 => v (ix3 i j k) := by
  show reduceFold h FloatOps.maximumf _ v (ix2 i j) = _
  rw [reduceFold_eq_fold]
  exact Shape.Reduces.fold_fiber_r3_a2 h (ix2 i j) max _ v

/-- A maximum over the first two of three axes is bounded when every value under the index is. -/
theorem max_first {n0 n1 n2 : ℕ} (h : (⟨3, ![n0, n1, n2]⟩ : Shape).Reduces [0, 1] ⟨1, ![n2]⟩) (v : FVec Ideal ⟨3, ![n0, n1, n2]⟩ .f32)
    (hφ : FKind.Formats .f32) (hacc : (0xFF800000#32 : BitVec 32) = FKind.maximumf.neutral .f32 hφ) (d : Fin n2) (z : EReal) :
    multiReduction .maximumf [0, 1] ⟨1, ![n2]⟩ v 0xFF800000#32 h hφ hacc (ix1 d) ≤ z ↔ ∀ (b : Fin n0) (l : Fin n1), v (ix3 b l d) ≤ z := by
  show reduceFold h FloatOps.maximumf _ v (ix1 d) ≤ z ↔ _
  rw [reduceFold_eq_fold]
  show Finset.fold max (Ideal.ofBits FTy.f32 0xFF800000#32) v _ ≤ z ↔ _
  refine (fold_le _ v z).trans ?_
  simp only [true_and, Finset.mem_filter, Finset.mem_univ]
  constructor
  · intro H b l
    refine H (ix3 b l d) ?_
    funext a
    match a with
    | ⟨0, _⟩ => rfl
  · intro H i hi
    have e : i = ix3 (i 0) (i 1) d := by
      funext a
      match a with
      | ⟨0, _⟩ => rfl
      | ⟨1, _⟩ => rfl
      | ⟨2, _⟩ => exact congrFun hi 0
    rw [e]
    exact H _ _

theorem valid (len : Vec Ideal S8 .i32) (b : Fin 8) (l : Fin 2048) :
    k0_pay1 (F := Ideal) len (ix2 b l) = IntOp.cmpi .slt (BitVec.ofNat 32 l.val) (len (ix1 b)) := by
  pointwise [k0_pay1]

theorem mask3 {α : Type} (p : IVec S8x2048 1) (x y : S8x2048x4096.Idx → α) (b : Fin 8) (l : Fin 2048) (d : Fin 4096) :
    select (broadcastTo S8x2048x4096 (shapeCast S8x2048x1 (shapeCast S8x2048x1 p shapeCasts_S8x2048_S8x2048x1)
      shapeCasts_S8x2048x1_S8x2048x1) broadcasts_S8x2048x1_S8x2048x4096) x y (ix3 b l d) = Scalar.select (p (ix2 b l)) (x (ix3 b l d)) (y (ix3 b l d)) := by
  pointwise

/-- The activations' masked maximum of a channel. -/
def amax (x : Vec Ideal S8x2048x4096 .bf16) (len : Vec Ideal S8 .i32) : FVec Ideal S4096 .f32 :=
  multiReduction .maximumf [0, 1] S4096 (select (broadcastTo S8x2048x4096 (shapeCast S8x2048x1 (shapeCast S8x2048x1 (k0_pay1 (F := Ideal) len)
    shapeCasts_S8x2048_S8x2048x1) shapeCasts_S8x2048x1_S8x2048x1) broadcasts_S8x2048x1_S8x2048x4096)
    (absf (extf .f32 x bitsLt_bf16_f32)) (broadcast S8x2048x4096 (Scalar.ofBits .f32 0x00000000#32))) 0xFF800000#32 reduces_S8x2048x4096_S4096 (.inl rfl) rfl

theorem amax_le (x : Vec Ideal S8x2048x4096 .bf16) (len : Vec Ideal S8 .i32) (d : Fin 4096) (z : EReal) :
    amax x len (ix1 d) ≤ z ↔ ∀ (b : Fin 8) (l : Fin 2048),
      Scalar.select (IntOp.cmpi .slt (BitVec.ofNat 32 l.val) (len (ix1 b))) (ab (x (ix3 b l d))) 0 ≤ z := by
  unfold amax
  refine (max_first (n0 := 8) (n1 := 2048) (n2 := 4096) _ _ _ _ d z).trans ?_
  refine forall_congr' fun b => forall_congr' fun l => ?_
  rw [mask3, valid]
  have e : (broadcast S8x2048x4096 (Scalar.ofBits .f32 0x00000000#32) (ix3 b l d) : Ideal .f32) = 0 := by pointwise
  rw [e]
  exact Iff.rfl

theorem smooth_at {s : Shape} (A B : FVec Ideal s .f32) (i : s.Idx) :
    divf (powf (maximumf A (broadcast s (Scalar.ofBits .f32 0x3727C5AC#32))) (broadcast s (Scalar.ofBits .f32 0x3F000000#32)))
      (powf (maximumf B (broadcast s (Scalar.ofBits .f32 0x3727C5AC#32))) (broadcast s (Scalar.ofBits .f32 0x3F000000#32))) i
      = Ideal.div (Ideal.pow (max (A i) (Ideal.ofBits FTy.f32 0x3727C5AC#32)) (Ideal.ofBits FTy.f32 0x3F000000#32))
        (Ideal.pow (max (B i) (Ideal.ofBits FTy.f32 0x3727C5AC#32)) (Ideal.ofBits FTy.f32 0x3F000000#32)) := rfl

theorem smooth (x : Vec Ideal S8x2048x4096 .bf16) (len : Vec Ideal S8 .i32) (wm : Vec Ideal S4096 .f32) (d : Fin 4096) :
    k0_pay2 x len wm (ix1 d) = sm (amax x len (ix1 d)) (wm (ix1 d)) := by
  rw [← sm_pow]
  exact smooth_at (amax x len) wm (ix1 d)

theorem wprod (x : Vec Ideal S8x2048x4096 .bf16) (len : Vec Ideal S8 .i32) (w : Vec Ideal S4096x14336 .bf16) (wm : Vec Ideal S4096 .f32)
    (d : Fin 4096) (n : Fin 14336) : k0_pay3 x len w wm (ix2 d n) = w (ix2 d n) * k0_pay2 x len wm (ix1 d) := by
  pointwise [k0_pay3]

/-- A maximum over the first of two axes, at an index. -/
theorem max_cols {n0 n1 : ℕ} (h : (⟨2, ![n0, n1]⟩ : Shape).Reduces [0] ⟨1, ![n1]⟩) (v : FVec Ideal ⟨2, ![n0, n1]⟩ .f32)
    (hφ : FKind.Formats .f32) (hacc : (0xFF800000#32 : BitVec 32) = FKind.maximumf.neutral .f32 hφ) (j : Fin n1) :
    multiReduction .maximumf [0] ⟨1, ![n1]⟩ v 0xFF800000#32 h hφ hacc (ix1 j) = mx fun k : Fin n0 => v (ix2 k j) := by
  show reduceFold h FloatOps.maximumf _ v (ix1 j) = _
  rw [reduceFold_eq_fold]
  exact Shape.Reduces.fold_fiber_r2_a0 h (ix1 j) max _ v

theorem wscale (x : Vec Ideal S8x2048x4096 .bf16) (len : Vec Ideal S8 .i32) (w : Vec Ideal S4096x14336 .bf16) (wm : Vec Ideal S4096 .f32)
    (n : Fin 14336) : k0_pay4 x len w wm (ix1 n) = sc (mx fun k : Fin 4096 => ab (w (ix2 k n) * k0_pay2 x len wm (ix1 k))) := by
  have h := scale_at (multiReduction (F := Ideal) .maximumf [0] S14336 (absf (k0_pay3 x len w wm)) 0xFF800000#32 reduces_S4096x14336_S14336 (.inl rfl) rfl) (ix1 n)
  have e := max_cols (n0 := 4096) (n1 := 14336) reduces_S4096x14336_S14336 (absf (k0_pay3 x len w wm)) (.inl rfl) rfl n
  refine (h.trans (congrArg sc e)).trans ?_
  refine congrArg (fun f => sc (mx f)) (funext fun k => ?_)
  exact congrArg ab (wprod x len w wm k n)

theorem wcodes0 (P : FVec Ideal S4096x14336 .f32) (S : FVec Ideal S14336 .f32) (d : Fin 4096) (n : Fin 14336) :
    k0_pay6 (roundeven (divf P (broadcastTo S4096x14336 (shapeCast S1x14336 S shapeCasts_S14336_S1x14336) broadcasts_S1x14336_S4096x14336)))
      (Scalar.ofBits .f32 0xC2FE0000#32) (Scalar.ofBits .f32 0x42FE0000#32) (ix2 d n) = Ideal.fptosi 8 (cd (P (ix2 d n)) (S (ix1 n))) := by
  unfold k0_pay6
  refine (codes_at _ _ _).trans ?_
  congr 2
  pointwise

theorem wcodes (x : Vec Ideal S8x2048x4096 .bf16) (len : Vec Ideal S8 .i32) (w : Vec Ideal S4096x14336 .bf16) (wm : Vec Ideal S4096 .f32)
    (d : Fin 4096) (n : Fin 14336) :
    k0_pay6 (k0_pay5 x len w wm) (Scalar.ofBits .f32 0xC2FE0000#32) (Scalar.ofBits .f32 0x42FE0000#32) (ix2 d n)
      = Ideal.fptosi 8 (cd (w (ix2 d n) * k0_pay2 x len wm (ix1 d)) (k0_pay4 x len w wm (ix1 n))) := by
  rw [← wprod, ← wcodes0]
  rfl

theorem xdiv (x : Vec Ideal S8x2048x4096 .bf16) (s : FVec Ideal S4096 .f32) (b : Fin 8) (l : Fin 2048) (d : Fin 4096) :
    k0_pay7 x s (ix3 b l d) = Ideal.div (x (ix3 b l d)) (s (ix1 d)) := by
  pointwise [k0_pay7]

theorem xscale0 (x : Vec Ideal S8x2048x4096 .bf16) (s : FVec Ideal S4096 .f32) (b : Fin 8) (l : Fin 2048) :
    k0_pay8 x s (ix2 b l) = sc (mx fun k : Fin 4096 => ab (Ideal.div (x (ix3 b l k)) (s (ix1 k)))) := by
  have h := scale_at (multiReduction (F := Ideal) .maximumf [2] S8x2048 (absf (k0_pay7 x s)) 0xFF800000#32 reduces_S8x2048x4096_S8x2048 (.inl rfl) rfl) (ix2 b l)
  have e := max_last (n0 := 8) (n1 := 2048) (n2 := 4096) reduces_S8x2048x4096_S8x2048 (absf (k0_pay7 x s)) (.inl rfl) rfl b l
  refine (h.trans (congrArg sc e)).trans ?_
  refine congrArg (fun f => sc (mx f)) (funext fun k => ?_)
  exact congrArg ab (xdiv x s b l k)

theorem xscale (x : Vec Ideal S8x2048x4096 .bf16) (p : IVec S8x2048 1) (s : FVec Ideal S4096 .f32) (b : Fin 8) (l : Fin 2048) :
    k0_pay10 x p s (ix2 b l) = Scalar.select (p (ix2 b l)) (sc (mx fun k : Fin 4096 => ab (Ideal.div (x (ix3 b l k)) (s (ix1 k)))))
      (Ideal.ofBits FTy.f32 0x3F800000#32) := by
  rw [← xscale0]
  rfl

theorem spread {α : Type} (S : S8x2048.Idx → α) (b : Fin 8) (l : Fin 2048) (d : Fin 4096) :
    broadcastTo S8x2048x4096 (shapeCast S8x2048x1 S shapeCasts_S8x2048_S8x2048x1) broadcasts_S8x2048x1_S8x2048x4096 (ix3 b l d) = S (ix2 b l) := by
  pointwise

theorem xcodes (x : Vec Ideal S8x2048x4096 .bf16) (p : IVec S8x2048 1) (s : FVec Ideal S4096 .f32) (b : Fin 8) (l : Fin 2048) (d : Fin 4096) :
    k0_pay9 x p s (ix3 b l d) = Scalar.select (p (ix2 b l)) (Ideal.fptosi 8 (cd (Ideal.div (x (ix3 b l d)) (s (ix1 d)))
      (sc (mx fun k : Fin 4096 => ab (Ideal.div (x (ix3 b l k)) (s (ix1 k))))))) 0#8 := by
  rw [← xscale0, ← xdiv]
  unfold k0_pay9
  refine (mask3 _ _ _ b l d).trans ?_
  rw [codes_at, spread]
  rfl

theorem out (v0 : Vec Ideal S8x2048x4096 .bf16) (v7 : IVec S8x2048 1) (v24 : FVec Ideal S4096 .f32) (v36 : FVec Ideal S14336 .f32)
    (v40 : FVec Ideal S4096x14336 .f32) (c15 c16 : Ideal .f32) (b : Fin 8) (r : Fin 2048) (n : Fin 14336) :
    k0_pay11 v0 v7 v24 v36 v40 c15 c16 (ix3 b r n)
      = (∑ k : Fin 4096, FloatOps.sitofp (F := Ideal) FTy.bf16 (k0_pay9 v0 v7 v24 (ix3 b r k))
          * FloatOps.sitofp (F := Ideal) FTy.bf16 (k0_pay6 v40 c15 c16 (ix2 k n)))
        * k0_pay10 v0 v7 v24 (ix2 b r) * v36 (ix1 n) := by
  pointwise [k0_pay11]

end Cert.ReferenceIdeal.Val

end
-- ==== Proof.Val.RefV.lean ====
/-
  The reference's six results as functions of the arguments, index by index.
-/
module

public import proofs.«01_k».proof.Proof.Gen.ReferenceIdeal.Value
public import proofs.«01_k».proof.Proof.Val.RPay

@[expose] public section

noncomputable section

namespace Cert.ReferenceIdeal.Val

open Idealize.ShloMosaic Cert.ReferenceIdeal Cert.ReferenceIdeal.Gen Cert.Val

/-- The smoothing factor of a channel, -/
def fS (x : Vec Ideal S8x2048x4096 .bf16) (len : Vec Ideal S8 .i32) (wm : Vec Ideal S4096 .f32) (d : Fin 4096) : EReal :=
  sm (amax x len (ix1 d)) (wm (ix1 d))
/-- a weight column's scale -/
def fWs (w : Vec Ideal S4096x14336 .bf16) (S : Fin 4096 → EReal) (n : Fin 14336) : EReal := sc (mx fun k : Fin 4096 => ab (w (ix2 k n) * S k))
/-- and a weight's code, -/
def fWc (w : Vec Ideal S4096x14336 .bf16) (S : Fin 4096 → EReal) (d : Fin 4096) (n : Fin 14336) : BitVec 8 :=
  Ideal.fptosi 8 (cd (w (ix2 d n) * S d) (fWs w S n))
/-- an activation row's scale -/
def fXs (x : Vec Ideal S8x2048x4096 .bf16) (len : Vec Ideal S8 .i32) (S : Fin 4096 → EReal) (b : Fin 8) (l : Fin 2048) : EReal :=
  Scalar.select (IntOp.cmpi .slt (BitVec.ofNat 32 l.val) (len (ix1 b))) (sc (mx fun k : Fin 4096 => ab (Ideal.div (x (ix3 b l k)) (S k)))) (Ideal.ofBits FTy.f32 0x3F800000#32)
/-- and an activation's code, -/
def fXc (x : Vec Ideal S8x2048x4096 .bf16) (len : Vec Ideal S8 .i32) (S : Fin 4096 → EReal) (b : Fin 8) (l : Fin 2048) (d : Fin 4096) : BitVec 8 :=
  Scalar.select (IntOp.cmpi .slt (BitVec.ofNat 32 l.val) (len (ix1 b)))
    (Ideal.fptosi 8 (cd (Ideal.div (x (ix3 b l d)) (S d)) (sc (mx fun k : Fin 4096 => ab (Ideal.div (x (ix3 b l k)) (S k)))))) 0#8
/-- the product of the codes, scaled. -/
def fY (x : Vec Ideal S8x2048x4096 .bf16) (len : Vec Ideal S8 .i32) (w : Vec Ideal S4096x14336 .bf16) (S : Fin 4096 → EReal) (b : Fin 8) (l : Fin 2048) (n : Fin 14336) : EReal :=
  (∑ k : Fin 4096, FloatOps.sitofp (F := Ideal) FTy.bf16 (fXc x len S b l k) * FloatOps.sitofp (F := Ideal) FTy.bf16 (fWc w S k n))
    * fXs x len S b l * fWs w S n

variable (x : Vec Ideal S8x2048x4096 .bf16) (len : Vec Ideal S8 .i32) (w : Vec Ideal S4096x14336 .bf16) (wm : Vec Ideal S4096 .f32)

theorem hz1 : (![0] : Fin 1 → Nat) = fun _ => 0 := by decide
theorem hz2 : (![0, 0] : Fin 2 → Nat) = fun _ => 0 := by decide
theorem hz3 : (![0, 0, 0] : Fin 3 → Nat) = fun _ => 0 := by decide

theorem p12 : k0_pay12 x len w wm = k0_pay1 (F := Ideal) len := by
  unfold k0_pay12
  rw [View.ld_unit_zero (S := S8) hz1 _ len]
theorem p13 : k0_pay13 x len w wm = k0_pay2 x len wm := by
  unfold k0_pay13
  rw [View.ld_unit_zero (S := S8) hz1 _ len, View.ld_unit_zero (S := S8x2048x4096) hz3 _ x, View.ld_unit_zero (S := S4096) hz1 _ wm]
theorem p14 : k0_pay14 x len w wm = k0_pay4 x len w wm := by
  unfold k0_pay14
  rw [View.ld_unit_zero (S := S8) hz1 _ len, View.ld_unit_zero (S := S8x2048x4096) hz3 _ x, View.ld_unit_zero (S := S4096) hz1 _ wm,
    View.ld_unit_zero (S := S4096x14336) hz2 _ w]
theorem p15 : k0_pay15 x len w wm = k0_pay5 x len w wm := by
  unfold k0_pay15
  rw [View.ld_unit_zero (S := S8) hz1 _ len, View.ld_unit_zero (S := S8x2048x4096) hz3 _ x, View.ld_unit_zero (S := S4096) hz1 _ wm,
    View.ld_unit_zero (S := S4096x14336) hz2 _ w]

theorem pay2_at (d : Fin 4096) : k0_pay2 x len wm (ix1 d) = fS x len wm d := smooth x len wm d
theorem pay4_at (n : Fin 14336) : k0_pay4 x len w wm (ix1 n) = fWs w (fS x len wm) n := by
  rw [wscale]
  unfold fWs
  refine congrArg (fun f => sc (mx f)) (funext fun k => ?_)
  rw [pay2_at]
theorem pay6_at (d : Fin 4096) (n : Fin 14336) :
    k0_pay6 (k0_pay5 x len w wm) (Scalar.ofBits .f32 0xC2FE0000#32) (Scalar.ofBits .f32 0x42FE0000#32) (ix2 d n) = fWc w (fS x len wm) d n := by
  rw [wcodes, pay2_at, pay4_at]
  rfl
theorem pay10_at (b : Fin 8) (l : Fin 2048) : k0_pay10 x (k0_pay1 (F := Ideal) len) (k0_pay2 x len wm) (ix2 b l) = fXs x len (fS x len wm) b l := by
  rw [xscale, valid]
  unfold fXs
  refine congrArg (fun f => Scalar.select (IntOp.cmpi .slt (BitVec.ofNat 32 l.val) (len (ix1 b))) (sc (mx f)) (Ideal.ofBits FTy.f32 0x3F800000#32)) (funext fun k => ?_)
  rw [pay2_at]
theorem pay9_at (b : Fin 8) (l : Fin 2048) (d : Fin 4096) :
    k0_pay9 x (k0_pay1 (F := Ideal) len) (k0_pay2 x len wm) (ix3 b l d) = fXc x len (fS x len wm) b l d := by
  rw [xcodes, valid, pay2_at]
  unfold fXc
  refine congrArg (fun f => Scalar.select (IntOp.cmpi .slt (BitVec.ofNat 32 l.val) (len (ix1 b))) (Ideal.fptosi 8 (cd (Ideal.div (x (ix3 b l d)) (fS x len wm d)) (sc (mx f)))) 0#8) (funext fun k => ?_)
  rw [pay2_at]

theorem G5_at (d : Fin 4096) : Value.G5 x len w wm (ix1 d) = fS x len wm d := by
  unfold Value.G5
  rw [p13]; exact pay2_at x len wm d
theorem G6_at (d : Fin 4096) (n : Fin 14336) : Value.G6 x len w wm (ix2 d n) = fWc w (fS x len wm) d n := by
  unfold Value.G6
  rw [p15]; exact pay6_at x len w wm d n
theorem G7_at (n : Fin 14336) : Value.G7 x len w wm (ix1 n) = fWs w (fS x len wm) n := by
  unfold Value.G7
  rw [p14]; exact pay4_at x len w wm n
theorem G8_at (b : Fin 8) (l : Fin 2048) (d : Fin 4096) : Value.G8 x len w wm (ix3 b l d) = fXc x len (fS x len wm) b l d := by
  unfold Value.G8
  rw [p12, p13]; exact pay9_at x len wm b l d
theorem G9_at (b : Fin 8) (l : Fin 2048) : Value.G9 x len w wm (ix2 b l) = fXs x len (fS x len wm) b l := by
  unfold Value.G9
  rw [p12, p13]; exact pay10_at x len wm b l
theorem G4_at (b : Fin 8) (l : Fin 2048) (n : Fin 14336) : Value.G4 x len w wm (ix3 b l n) = fY x len w (fS x len wm) b l n := by
  unfold Value.G4
  rw [p12, p13, p14, p15, out, pay10_at, pay4_at]
  unfold fY
  refine congrArg (fun s : EReal => s * fXs x len (fS x len wm) b l * fWs w (fS x len wm) n) (Finset.sum_congr rfl fun k _ => ?_)
  rw [pay9_at, pay6_at]

end Cert.ReferenceIdeal.Val
-- ==== Proof.Val.KPay.lean ====
/-
  The kernel's payloads at the ideal instance, read at an index.
-/
module

public import proofs.«01_k».proof.Proof.Gen.KernelIdeal.Skeleton
public import proofs.«01_k».proof.Proof.Val.Spec

@[expose] public section

noncomputable section

namespace Cert.KernelIdeal.Val

open Idealize.ShloMosaic Cert.KernelIdeal Cert.KernelIdeal.Gen Cert.Val

/-! ## `quant_x` -/

theorem div1 (x : Vec Ideal S1x256x4096 .bf16) (s : Vec Ideal S1x4096 .f32) (r : Fin 256) (d : Fin 4096) :
    k1_pay3 x s (ix2 r d) = Ideal.div (x (Idealize.ShloMosaic.ix3 0 r d)) (s (ix2 0 d)) := by
  pointwise [k1_pay3]

theorem max1 (P : Vec Ideal S256x4096 .f32) (r : Fin 256) :
    shapeCast S256x1 (multiReduction (F := Ideal) .maximumf [1] S256 (absf P) 0xFF800000#32 reduces_S256x4096_S256 (.inl rfl) rfl) shapeCasts_S256_S256x1 (ix2 r 0)
      = mx fun k : Fin 4096 => ab (P (ix2 r k)) := by
  pointwise
  rfl

theorem scale1 (x : Vec Ideal S1x256x4096 .bf16) (s : Vec Ideal S1x4096 .f32) (r : Fin 256) :
    k1_pay4 x s (ix2 r 0) = sc (mx fun k : Fin 4096 => ab (Ideal.div (x (Idealize.ShloMosaic.ix3 0 r k)) (s (ix2 0 k)))) := by
  have h := scale_at (shapeCast S256x1 (multiReduction (F := Ideal) .maximumf [1] S256 (absf (k1_pay3 x s)) 0xFF800000#32 reduces_S256x4096_S256 (.inl rfl) rfl) shapeCasts_S256_S256x1) (ix2 r 0)
  rw [max1] at h
  simp only [div1] at h
  exact h

theorem mask1 (v : BitVec 32) (r : Fin 256) : k1_pay5 v (ix2 r 0) = IntOp.cmpi .slt (BitVec.ofNat 32 r.val) v := by
  pointwise [k1_pay5]

theorem spread1 {α : Type} (p : S256x1.Idx → α) (r : Fin 256) (d : Fin 4096) :
    broadcastTo S256x4096 p broadcasts_S256x1_S256x4096 (ix2 r d) = p (ix2 r 0) := by
  pointwise

theorem same1 {α : Type} (p : S256x1.Idx → α) (r : Fin 256) : shapeCast S256x1 p shapeCasts_S256x1_S256x1 (ix2 r 0) = p (ix2 r 0) := by
  pointwise

theorem wrap1 {α : Type} (p : S256x4096.Idx → α) (r : Fin 256) (d : Fin 4096) :
    shapeCast S1x256x4096 p shapeCasts_S256x4096_S1x256x4096 (Idealize.ShloMosaic.ix3 0 r d) = p (ix2 r d) := by
  pointwise

theorem wrap1' {α : Type} (p : S256x1.Idx → α) (r : Fin 256) :
    shapeCast S1x256x1 p shapeCasts_S256x1_S1x256x1 (Idealize.ShloMosaic.ix3 0 r 0) = p (ix2 r 0) := by
  pointwise

/-- A masked value converted, at an index. -/
theorem masked_at {s : Shape} (p : IVec s 1) (X : FVec Ideal s .f32) (i : s.Idx) :
    fptosi 8 (select p X (broadcast s (Scalar.ofBits .f32 0x00000000#32))) i = Ideal.fptosi 8 (Scalar.select (p i) (X i) (Ideal.ofBits FTy.f32 0x00000000#32)) := rfl

theorem codes1 (v : BitVec 32) (x : Vec Ideal S1x256x4096 .bf16) (s : Vec Ideal S1x4096 .f32) (r : Fin 256) (d : Fin 4096) :
    k1_pay6 v x s (Idealize.ShloMosaic.ix3 0 r d) = Ideal.fptosi 8 (Scalar.select (IntOp.cmpi .slt (BitVec.ofNat 32 r.val) v)
      (cd (Ideal.div (x (Idealize.ShloMosaic.ix3 0 r d)) (s (ix2 0 d))) (sc (mx fun k : Fin 4096 => ab (Ideal.div (x (Idealize.ShloMosaic.ix3 0 r k)) (s (ix2 0 k))))))
      (Ideal.ofBits FTy.f32 0x00000000#32)) := by
  rw [← scale1, ← div1, ← mask1]
  unfold k1_pay6
  rw [wrap1]
  refine (masked_at _ _ _).trans ?_
  rw [clip_at, spread1, spread1, same1]

theorem scales1 (v : BitVec 32) (x : Vec Ideal S1x256x4096 .bf16) (s : Vec Ideal S1x4096 .f32) (r : Fin 256) :
    k1_pay7 v x s (Idealize.ShloMosaic.ix3 0 r 0) = Scalar.select (IntOp.cmpi .slt (BitVec.ofNat 32 r.val) v)
      (sc (mx fun k : Fin 4096 => ab (Ideal.div (x (Idealize.ShloMosaic.ix3 0 r k)) (s (ix2 0 k))))) (Ideal.ofBits FTy.f32 0x3F800000#32) := by
  rw [← scale1, ← mask1]
  unfold k1_pay7
  rw [wrap1']
  rfl

theorem zero1 (r : Fin 256) (d : Fin 4096) : k1_pay1 (Idealize.ShloMosaic.ix3 0 r d) = 0#8 := rfl
theorem one1 (r : Fin 256) : k1_pay2 (F := Ideal) (Idealize.ShloMosaic.ix3 0 r 0) = Ideal.ofBits FTy.f32 0x3F800000#32 := rfl

/-! ## `quant_w` -/

theorem prod2 (x : Vec Ideal S4096x256 .bf16) (s : Vec Ideal S4096x1 .f32) (d : Fin 4096) (l : Fin 256) :
    k2_pay1 x s (ix2 d l) = x (ix2 d l) * s (ix2 d 0) := by
  pointwise [k2_pay1]

theorem max2 (P : Vec Ideal S4096x256 .f32) (l : Fin 256) :
    shapeCast S1x256 (multiReduction (F := Ideal) .maximumf [0] S256 (absf P) 0xFF800000#32 reduces_S4096x256_S256 (.inl rfl) rfl) shapeCasts_S256_S1x256 (ix2 0 l)
      = mx fun k : Fin 4096 => ab (P (ix2 k l)) := by
  pointwise
  rfl

theorem scale2 (x : Vec Ideal S4096x256 .bf16) (s : Vec Ideal S4096x1 .f32) (l : Fin 256) :
    k2_pay2 x s (ix2 0 l) = sc (mx fun k : Fin 4096 => ab (x (ix2 k l) * s (ix2 k 0))) := by
  have h := scale_at (shapeCast S1x256 (multiReduction (F := Ideal) .maximumf [0] S256 (absf (k2_pay1 x s)) 0xFF800000#32 reduces_S4096x256_S256 (.inl rfl) rfl) shapeCasts_S256_S1x256) (ix2 0 l)
  rw [max2] at h
  simp only [prod2] at h
  exact h

theorem spread2 {α : Type} (p : S1x256.Idx → α) (d : Fin 4096) (l : Fin 256) :
    broadcastTo S4096x256 p broadcasts_S1x256_S4096x256 (ix2 d l) = p (ix2 0 l) := by
  pointwise

theorem codes2 (x : Vec Ideal S4096x256 .bf16) (s : Vec Ideal S4096x1 .f32) (d : Fin 4096) (l : Fin 256) :
    k2_pay3 x s (ix2 d l) = Ideal.fptosi 8 (cd (x (ix2 d l) * s (ix2 d 0)) (sc (mx fun k : Fin 4096 => ab (x (ix2 k l) * s (ix2 k 0))))) := by
  rw [← scale2, ← prod2]
  unfold k2_pay3
  refine (codes_at _ _ _).trans ?_
  rw [spread2]

/-! ## `matmul` -/

theorem prod3 (x : Vec Ideal S512x4096 .i8) (w : Vec Ideal S4096x1024 .i8) (s : Vec Ideal S512x1 .f32) (t : Vec Ideal S1x1024 .f32)
    (r : Fin 512) (l : Fin 1024) : k3_pay1 x w s t (ix2 r l)
      = (∑ k : Fin 4096, FloatOps.sitofp (F := Ideal) FTy.bf16 (x (ix2 r k)) * FloatOps.sitofp (F := Ideal) FTy.bf16 (w (ix2 k l)))
        * s (ix2 r 0) * t (ix2 0 l) := by
  pointwise [k3_pay1]

theorem zero3 (r : Fin 512) (l : Fin 1024) : k3_pay2 (F := Ideal) (ix2 r l) = 0 := by
  pointwise [k3_pay2]

/-! ## `smooth` -/

theorem zero0 (r : Fin 16) (d : Fin 4096) : k0_pay1 (F := Ideal) (ix2 r d) = 0 := by
  pointwise [k0_pay1]

/-- Row `k * 16 + r` of a tile. -/
def row (k : Fin 32) (r : Fin 16) : Fin 512 := ⟨k.val * 16 + r.val, by omega⟩

theorem full0 (x : Vec Ideal S1x512x4096 .bf16) (A : Vec Ideal S16x4096 .bf16) (r : Fin 16) (d : Fin 4096) (z : EReal) :
    k0_pay2 x A (ix2 r d) ≤ z ↔ A (ix2 r d) ≤ z ∧ ∀ k : Fin 32, ab (x (Idealize.ShloMosaic.ix3 0 (row k r) d)) ≤ z := by
  pointwise [k0_pay2]
  rw [max_le_iff, Finset.fold_max_le, ninf']
  simp only [bot_le, true_and, Finset.mem_univ, forall_const]
  rfl

theorem part0 (i : grid0.Coords) (v : BitVec 32) (x : Vec Ideal S1x512x4096 .bf16) (A : Vec Ideal S16x4096 .bf16) (r : Fin 16) (d : Fin 4096)
    (z : EReal) : k0_pay3 i v x A (ix2 r d) ≤ z ↔ A (ix2 r d) ≤ z ∧ ∀ k : Fin 32,
      Scalar.select (IntOp.cmpi .slt (BitVec.ofNat 32 (row k r).val) (Scalar.subi v (Scalar.muli (BitVec.ofNat 32 (i 1).val) 512#32)))
        (ab (x (Idealize.ShloMosaic.ix3 0 (row k r) d))) 0 ≤ z := by
  pointwise [k0_pay3]
  rw [max_le_iff, Finset.fold_max_le, ninf]
  simp only [bot_le, true_and, Finset.mem_univ, forall_const]
  rfl

theorem last0 (A : Vec Ideal S16x4096 .bf16) (wm : Vec Ideal S1x4096 .f32) (d : Fin 4096) :
    k0_pay4 A wm (ix2 0 d) = sm (mx fun r : Fin 16 => A (ix2 r d)) (wm (ix2 0 d)) := by
  pointwise [k0_pay4]
  rfl

end Cert.KernelIdeal.Val

end
-- ==== Proof.Val.Len.lean ====
/-
  The lengths' words: where a tile has a valid row its block is its own, and the rows' masks in integers.
-/
module

public import proofs.«01_k».proof.Proof.Words

@[expose] public section

namespace Cert.Words

open Idealize.ShloMosaic

/-- A word plus a positive one less one, in integers: the sum may wrap on the way. -/
theorem addsub_toInt (v T : BitVec 32) (hT : 0 < T.toInt) (h0 : 0 ≤ v.toInt) (h : v.toInt + T.toInt ≤ 2147483648) :
    (Scalar.subi (Scalar.addi v T) 1#32).toInt = v.toInt + T.toInt - 1 := by
  have e : Scalar.subi (Scalar.addi v T) 1#32 = Scalar.addi v (Scalar.subi T 1#32) := by
    show v + T - 1#32 = v + (T - 1#32)
    rw [BitVec.sub_eq_add_neg, BitVec.sub_eq_add_neg, BitVec.add_assoc]
  have o : (1#32 : BitVec 32).toInt = 1 := by decide
  have := toInt_lt T
  have hs : (Scalar.subi T 1#32).toInt = T.toInt - 1 := by rw [toInt_subi _ _ (by omega) (by omega), o]
  rw [e, toInt_addi _ _ (by omega) (by omega), hs]
  omega

/-- The clamped position is the tile's where the tile has a valid row. -/
theorem clampBlk_own (T v : BitVec 32) (hT : 0 < T.toInt) (n : ℕ) (hn : n < 2147483648)
    (h1 : v.toInt + T.toInt ≤ 2147483648) (h : n * T.toInt < v.toInt) :
    (clampBlk T v (BitVec.ofNat 32 n)).toNat = n := by
  have e := clampBlk_toInt T v (BitVec.ofNat 32 n) hT
  have hn' : (BitVec.ofNat 32 n).toInt = n := WordCmp.toInt_ofNat_of_lt (by simpa using hn)
  have h0 : 0 ≤ n * T.toInt := Int.mul_nonneg (by omega) (by omega)
  have hs := addsub_toInt v T hT (by omega) h1
  rw [hn', hs] at e
  have h2 : (n : Int) + 1 ≤ max (v.toInt + T.toInt - 1) T.toInt / T.toInt := by
    rw [Int.le_ediv_iff_mul_le hT]
    have : ((n : Int) + 1) * T.toInt = n * T.toInt + T.toInt := by rw [Int.add_mul, Int.one_mul]
    omega
  have hh := BitVec.toInt_eq_toNat_cond (clampBlk T v (BitVec.ofNat 32 n))
  have := (clampBlk T v (BitVec.ofNat 32 n)).isLt
  split at hh <;> omega

/-- A signed comparison as a choice. -/
theorem slt_if (x y : BitVec 32) : IntOp.cmpi .slt x y = if x.toInt < y.toInt then 1#1 else 0#1 := by
  rw [WordCmp.cmpi_slt_eq]
  by_cases h : x.toInt < y.toInt <;> simp [h]

/-- A row number below a word, as a choice. -/
theorem row_if (n : ℕ) (hn : n < 2147483648) (y : BitVec 32) :
    IntOp.cmpi .slt (BitVec.ofNat 32 n) y = if (n : Int) < y.toInt then 1#1 else 0#1 := by
  rw [slt_if, show (BitVec.ofNat 32 n).toInt = n from WordCmp.toInt_ofNat_of_lt (by simpa using hn)]

theorem sel_one {α : Type} (x y : α) : Scalar.select 1#1 x y = x := by
  unfold Scalar.select; rw [if_pos (by decide)]
theorem sel_zero {α : Type} (x y : α) : Scalar.select 0#1 x y = y := by
  unfold Scalar.select; rw [if_neg (by decide)]

end Cert.Words
-- ==== Proof.Val.VR0.lean ====
/-
  Region 0 (`smooth`): the smoothing factors that the region leaves.
-/
module

public import proofs.«01_k».proof.Proof.KI.R0
public import proofs.«01_k».proof.Proof.KI.Tabs
public import proofs.«01_k».proof.Proof.Val.KPay
public import proofs.«01_k».proof.Proof.Val.Len
public import Idealize.ShloMosaic.Lib.Pipeline.TableIdle

@[expose] public section

set_option maxRecDepth 16384

noncomputable section

namespace Cert.KernelIdeal.Val0

open Idealize.ShloMosaic Idealize.ShloMosaic.TcCoe Cert.KernelIdeal Cert.KernelIdeal.Gen Cert.Val Cert.KernelIdeal.Val
open Idealize.ShloMosaic.Pipeline (Dat Window)

theorem ab_nonneg (x : EReal) : 0 ≤ ab x := by
  unfold ab
  rcases le_total 0 x with h | h
  · exact le_max_of_le_left h
  · exact le_max_of_le_right (by simpa using EReal.neg_le_neg_iff.mpr h)

/-- The absolute value of an entry of a valid row, zero of an invalid one. -/
def gv (x : Vec Ideal S8x2048x4096 .bf16) (len : Vec Ideal S8 .i32) (b : Fin 8) (l : Fin 2048) (d : Fin 4096) : EReal :=
  Scalar.select (IntOp.cmpi .slt (BitVec.ofNat 32 l.val) (len (Idealize.ShloMosaic.ix1 b))) (ab (x (Idealize.ShloMosaic.ix3 b l d))) 0

theorem gv_valid (x : Vec Ideal S8x2048x4096 .bf16) (len : Vec Ideal S8 .i32) (b : Fin 8) (l : Fin 2048) (d : Fin 4096)
    (h : (l.val : Int) < (len (Idealize.ShloMosaic.ix1 b) : BitVec 32).toInt) : gv x len b l d = ab (x (Idealize.ShloMosaic.ix3 b l d)) := by
  unfold gv
  rw [Cert.Words.row_if _ (by have := l.isLt; omega), if_pos h, Cert.Words.sel_one]
theorem gv_invalid (x : Vec Ideal S8x2048x4096 .bf16) (len : Vec Ideal S8 .i32) (b : Fin 8) (l : Fin 2048) (d : Fin 4096)
    (h : ¬ (l.val : Int) < (len (Idealize.ShloMosaic.ix1 b) : BitVec 32).toInt) : gv x len b l d = 0 := by
  unfold gv
  rw [Cert.Words.row_if _ (by have := l.isLt; omega), if_neg h, Cert.Words.sel_zero]
theorem gv_nonneg (x : Vec Ideal S8x2048x4096 .bf16) (len : Vec Ideal S8 .i32) (b : Fin 8) (l : Fin 2048) (d : Fin 4096) : 0 ≤ gv x len b l d := by
  by_cases h : (l.val : Int) < (len (Idealize.ShloMosaic.ix1 b) : BitVec 32).toInt
  · rw [gv_valid _ _ _ _ _ h]; exact ab_nonneg _
  · rw [gv_invalid _ _ _ _ _ h]

/-- The lengths that the precondition admits. -/
def LenOk (len : Vec Ideal S8 .i32) : Prop := ∀ b : Fin 8, -2147481856 ≤ (len (Idealize.ShloMosaic.ix1 b) : BitVec 32).toInt ∧ (len (Idealize.ShloMosaic.ix1 b) : BitVec 32).toInt ≤ 2147483136

variable (a : (pcfg0 (F := Ideal)).Adm) (V : Dev nD → Valuation τ sig (Elt Ideal))

/-- The lengths as the region's table holds them. -/
abbrev lens0 : Vec Ideal S8 .i32 := a.1 0

def bat0 (i : grid0.Coords) : Fin 8 := ⟨(i 0).val, (i 0).isLt⟩
def row0 (i : grid0.Coords) (r : Fin 512) : Fin 2048 := ⟨(i 1).val * 512 + r.val, by have : (i 1).val < 4 := (i 1).isLt; omega⟩

theorem off1 (i : grid0.Coords) (h : ∀ x, k0_off1 i x + 1 ≤ S8.size x) :
    (fun x => ⟨k0_off1 i x, h x⟩ : S8.Idx) = Idealize.ShloMosaic.ix1 (bat0 i) := by
  funext x
  match x with
  | ⟨0, _⟩ =>
    refine Fin.ext ?_
    show (BitVec.ofNat 32 (i 0).val).toNat = (i 0).val
    exact WordCmp.toNat_ofNat_of_lt (by have := Tabs.lt0 i; omega)

theorem word0 (i : grid0.Coords) : R0.word a.1 i = lens0 a (Idealize.ShloMosaic.ix1 (bat0 i)) := by
  have h : ∀ x, k0_off1 i x + 1 ≤ (pre0.ref 0).ty.shape.size x := fun x => by
    have := k0_off1_inb i x; fin_cases x; exact this
  refine (dif_pos h).trans ?_
  show lens0 a _ = _
  exact congrArg (lens0 a) (off1 i h)

theorem len0_eq (i : grid0.Coords) : Tabs.len0 a.1 i = lens0 a (Idealize.ShloMosaic.ix1 (bat0 i)) := by
  show lens0 a _ = _
  refine congrArg (lens0 a) ?_
  funext x
  match x with
  | ⟨0, _⟩ =>
    refine Fin.ext ?_
    show (BitVec.ofNat 32 (i 0).val).toNat + 1 * 0 = (i 0).val
    rw [Nat.mul_zero, Nat.add_zero]
    exact WordCmp.toNat_ofNat_of_lt (by have := Tabs.lt0 i; omega)

theorem idx0_0 (t : Fin (cfg0 a).N) : ((cfg0 a).win 0).index t
    = ![(grid0.coords t 0).val, (Cert.Words.clampBlk 512#32 (Tabs.len0 a.1 (grid0.coords t)) (BitVec.ofNat 32 (grid0.coords t 1).val)).toNat, 0] :=
  Tabs.tr0 a.1 (grid0.coords t)

/-- A valid row's tile is read from its own block. -/
theorem x_block (hl : LenOk (lens0 a)) (c : Dev nD) (t : Fin (cfg0 a).N) (r : Fin 512) (d : Fin 4096)
    (h : ((row0 (grid0.coords t) r).val : Int) < (lens0 a (Idealize.ShloMosaic.ix1 (bat0 (grid0.coords t))) : BitVec 32).toInt) :
    R0.iblk a V c 0 t (Idealize.ShloMosaic.ix3 0 r d)
      = (V c main_arg0 : Vec Ideal S8x2048x4096 .bf16) (Idealize.ShloMosaic.ix3 (bat0 (grid0.coords t)) (row0 (grid0.coords t) r) d) := by
  have hb := hl (bat0 (grid0.coords t))
  have T : (512#32 : BitVec 32).toInt = 512 := by decide
  have hj := Tabs.lt1 (grid0.coords t)
  have own : (Cert.Words.clampBlk 512#32 (Tabs.len0 a.1 (grid0.coords t)) (BitVec.ofNat 32 (grid0.coords t 1).val)).toNat = (grid0.coords t 1).val := by
    rw [len0_eq]
    have h' : (((grid0.coords t 1).val * 512 + r.val : ℕ) : Int) < (lens0 a (Idealize.ShloMosaic.ix1 (bat0 (grid0.coords t))) : BitVec 32).toInt := h
    exact Cert.Words.clampBlk_own _ _ (by decide) _ (by omega) (by rw [T]; omega) (by rw [T]; push_cast at h'; omega)
  show (V c main_arg0 : Vec Ideal S8x2048x4096 .bf16) ((((cfg0 a).win 0).blk t).view.emb (Idealize.ShloMosaic.ix3 0 r d)) = _
  refine congrArg _ ?_
  funext x
  match x with
  | ⟨0, _⟩ =>
    refine Fin.ext ?_
    show ((cfg0 a).win 0).index t (0 : Fin 3) * 1 + 1 * 0 = (grid0.coords t 0).val
    rw [idx0_0]
    show (grid0.coords t 0).val * 1 + 1 * 0 = (grid0.coords t 0).val
    rw [Nat.mul_one, Nat.mul_zero, Nat.add_zero]
  | ⟨1, _⟩ =>
    refine Fin.ext ?_
    show ((cfg0 a).win 0).index t (1 : Fin 3) * 512 + 1 * r.val = (grid0.coords t 1).val * 512 + r.val
    rw [idx0_0]
    show (Cert.Words.clampBlk 512#32 (Tabs.len0 a.1 (grid0.coords t)) (BitVec.ofNat 32 (grid0.coords t 1).val)).toNat * 512 + 1 * r.val = (grid0.coords t 1).val * 512 + r.val
    rw [own, Nat.one_mul]
  | ⟨2, _⟩ =>
    refine Fin.ext ?_
    show ((cfg0 a).win 0).index t (2 : Fin 3) * 4096 + 1 * d.val = d.val
    rw [idx0_0]
    show 0 * 4096 + 1 * d.val = d.val
    rw [Nat.zero_mul, Nat.zero_add, Nat.one_mul]

theorem w_block (c : Dev nD) (t : Fin (cfg0 a).N) (d : Fin 4096) :
    R0.iblk a V c 1 t (ix2 0 d) = (V c main_v0 : Vec Ideal S1x4096 .f32) (ix2 0 d) := by
  have i0 : ((cfg0 a).win 1).index t (0 : Fin 2) = 0 := rfl
  have i1 : ((cfg0 a).win 1).index t (1 : Fin 2) = 0 := rfl
  show (V c main_v0 : Vec Ideal S1x4096 .f32) ((((cfg0 a).win 1).blk t).view.emb (ix2 0 d)) = _
  refine congrArg _ ?_
  funext x
  match x with
  | ⟨0, _⟩ =>
    refine Fin.ext ?_
    show ((cfg0 a).win 1).index t (0 : Fin 2) * 1 + 1 * 0 = 0
    rw [i0]
  | ⟨1, _⟩ =>
    refine Fin.ext ?_
    show ((cfg0 a).win 1).index t (1 : Fin 2) * 4096 + 1 * d.val = d.val
    rw [i1, Nat.zero_mul, Nat.zero_add, Nat.one_mul]

/-! ## One step of the accumulator -/

theorem rem0 (len : BitVec 32) (h : -2147481856 ≤ len.toInt) (i : grid0.Coords) :
    (R0.rem i len).toInt = len.toInt - (i 1).val * 512 :=
  Cert.Words.rem_toInt _ _ 512 (by have := Tabs.lt1 i; omega) h

theorem full_iff (i : grid0.Coords) (v : BitVec 32) : R0.full i v ↔ 512 ≤ (R0.rem i v).toInt := by
  unfold R0.full
  rw [R0.extBit, Cert.Words.sge_bit, show (512#32 : BitVec 32).toInt = 512 from by decide]
  split <;> simp_all

theorem part_iff (i : grid0.Coords) (v : BitVec 32) : R0.part i v ↔ 0 < (R0.rem i v).toInt ∧ (R0.rem i v).toInt < 512 := by
  unfold R0.part
  rw [R0.extBit, Cert.Words.sgt_bit, Cert.Words.slt_bit, show (512#32 : BitVec 32).toInt = 512 from by decide, show (0#32 : BitVec 32).toInt = 0 from by decide]
  by_cases h1 : 0 < (R0.rem i v).toInt <;> by_cases h2 : (R0.rem i v).toInt < 512 <;> simp only [h1, h2, if_true, if_false] <;> decide

/-- What bounds the accumulator after a point: what bounds it before, and what bounds the tile's entries. -/
theorem step_le (X : Vec Ideal S8x2048x4096 .bf16) (len : Vec Ideal S8 .i32) (hl : LenOk len) (i : grid0.Coords) (x0 : Vec Ideal S1x512x4096 .bf16)
    (A : Vec Ideal S16x4096 .bf16) (r : Fin 16) (d : Fin 4096) (z : EReal)
    (hx : ∀ q : Fin 512, ((row0 i q).val : Int) < (len (Idealize.ShloMosaic.ix1 (bat0 i)) : BitVec 32).toInt →
      x0 (Idealize.ShloMosaic.ix3 0 q d) = X (Idealize.ShloMosaic.ix3 (bat0 i) (row0 i q) d))
    (h0 : R0.acc0 i A = A) (hA : A (ix2 r d) ≤ z → 0 ≤ z) :
    R0.step i (len (Idealize.ShloMosaic.ix1 (bat0 i))) x0 A (ix2 r d) ≤ z
      ↔ A (ix2 r d) ≤ z ∧ ∀ k : Fin 32, gv X len (bat0 i) (row0 i (row k r)) d ≤ z := by
  have hv := rem0 _ (hl (bat0 i)).1 i
  have hrow : ∀ q : Fin 512, ((row0 i q).val : Int) = (i 1).val * 512 + q.val := fun q => by
    show (((i 1).val * 512 + q.val : ℕ) : Int) = _
    push_cast; rfl
  unfold R0.step
  rw [h0]
  by_cases hf : R0.full i (len (Idealize.ShloMosaic.ix1 (bat0 i)))
  · have hf' := (full_iff _ _).mp hf
    have hp : ¬ R0.part i (len (Idealize.ShloMosaic.ix1 (bat0 i))) := fun h => by have := (part_iff _ _).mp h; omega
    unfold R0.acc2 R0.acc1
    rw [if_neg hp, if_pos hf, full0]
    refine and_congr_right fun _ => forall_congr' fun k => ?_
    have hk : ((row0 i (row k r)).val : Int) < (len (Idealize.ShloMosaic.ix1 (bat0 i)) : BitVec 32).toInt := by
      rw [hrow]; have := (row k r).isLt; omega
    rw [gv_valid _ _ _ _ _ hk, hx _ hk]
  · have hf' := fun h => hf ((full_iff _ _).mpr h)
    by_cases hp : R0.part i (len (Idealize.ShloMosaic.ix1 (bat0 i)))
    · have hp' := (part_iff _ _).mp hp
      unfold R0.acc2 R0.acc1
      rw [if_pos hp, if_neg hf, part0]
      refine and_congr_right fun _ => forall_congr' fun k => ?_
      rw [Cert.Words.row_if _ (by have := (row k r).isLt; omega)]
      by_cases hk : ((row0 i (row k r)).val : Int) < (len (Idealize.ShloMosaic.ix1 (bat0 i)) : BitVec 32).toInt
      · have hk' : ((row k r).val : Int) < (R0.rem i (len (Idealize.ShloMosaic.ix1 (bat0 i)))).toInt := by rw [hrow] at hk; omega
        rw [if_pos hk', gv_valid _ _ _ _ _ hk, hx _ hk, Cert.Words.sel_one]
      · have hk' : ¬ ((row k r).val : Int) < (R0.rem i (len (Idealize.ShloMosaic.ix1 (bat0 i)))).toInt := by rw [hrow] at hk; omega
        rw [if_neg hk', gv_invalid _ _ _ _ _ hk, Cert.Words.sel_zero]
    · have hp' := fun h => hp ((part_iff _ _).mpr h)
      unfold R0.acc2 R0.acc1
      rw [if_neg hp, if_neg hf]
      refine ⟨fun h => ⟨h, fun k => ?_⟩, fun h => h.1⟩
      rw [gv_invalid]
      · exact hA h
      · rw [hrow]
        have : ¬ 0 < (R0.rem i (len (Idealize.ShloMosaic.ix1 (bat0 i)))).toInt := fun h1 => hp' ⟨h1, by by_contra h2; exact hf' (by omega)⟩
        omega

/-! ## The whole accumulation -/

theorem coords0 (t : Fin grid0.N) : (grid0.coords t 0).val = t.val / 4 ∧ (grid0.coords t 1).val = t.val % 4 := by
  have ht : t.val < 32 := Nat.lt_of_lt_of_eq t.isLt N_0
  exact ⟨by rw [R0.coords_0]; omega, R0.coords_1 t⟩

/-- What bounds the accumulator before point `n`. -/
theorem acc_le (hl : LenOk (lens0 a)) (c : Dev nD) (r : Fin 16) (d : Fin 4096) (z : EReal) : ∀ n : ℕ, n ≤ (cfg0 a).N →
    (R0.accAt a V c n (ix2 r d) ≤ z ↔ 0 ≤ z ∧ ∀ t : Fin (cfg0 a).N, t.val < n → ∀ k : Fin 32,
      gv (V c main_arg0) (lens0 a) (bat0 (grid0.coords t)) (row0 (grid0.coords t) (row k r)) d ≤ z)
  | 0, _ => by
    have e : R0.accAt a V c 0 (ix2 r d) = 0 := zero0 r d
    rw [e]
    exact ⟨fun h => ⟨h, fun t ht => absurd ht (Nat.not_lt_zero _)⟩, fun h => h.1⟩
  | n + 1, hn => by
    have ih := acc_le hl c r d z n (by omega)
    have e := R0.accAt_succ a V c ⟨n, hn⟩
    have e' : R0.accAt a V c (n + 1) = R0.stepAt a V c ⟨n, hn⟩ (R0.accAt a V c n) := e
    rw [e']
    unfold R0.stepAt
    rw [word0]
    have h0 : R0.acc0 (grid0.coords ⟨n, hn⟩) (R0.accAt a V c n) = R0.accAt a V c n := by
      unfold R0.acc0
      by_cases hf : R0.first (grid0.coords ⟨n, hn⟩)
      · rw [if_pos hf]
        have : n = 0 := (R0.first_iff ⟨n, hn⟩).mp hf
        subst this
        rfl
      · rw [if_neg hf]
    refine (step_le (V c main_arg0) (lens0 a) hl (grid0.coords ⟨n, hn⟩) _ _ r d z (fun q h => x_block a V hl c ⟨n, hn⟩ q d h) h0 (fun h => (ih.mp h).1)).trans ?_
    rw [ih]
    constructor
    · rintro ⟨⟨hz, h1⟩, h2⟩
      refine ⟨hz, fun t ht k => ?_⟩
      rcases Nat.lt_succ_iff_lt_or_eq.mp ht with h | h
      · exact h1 t h k
      · have : t = ⟨n, hn⟩ := Fin.ext h
        rw [this]; exact h2 k
    · rintro ⟨hz, h1⟩
      exact ⟨⟨hz, fun t ht k => h1 t (by omega) k⟩, fun k => h1 ⟨n, hn⟩ (by show n < n + 1; omega) k⟩

/-- The point, the row group and the row in the group that a row of a batch belongs to. -/
theorem point0 (b : Fin 8) (l : Fin 2048) : ∃ (t : Fin grid0.N) (k : Fin 32) (r : Fin 16), bat0 (grid0.coords t) = b ∧ row0 (grid0.coords t) (row k r) = l := by
  have hb := b.isLt
  have hl := l.isLt
  refine ⟨⟨b.val * 4 + l.val / 512, by show b.val * 4 + l.val / 512 < 32; omega⟩, ⟨l.val % 512 / 16, by omega⟩, ⟨l.val % 16, by omega⟩, Fin.ext ?_, Fin.ext ?_⟩
  · show (grid0.coords _ 0).val = b.val
    rw [(coords0 _).1]
    show (b.val * 4 + l.val / 512) / 4 = b.val
    omega
  · show (grid0.coords _ 1).val * 512 + (l.val % 512 / 16 * 16 + l.val % 16) = l.val
    rw [(coords0 _).2]
    show (b.val * 4 + l.val / 512) % 4 * 512 + (l.val % 512 / 16 * 16 + l.val % 16) = l.val
    omega

/-- The maximum over the accumulator's rows at the end is the maximum over all valid rows. -/
theorem max0 (hl : LenOk (lens0 a)) (c : Dev nD) (d : Fin 4096) (M : EReal)
    (hM : ∀ z, M ≤ z ↔ ∀ b l, gv (V c main_arg0) (lens0 a) b l d ≤ z) :
    (mx fun r : Fin 16 => R0.accAt a V c 32 (ix2 r d)) = M := by
  refine eq_of_forall_ge_iff fun z => ?_
  rw [hM, mx_le]
  constructor
  · intro h b l
    obtain ⟨t, k, r, h0, h1⟩ := point0 b l
    have := ((acc_le a V hl c r d z 32 (le_of_eq N_0.symm)).mp (h r)).2 t (Nat.lt_of_lt_of_eq t.isLt N_0) k
    rw [h0, h1] at this
    exact this
  · intro h r
    exact (acc_le a V hl c r d z 32 (le_of_eq N_0.symm)).mpr ⟨(gv_nonneg (V c main_arg0) (lens0 a) 0 0 d).trans (h 0 0), fun t _ k => h _ _⟩

theorem flush0 (t : Fin (cfg0 a).N) : ((cfg0 a).win 2).flush t = true ↔ t.val = 31 := by
  have h := Pipeline.Window.flush_const ((cfg0 a).win 2) rfl (fun _ _ => rfl) (n := 32) (m := 31) N_0 (by decide) t
  have ht : t.val < 32 := Nat.lt_of_lt_of_eq t.isLt N_0
  refine h.trans ?_
  omega

theorem emb0 (t : Fin (cfg0 a).N) (d : Fin 4096) : (((cfg0 a).win 2).blk t).view.emb (ix2 (0 : Fin 1) d) = (ix2 (0 : Fin 1) d : S1x4096.Idx) := by
  have i0 : ((cfg0 a).win 2).index t (0 : Fin 2) = 0 := rfl
  have i1 : ((cfg0 a).win 2).index t (1 : Fin 2) = 0 := rfl
  funext x
  match x with
  | ⟨0, _⟩ =>
    refine Fin.ext ?_
    show ((cfg0 a).win 2).index t (0 : Fin 2) * 1 + 1 * 0 = 0
    rw [i0]
  | ⟨1, _⟩ =>
    refine Fin.ext ?_
    show ((cfg0 a).win 2).index t (1 : Fin 2) * 4096 + 1 * d.val = d.val
    rw [i1, Nat.zero_mul, Nat.zero_add, Nat.one_mul]

theorem row_idx (y : S1x4096.Idx) : ∃ d : Fin 4096, y = ix2 (0 : Fin 1) d := ⟨y 1, by
  funext x
  match x with
  | ⟨0, _⟩ => exact Subsingleton.elim (α := Fin 1) _ _
  | ⟨1, _⟩ => rfl⟩

theorem cover0 (i : S1x4096.Idx) : ∃ t : Fin (cfg0 a).N, ((cfg0 a).win 2).flush t = true ∧ i ∈ (((cfg0 a).win 2).blk t).view.set := by
  obtain ⟨d, hd⟩ := row_idx i
  obtain ⟨t, ht⟩ : ∃ t : Fin (cfg0 a).N, t.val = 31 := ⟨⟨31, by show 31 < grid0.N; rw [N_0]; decide⟩, rfl⟩
  refine ⟨t, (flush0 a t).mpr ht, ?_⟩
  have e : i = (((cfg0 a).win 2).blk t).view.emb (ix2 (0 : Fin 1) d) := hd.trans (emb0 a t d).symm
  rw [e]
  exact View.emb_mem_set _ _

/-- What the region leaves in the smoothing factors' array. -/
theorem smooth_arr (hl : LenOk (lens0 a)) (c : Dev nD) (M : Fin 4096 → EReal)
    (hM : ∀ d z, M d ≤ z ↔ ∀ b l, gv (V c main_arg0) (lens0 a) b l d ≤ z) :
    (R0.dat a V c).arrAt 2 (cfg0 a).N
      = fun i : S1x4096.Idx => sm (M (i 1)) ((V c main_v0 : Vec Ideal S1x4096 .f32) (ix2 0 (i 1))) := by
  refine Dat.arrAt_eq_of_emb _ 2 _ (fun t hf y => ?_) (cover0 a)
  blk_simp
  rw [R0.after_2]
  have ht := (flush0 a t).mp hf
  obtain ⟨d, rfl⟩ := row_idx y
  unfold R0.sblk
  refine (last0 _ _ d).trans ?_
  rw [ht]
  refine (congrArg₂ sm (max0 a V hl c d (M d) (hM d)) (w_block a V c t d)).trans ?_
  exact (congrArg (fun i : S1x4096.Idx => sm (M (i 1)) ((V c main_v0 : Vec Ideal S1x4096 .f32) (ix2 0 (i 1)))) (emb0 a t d)).symm

end Cert.KernelIdeal.Val0

end
-- ==== Proof.Val.VR1.lean ====
/-
  Region 1 (`quant_x`): the codes and scales of the activations that the region leaves.
-/
module

public import proofs.«01_k».proof.Proof.KI.R1
public import proofs.«01_k».proof.Proof.KI.Tabs
public import proofs.«01_k».proof.Proof.Val.KPay
public import proofs.«01_k».proof.Proof.Val.Len
public import Idealize.ShloMosaic.Lib.Pipeline.TableIdle

@[expose] public section

set_option maxRecDepth 16384

noncomputable section

namespace Cert.KernelIdeal.Val

open Idealize.ShloMosaic Idealize.ShloMosaic.TcCoe Cert.KernelIdeal Cert.KernelIdeal.Gen Cert.Val
open Idealize.ShloMosaic.Pipeline (Dat Window)

/-- An index of rank three by its coordinates. -/
theorem eta3 {n0 n1 n2 : ℕ} (y : (⟨3, ![n0, n1, n2]⟩ : Shape).Idx) : y = Idealize.ShloMosaic.ix3 (y 0) (y 1) (y 2) := by
  funext a
  match a with
  | ⟨0, _⟩ => rfl
  | ⟨1, _⟩ => rfl
  | ⟨2, _⟩ => rfl

/-- The scale of a row of smoothed activations, -/
def xs0 (x : Vec Ideal S8x2048x4096 .bf16) (s : Vec Ideal S1x4096 .f32) (b : Fin 8) (l : Fin 2048) : EReal :=
  sc (mx fun k : Fin 4096 => ab (Ideal.div (x (Idealize.ShloMosaic.ix3 b l k)) (s (ix2 0 k))))
/-- the scale that is stored, one on an invalid row, -/
def xsc (x : Vec Ideal S8x2048x4096 .bf16) (len : Vec Ideal S8 .i32) (s : Vec Ideal S1x4096 .f32) (b : Fin 8) (l : Fin 2048) : EReal :=
  Scalar.select (IntOp.cmpi .slt (BitVec.ofNat 32 l.val) (len (Idealize.ShloMosaic.ix1 b))) (xs0 x s b l) (Ideal.ofBits FTy.f32 0x3F800000#32)
/-- and the code that is stored, zero on an invalid row. -/
def xcd (x : Vec Ideal S8x2048x4096 .bf16) (len : Vec Ideal S8 .i32) (s : Vec Ideal S1x4096 .f32) (b : Fin 8) (l : Fin 2048) (d : Fin 4096) : BitVec 8 :=
  Scalar.select (IntOp.cmpi .slt (BitVec.ofNat 32 l.val) (len (Idealize.ShloMosaic.ix1 b)))
    (Ideal.fptosi 8 (cd (Ideal.div (x (Idealize.ShloMosaic.ix3 b l d)) (s (ix2 0 d))) (xs0 x s b l))) 0#8

/-- The lengths that the precondition admits. -/
def LenOk (len : Vec Ideal S8 .i32) : Prop := ∀ b : Fin 8, -2147481856 ≤ (len (Idealize.ShloMosaic.ix1 b) : BitVec 32).toInt ∧ (len (Idealize.ShloMosaic.ix1 b) : BitVec 32).toInt ≤ 2147483136

variable (a : (pcfg1 (F := Ideal)).Adm) (V : Dev nD → Valuation τ sig (Elt Ideal))

/-- The lengths as the region's table holds them. -/
abbrev lens1 : Vec Ideal S8 .i32 := a.1 0

/-- Batch `i 0`'s row `r` of tile `i 1`. -/
def bat1 (i : grid1.Coords) : Fin 8 := ⟨(i 0).val, (i 0).isLt⟩
def row1 (i : grid1.Coords) (r : Fin 256) : Fin 2048 := ⟨(i 1).val * 256 + r.val, by have : (i 1).val < 8 := (i 1).isLt; omega⟩

theorem off1 (i : grid1.Coords) (h : ∀ x, k1_off1 i x + 1 ≤ S8.size x) :
    (fun x => ⟨k1_off1 i x, h x⟩ : S8.Idx) = Idealize.ShloMosaic.ix1 (bat1 i) := by
  funext x
  match x with
  | ⟨0, _⟩ =>
    refine Fin.ext ?_
    show (BitVec.ofNat 32 (i 0).val).toNat = (i 0).val
    exact WordCmp.toNat_ofNat_of_lt (by have := Tabs.lt0' i; omega)

theorem word1 (i : grid1.Coords) : R1.word a.1 i = lens1 a (Idealize.ShloMosaic.ix1 (bat1 i)) := by
  have h : ∀ x, k1_off1 i x + 1 ≤ (pre1.ref 0).ty.shape.size x := fun x => by
    have := k1_off1_inb i x; fin_cases x; exact this
  refine (dif_pos h).trans ?_
  show lens1 a _ = _
  exact congrArg (lens1 a) (off1 i h)

theorem len1_eq (i : grid1.Coords) : Tabs.len1 a.1 i = lens1 a (Idealize.ShloMosaic.ix1 (bat1 i)) := by
  show lens1 a _ = _
  refine congrArg (lens1 a) ?_
  funext x
  match x with
  | ⟨0, _⟩ =>
    refine Fin.ext ?_
    show (BitVec.ofNat 32 (i 0).val).toNat + 1 * 0 = (i 0).val
    rw [Nat.mul_zero, Nat.add_zero]
    exact WordCmp.toNat_ofNat_of_lt (by have := Tabs.lt0' i; omega)

theorem idx1_0 (t : Fin (cfg1 a).N) : ((cfg1 a).win 0).index t
    = ![(grid1.coords t 0).val, (Cert.Words.clampBlk 256#32 (Tabs.len1 a.1 (grid1.coords t)) (BitVec.ofNat 32 (grid1.coords t 1).val)).toNat, 0] :=
  Tabs.tr1 a.1 (grid1.coords t)

/-- A valid row's tile is read from its own block. -/
theorem x_block (hl : LenOk (lens1 a)) (c : Dev nD) (t : Fin (cfg1 a).N) (r : Fin 256) (d : Fin 4096)
    (h : ((row1 (grid1.coords t) r).val : Int) < (lens1 a (Idealize.ShloMosaic.ix1 (bat1 (grid1.coords t))) : BitVec 32).toInt) :
    R1.iblk a V c 0 t (Idealize.ShloMosaic.ix3 0 r d)
      = (V c main_arg0 : Vec Ideal S8x2048x4096 .bf16) (Idealize.ShloMosaic.ix3 (bat1 (grid1.coords t)) (row1 (grid1.coords t) r) d) := by
  have hb := hl (bat1 (grid1.coords t))
  have T : (256#32 : BitVec 32).toInt = 256 := by decide
  have hj := Tabs.lt1' (grid1.coords t)
  have own : (Cert.Words.clampBlk 256#32 (Tabs.len1 a.1 (grid1.coords t)) (BitVec.ofNat 32 (grid1.coords t 1).val)).toNat = (grid1.coords t 1).val := by
    rw [len1_eq]
    have h' : (((grid1.coords t 1).val * 256 + r.val : ℕ) : Int) < (lens1 a (Idealize.ShloMosaic.ix1 (bat1 (grid1.coords t))) : BitVec 32).toInt := h
    exact Cert.Words.clampBlk_own _ _ (by decide) _ (by omega) (by rw [T]; omega) (by rw [T]; push_cast at h'; omega)
  show (V c main_arg0 : Vec Ideal S8x2048x4096 .bf16) ((((cfg1 a).win 0).blk t).view.emb (Idealize.ShloMosaic.ix3 0 r d)) = _
  refine congrArg _ ?_
  funext x
  match x with
  | ⟨0, _⟩ =>
    refine Fin.ext ?_
    show ((cfg1 a).win 0).index t (0 : Fin 3) * 1 + 1 * 0 = (grid1.coords t 0).val
    rw [idx1_0]
    show (grid1.coords t 0).val * 1 + 1 * 0 = (grid1.coords t 0).val
    rw [Nat.mul_one, Nat.mul_zero, Nat.add_zero]
  | ⟨1, _⟩ =>
    refine Fin.ext ?_
    show ((cfg1 a).win 0).index t (1 : Fin 3) * 256 + 1 * r.val = (grid1.coords t 1).val * 256 + r.val
    rw [idx1_0]
    show (Cert.Words.clampBlk 256#32 (Tabs.len1 a.1 (grid1.coords t)) (BitVec.ofNat 32 (grid1.coords t 1).val)).toNat * 256 + 1 * r.val = (grid1.coords t 1).val * 256 + r.val
    rw [own, Nat.one_mul]
  | ⟨2, _⟩ =>
    refine Fin.ext ?_
    show ((cfg1 a).win 0).index t (2 : Fin 3) * 4096 + 1 * d.val = d.val
    rw [idx1_0]
    show 0 * 4096 + 1 * d.val = d.val
    rw [Nat.zero_mul, Nat.zero_add, Nat.one_mul]

theorem s1_block (c : Dev nD) (t : Fin (cfg1 a).N) (d : Fin 4096) :
    R1.iblk a V c 1 t (ix2 0 d) = (V c main_v1 : Vec Ideal S1x4096 .f32) (ix2 0 d) := by
  have i0 : ((cfg1 a).win 1).index t (0 : Fin 2) = 0 := rfl
  have i1 : ((cfg1 a).win 1).index t (1 : Fin 2) = 0 := rfl
  show (V c main_v1 : Vec Ideal S1x4096 .f32) ((((cfg1 a).win 1).blk t).view.emb (ix2 0 d)) = _
  refine congrArg _ ?_
  funext x
  match x with
  | ⟨0, _⟩ =>
    refine Fin.ext ?_
    show ((cfg1 a).win 1).index t (0 : Fin 2) * 1 + 1 * 0 = 0
    rw [i0]
  | ⟨1, _⟩ =>
    refine Fin.ext ?_
    show ((cfg1 a).win 1).index t (1 : Fin 2) * 4096 + 1 * d.val = d.val
    rw [i1, Nat.zero_mul, Nat.zero_add, Nat.one_mul]

/-- The rows left from the tile's first on, in integers. -/
theorem rem1 (hl : LenOk (lens1 a)) (i : grid1.Coords) :
    (R1.rem i (R1.word a.1 i)).toInt = (lens1 a (Idealize.ShloMosaic.ix1 (bat1 i)) : BitVec 32).toInt - (i 1).val * 256 := by
  rw [word1]
  exact Cert.Words.rem_toInt _ _ 256 (by have := Tabs.lt1' i; omega) (hl (bat1 i)).1

/-- The mask of a row within its tile is the row's mask. -/
theorem rmask1 (hl : LenOk (lens1 a)) (i : grid1.Coords) (r : Fin 256) :
    IntOp.cmpi .slt (BitVec.ofNat 32 r.val) (R1.rem i (R1.word a.1 i))
      = if ((row1 i r).val : Int) < (lens1 a (Idealize.ShloMosaic.ix1 (bat1 i)) : BitVec 32).toInt then 1#1 else 0#1 := by
  rw [Cert.Words.row_if _ (by have := r.isLt; omega), rem1 a hl]
  have e : ((r.val : Int) < (lens1 a (Idealize.ShloMosaic.ix1 (bat1 i)) : BitVec 32).toInt - (i 1).val * 256)
      ↔ ((row1 i r).val : Int) < (lens1 a (Idealize.ShloMosaic.ix1 (bat1 i)) : BitVec 32).toInt := by
    show _ ↔ (((i 1).val * 256 + r.val : ℕ) : Int) < _
    push_cast
    constructor <;> intro h <;> omega
  simp only [e]

theorem gmask1 (len : Vec Ideal S8 .i32) (b : Fin 8) (l : Fin 2048) :
    IntOp.cmpi .slt (BitVec.ofNat 32 l.val) (len (Idealize.ShloMosaic.ix1 b))
      = if (l.val : Int) < (len (Idealize.ShloMosaic.ix1 b) : BitVec 32).toInt then 1#1 else 0#1 :=
  Cert.Words.row_if _ (by have := l.isLt; omega) _

theorem zero_of_cond1 (hl : LenOk (lens1 a)) (i : grid1.Coords) (r : Fin 256) (h : k1_cond1 i (R1.word a.1 i) = 1#1) :
    ¬ ((row1 i r).val : Int) < (lens1 a (Idealize.ShloMosaic.ix1 (bat1 i)) : BitVec 32).toInt := by
  have h' := (R1.cond1_iff _ _).mp h
  have := rem1 a hl i
  show ¬ (((i 1).val * 256 + r.val : ℕ) : Int) < _
  push_cast
  have h'' : (R1.rem i (R1.word a.1 i)).toInt ≤ 0 := h'
  omega

/-- What a point leaves in the scales' buffer, from what the input blocks hold. -/
theorem outS_at (hl : LenOk (lens1 a)) (X : Vec Ideal S8x2048x4096 .bf16) (s : Vec Ideal S1x4096 .f32) (i : grid1.Coords) (r : Fin 256)
    (x0 : Vec Ideal S1x256x4096 .bf16) (x1 : Vec Ideal S1x4096 .f32)
    (hx : ((row1 i r).val : Int) < (lens1 a (Idealize.ShloMosaic.ix1 (bat1 i)) : BitVec 32).toInt →
      ∀ d, x0 (Idealize.ShloMosaic.ix3 0 r d) = X (Idealize.ShloMosaic.ix3 (bat1 i) (row1 i r) d))
    (hs : ∀ d, x1 (ix2 0 d) = s (ix2 0 d)) :
    R1.outS i (R1.word a.1 i) x0 x1 (Idealize.ShloMosaic.ix3 0 r 0) = xsc X (lens1 a) s (bat1 i) (row1 i r) := by
  unfold xsc R1.outS
  rw [gmask1]
  by_cases hv : ((row1 i r).val : Int) < (lens1 a (Idealize.ShloMosaic.ix1 (bat1 i)) : BitVec 32).toInt
  · rw [if_neg (fun h => zero_of_cond1 a hl _ r h hv), if_pos hv, Cert.Words.sel_one, scales1, rmask1 a hl, if_pos hv, Cert.Words.sel_one]
    unfold xs0
    simp only [hx hv, hs]
  · rw [if_neg hv, Cert.Words.sel_zero]
    by_cases h : k1_cond1 i (R1.word a.1 i) = 1#1
    · rw [if_pos h, one1]
    · rw [if_neg h, scales1, rmask1 a hl, if_neg hv, Cert.Words.sel_zero]

/-- What a point leaves in the codes' buffer, from what the input blocks hold. -/
theorem outC_at (hl : LenOk (lens1 a)) (X : Vec Ideal S8x2048x4096 .bf16) (s : Vec Ideal S1x4096 .f32) (i : grid1.Coords) (r : Fin 256) (d : Fin 4096)
    (x0 : Vec Ideal S1x256x4096 .bf16) (x1 : Vec Ideal S1x4096 .f32)
    (hx : ((row1 i r).val : Int) < (lens1 a (Idealize.ShloMosaic.ix1 (bat1 i)) : BitVec 32).toInt →
      ∀ d, x0 (Idealize.ShloMosaic.ix3 0 r d) = X (Idealize.ShloMosaic.ix3 (bat1 i) (row1 i r) d))
    (hs : ∀ d, x1 (ix2 0 d) = s (ix2 0 d)) :
    R1.outC i (R1.word a.1 i) x0 x1 (Idealize.ShloMosaic.ix3 0 r d) = xcd X (lens1 a) s (bat1 i) (row1 i r) d := by
  unfold xcd R1.outC
  rw [gmask1]
  by_cases hv : ((row1 i r).val : Int) < (lens1 a (Idealize.ShloMosaic.ix1 (bat1 i)) : BitVec 32).toInt
  · rw [if_neg (fun h => zero_of_cond1 a hl _ r h hv), if_pos hv, Cert.Words.sel_one, codes1, rmask1 a hl, if_pos hv, Cert.Words.sel_one]
    unfold xs0
    simp only [hx hv, hs]
  · rw [if_neg hv, Cert.Words.sel_zero]
    by_cases h : k1_cond1 i (R1.word a.1 i) = 1#1
    · rw [if_pos h, zero1]
    · rw [if_neg h, codes1, rmask1 a hl, if_neg hv, Cert.Words.sel_zero]
      have z : Ideal.ofBits FTy.f32 0x00000000#32 = 0 := by pointwise
      rw [z, fptosi_zero]

theorem coords1 : ∀ t : Fin grid1.N, (grid1.coords t 0).val = t.val / 8 ∧ (grid1.coords t 1).val = t.val % 8 := by decide +kernel

theorem tr1_2 (i : grid1.Coords) : cc1_transform_2 i = ![(i 0).val, (i 1).val, 0] := by
  have h : cc1_transform_2 i = ![(BitVec.ofNat 32 (i 0).val).toNat, (BitVec.ofNat 32 (i 1).val).toNat, 0] := rfl
  rw [h, WordCmp.toNat_ofNat_of_lt (by have := Tabs.lt0' i; omega), WordCmp.toNat_ofNat_of_lt (by have := Tabs.lt1' i; omega)]
theorem tr1_3 (i : grid1.Coords) : cc1_transform_3 i = ![(i 0).val, (i 1).val, 0] := by
  have h : cc1_transform_3 i = ![(BitVec.ofNat 32 (i 0).val).toNat, (BitVec.ofNat 32 (i 1).val).toNat, 0] := rfl
  rw [h, WordCmp.toNat_ofNat_of_lt (by have := Tabs.lt0' i; omega), WordCmp.toNat_ofNat_of_lt (by have := Tabs.lt1' i; omega)]
theorem idx1_2 (t : Fin (cfg1 a).N) : ((cfg1 a).win 2).index t = ![(grid1.coords t 0).val, (grid1.coords t 1).val, 0] := tr1_2 (grid1.coords t)
theorem idx1_3 (t : Fin (cfg1 a).N) : ((cfg1 a).win 3).index t = ![(grid1.coords t 0).val, (grid1.coords t 1).val, 0] := tr1_3 (grid1.coords t)

theorem flush1_2 (t : Fin (cfg1 a).N) : ((cfg1 a).win 2).flush t = true := by
  rw [Pipeline.Window.flush_eq_flushF]
  show (true && (decide (t.val + 1 = 64) || decide _)) = true
  rw [Bool.true_and, Bool.or_eq_true]
  by_cases h : t.val + 1 < 64
  · refine .inr (decide_eq_true ⟨h, ?_⟩)
    have e := coords1 t
    have e' := coords1 ⟨t.val + 1, h⟩
    by_cases h0 : (t.val + 1) / 8 = t.val / 8
    · refine ⟨(1 : Fin 3), ?_⟩
      rw [idx1_2, idx1_2]
      show (grid1.coords ⟨t.val + 1, h⟩ 1).val ≠ (grid1.coords t 1).val
      rw [e.2, e'.2]
      show (t.val + 1) % 8 ≠ t.val % 8
      omega
    · refine ⟨(0 : Fin 3), ?_⟩
      rw [idx1_2, idx1_2]
      show (grid1.coords ⟨t.val + 1, h⟩ 0).val ≠ (grid1.coords t 0).val
      rw [e.1, e'.1]
      exact h0
  · refine .inl (decide_eq_true ?_)
    have : t.val < 64 := t.isLt
    omega
theorem flush1_3 (t : Fin (cfg1 a).N) : ((cfg1 a).win 3).flush t = true := by
  rw [Pipeline.Window.flush_eq_flushF]
  show (true && (decide (t.val + 1 = 64) || decide _)) = true
  rw [Bool.true_and, Bool.or_eq_true]
  by_cases h : t.val + 1 < 64
  · refine .inr (decide_eq_true ⟨h, ?_⟩)
    have e := coords1 t
    have e' := coords1 ⟨t.val + 1, h⟩
    by_cases h0 : (t.val + 1) / 8 = t.val / 8
    · refine ⟨(1 : Fin 3), ?_⟩
      rw [idx1_3, idx1_3]
      show (grid1.coords ⟨t.val + 1, h⟩ 1).val ≠ (grid1.coords t 1).val
      rw [e.2, e'.2]
      show (t.val + 1) % 8 ≠ t.val % 8
      omega
    · refine ⟨(0 : Fin 3), ?_⟩
      rw [idx1_3, idx1_3]
      show (grid1.coords ⟨t.val + 1, h⟩ 0).val ≠ (grid1.coords t 0).val
      rw [e.1, e'.1]
      exact h0
  · refine .inl (decide_eq_true ?_)
    have : t.val < 64 := t.isLt
    omega

theorem emb1_2 (t : Fin (cfg1 a).N) (r : Fin 256) (d : Fin 4096) : (((cfg1 a).win 2).blk t).view.emb (Idealize.ShloMosaic.ix3 (0 : Fin 1) r d)
    = (Idealize.ShloMosaic.ix3 (bat1 (grid1.coords t)) (row1 (grid1.coords t) r) d : S8x2048x4096.Idx) := by
  funext x
  match x with
  | ⟨0, _⟩ =>
    refine Fin.ext ?_
    show ((cfg1 a).win 2).index t (0 : Fin 3) * 1 + 1 * 0 = (grid1.coords t 0).val
    rw [idx1_2]
    show (grid1.coords t 0).val * 1 + 1 * 0 = (grid1.coords t 0).val
    rw [Nat.mul_one, Nat.mul_zero, Nat.add_zero]
  | ⟨1, _⟩ =>
    refine Fin.ext ?_
    show ((cfg1 a).win 2).index t (1 : Fin 3) * 256 + 1 * r.val = (grid1.coords t 1).val * 256 + r.val
    rw [idx1_2, Nat.one_mul]
    rfl
  | ⟨2, _⟩ =>
    refine Fin.ext ?_
    show ((cfg1 a).win 2).index t (2 : Fin 3) * 4096 + 1 * d.val = d.val
    rw [idx1_2]
    show 0 * 4096 + 1 * d.val = d.val
    rw [Nat.zero_mul, Nat.zero_add, Nat.one_mul]

theorem emb1_3 (t : Fin (cfg1 a).N) (r : Fin 256) : (((cfg1 a).win 3).blk t).view.emb (Idealize.ShloMosaic.ix3 (0 : Fin 1) r (0 : Fin 1))
    = (Idealize.ShloMosaic.ix3 (bat1 (grid1.coords t)) (row1 (grid1.coords t) r) (0 : Fin 1) : S8x2048x1.Idx) := by
  funext x
  match x with
  | ⟨0, _⟩ =>
    refine Fin.ext ?_
    show ((cfg1 a).win 3).index t (0 : Fin 3) * 1 + 1 * 0 = (grid1.coords t 0).val
    rw [idx1_3]
    show (grid1.coords t 0).val * 1 + 1 * 0 = (grid1.coords t 0).val
    rw [Nat.mul_one, Nat.mul_zero, Nat.add_zero]
  | ⟨1, _⟩ =>
    refine Fin.ext ?_
    show ((cfg1 a).win 3).index t (1 : Fin 3) * 256 + 1 * r.val = (grid1.coords t 1).val * 256 + r.val
    rw [idx1_3, Nat.one_mul]
    rfl
  | ⟨2, _⟩ => exact Subsingleton.elim (α := Fin 1) _ _

/-- The point that writes a row of the arrays. -/
theorem point1 (b : Fin 8) (l : Fin 2048) : ∃ (t : Fin grid1.N) (r : Fin 256), bat1 (grid1.coords t) = b ∧ row1 (grid1.coords t) r = l := by
  have hb := b.isLt
  have hl := l.isLt
  refine ⟨⟨b.val * 8 + l.val / 256, by show b.val * 8 + l.val / 256 < 64; omega⟩, ⟨l.val % 256, by omega⟩, Fin.ext ?_, Fin.ext ?_⟩
  · show (grid1.coords _ 0).val = b.val
    rw [(coords1 _).1]
    show (b.val * 8 + l.val / 256) / 8 = b.val
    omega
  · show (grid1.coords _ 1).val * 256 + l.val % 256 = l.val
    rw [(coords1 _).2]
    show (b.val * 8 + l.val / 256) % 8 * 256 + l.val % 256 = l.val
    omega

theorem block1_2 (y : S1x256x4096.Idx) : ∃ (r : Fin 256) (d : Fin 4096), y = Idealize.ShloMosaic.ix3 (0 : Fin 1) r d := ⟨y 1, y 2, by
  refine (eta3 y).trans ?_
  exact congrArg (fun p : Fin 1 => (Idealize.ShloMosaic.ix3 p (y 1) (y 2) : S1x256x4096.Idx)) (Subsingleton.elim (α := Fin 1) _ _)⟩
theorem block1_3 (y : S1x256x1.Idx) : ∃ (r : Fin 256), y = Idealize.ShloMosaic.ix3 (0 : Fin 1) r (0 : Fin 1) := ⟨y 1, by
  refine (eta3 y).trans ?_
  exact congrArg₂ (fun p q : Fin 1 => (Idealize.ShloMosaic.ix3 p (y 1) q : S1x256x1.Idx)) (Subsingleton.elim (α := Fin 1) _ _) (Subsingleton.elim (α := Fin 1) _ _)⟩

theorem cover1_2 (i : S8x2048x4096.Idx) : ∃ t : Fin (cfg1 a).N, ((cfg1 a).win 2).flush t = true ∧ i ∈ (((cfg1 a).win 2).blk t).view.set := by
  obtain ⟨t, r, h0, h1⟩ := point1 (i 0) (i 1)
  refine ⟨t, flush1_2 a t, ?_⟩
  have e : i = (((cfg1 a).win 2).blk t).view.emb (Idealize.ShloMosaic.ix3 (0 : Fin 1) r (i 2)) := by
    refine Eq.trans ?_ (emb1_2 a t r (i 2)).symm
    rw [h0, h1]
    exact eta3 i
  rw [e]
  exact View.emb_mem_set _ _
theorem cover1_3 (i : S8x2048x1.Idx) : ∃ t : Fin (cfg1 a).N, ((cfg1 a).win 3).flush t = true ∧ i ∈ (((cfg1 a).win 3).blk t).view.set := by
  obtain ⟨t, r, h0, h1⟩ := point1 (i 0) (i 1)
  refine ⟨t, flush1_3 a t, ?_⟩
  have e : i = (((cfg1 a).win 3).blk t).view.emb (Idealize.ShloMosaic.ix3 (0 : Fin 1) r (0 : Fin 1)) := by
    refine Eq.trans ?_ (emb1_3 a t r).symm
    rw [h0, h1]
    refine (eta3 i).trans ?_
    exact congrArg (fun q : Fin 1 => (Idealize.ShloMosaic.ix3 (i 0) (i 1) q : S8x2048x1.Idx)) (Subsingleton.elim (α := Fin 1) _ _)
  rw [e]
  exact View.emb_mem_set _ _

/-- What the region leaves in the codes' array. -/
theorem codes1_arr (hl : LenOk (lens1 a)) (c : Dev nD) : (R1.dat a V c).arrAt 2 (cfg1 a).N
    = fun i : S8x2048x4096.Idx => xcd (V c main_arg0) (lens1 a) (V c main_v1) (i 0) (i 1) (i 2) := by
  refine Dat.arrAt_eq_of_emb _ 2 _ (fun t hf y => ?_) (cover1_2 a)
  blk_simp
  rw [R1.after_2]
  obtain ⟨r, d, rfl⟩ := block1_2 y
  refine (outC_at a hl (V c main_arg0) (V c main_v1) (grid1.coords t) r d _ _ (fun hv d => x_block a V hl c t r d hv) (fun d => s1_block a V c t d)).trans ?_
  exact (congrArg (fun i : S8x2048x4096.Idx => xcd (V c main_arg0) (lens1 a) (V c main_v1) (i 0) (i 1) (i 2)) (emb1_2 a t r d)).symm

/-- What the region leaves in the scales' array. -/
theorem scales1_arr (hl : LenOk (lens1 a)) (c : Dev nD) : (R1.dat a V c).arrAt 3 (cfg1 a).N
    = fun i : S8x2048x1.Idx => xsc (V c main_arg0) (lens1 a) (V c main_v1) (i 0) (i 1) := by
  refine Dat.arrAt_eq_of_emb _ 3 _ (fun t hf y => ?_) (cover1_3 a)
  blk_simp
  rw [R1.after_3]
  obtain ⟨r, rfl⟩ := block1_3 y
  refine (outS_at a hl (V c main_arg0) (V c main_v1) (grid1.coords t) r _ _ (fun hv d => x_block a V hl c t r d hv) (fun d => s1_block a V c t d)).trans ?_
  exact (congrArg (fun i : S8x2048x1.Idx => xsc (V c main_arg0) (lens1 a) (V c main_v1) (i 0) (i 1)) (emb1_3 a t r)).symm

end Cert.KernelIdeal.Val

end
-- ==== Proof.Val.VR2.lean ====
/-
  Region 2 (`quant_w`): the codes and scales of the weights that the region leaves.
-/
module

public import proofs.«01_k».proof.Proof.KI.R2
public import proofs.«01_k».proof.Proof.Val.KPay

@[expose] public section

set_option maxRecDepth 16384

noncomputable section

namespace Cert.KernelIdeal.Val

open Idealize.ShloMosaic Idealize.ShloMosaic.TcCoe Cert.KernelIdeal Cert.KernelIdeal.Gen Cert.Val
open Idealize.ShloMosaic.Pipeline (Dat Window)

variable (V : Dev nD → Valuation τ sig (Elt Ideal))

/-- The scale of a column of smoothed weights. -/
def wsc (w : Vec Ideal S4096x14336 .bf16) (s : Vec Ideal S4096x1 .f32) (n : Fin 14336) : EReal :=
  sc (mx fun k : Fin 4096 => ab (w (ix2 k n) * s (ix2 k 0)))

/-- The code of a smoothed weight. -/
def wcd (w : Vec Ideal S4096x14336 .bf16) (s : Vec Ideal S4096x1 .f32) (d : Fin 4096) (n : Fin 14336) : BitVec 8 :=
  Ideal.fptosi 8 (cd (w (ix2 d n) * s (ix2 d 0)) (wsc w s n))

/-- The column `l` of block `t`. -/
def col2 (t : Fin cfg2.N) (l : Fin 256) : Fin 14336 := ⟨t.val * 256 + l.val, by have : t.val < 56 := t.isLt; omega⟩

theorem idx2_0 : ∀ t : Fin grid2.N, win2_0.index t 0 = 0 ∧ win2_0.index t 1 = t.val := by decide +kernel
theorem idx2_1 : ∀ t : Fin grid2.N, win2_1.index t 0 = 0 ∧ win2_1.index t 1 = 0 := by decide +kernel
theorem idx2_2 : ∀ t : Fin grid2.N, win2_2.index t 0 = 0 ∧ win2_2.index t 1 = t.val := by decide +kernel
theorem idx2_3 : ∀ t : Fin grid2.N, win2_3.index t 0 = 0 ∧ win2_3.index t 1 = t.val := by decide +kernel

theorem w_block (c : Dev nD) (t : Fin cfg2.N) (k : Fin 4096) (l : Fin 256) :
    R2.iblk V c 0 t (ix2 k l) = (V c main_arg2 : Vec Ideal S4096x14336 .bf16) (ix2 k (col2 t l)) := by
  show (V c main_arg2 : Vec Ideal S4096x14336 .bf16) ((win2_0.blk t).view.emb (ix2 k l)) = _
  refine congrArg _ ?_
  funext a
  match a with
  | ⟨0, _⟩ =>
    refine Fin.ext ?_
    show win2_0.index t 0 * 4096 + 1 * k.val = k.val
    rw [(idx2_0 t).1, Nat.zero_mul, Nat.zero_add, Nat.one_mul]
  | ⟨1, _⟩ =>
    refine Fin.ext ?_
    show win2_0.index t 1 * 256 + 1 * l.val = t.val * 256 + l.val
    rw [(idx2_0 t).2, Nat.one_mul]

theorem s_block (c : Dev nD) (t : Fin cfg2.N) (k : Fin 4096) :
    R2.iblk V c 1 t (ix2 k 0) = (V c main_v3 : Vec Ideal S4096x1 .f32) (ix2 k 0) := by
  show (V c main_v3 : Vec Ideal S4096x1 .f32) ((win2_1.blk t).view.emb (ix2 k 0)) = _
  refine congrArg _ ?_
  funext a
  match a with
  | ⟨0, _⟩ =>
    refine Fin.ext ?_
    show win2_1.index t 0 * 4096 + 1 * k.val = k.val
    rw [(idx2_1 t).1, Nat.zero_mul, Nat.zero_add, Nat.one_mul]
  | ⟨1, _⟩ =>
    refine Fin.ext ?_
    show win2_1.index t 1 * 1 + 1 * 0 = 0
    rw [(idx2_1 t).2]

/-- What the region leaves in the scales' array. -/
theorem scales2 (c : Dev nD) : (R2.dat V c).arrAt 3 cfg2.N = fun i : S1x14336.Idx => wsc (V c main_arg2) (V c main_v3) (i 1) := by
  refine Dat.arrAt_eq_of_covers _ 3 _ (by decide +kernel) fun t hf y => ?_
  blk_simp
  rw [R2.after_3]
  obtain ⟨l, rfl⟩ : ∃ l : Fin 256, y = ix2 (0 : Fin 1) l := ⟨y 1, by
    funext a
    match a with
    | ⟨0, _⟩ => exact Subsingleton.elim (α := Fin 1) _ _
    | ⟨1, _⟩ => rfl⟩
  refine (scale2 _ _ l).trans ?_
  have e : (win2_3.blk t).view.emb (ix2 (0 : Fin 1) l) 1 = col2 t l := by
    refine Fin.ext ?_
    show win2_3.index t 1 * 256 + 1 * l.val = t.val * 256 + l.val
    rw [(idx2_3 t).2, Nat.one_mul]
  refine Eq.trans ?_ (congrArg (wsc (V c main_arg2) (V c main_v3)) e.symm)
  unfold wsc
  refine congrArg (fun f => sc (mx f)) (funext fun k => ?_)
  rw [w_block, s_block]

/-- What the region leaves in the codes' array. -/
theorem codes2_arr (c : Dev nD) : (R2.dat V c).arrAt 2 cfg2.N = fun i : S4096x14336.Idx => wcd (V c main_arg2) (V c main_v3) (i 0) (i 1) := by
  refine Dat.arrAt_eq_of_covers _ 2 _ (by decide +kernel) fun t hf y => ?_
  blk_simp
  rw [R2.after_2]
  obtain ⟨d, l, rfl⟩ : ∃ (d : Fin 4096) (l : Fin 256), y = ix2 d l := ⟨y 0, y 1, by
    funext a
    match a with
    | ⟨0, _⟩ => rfl
    | ⟨1, _⟩ => rfl⟩
  refine (codes2 _ _ d l).trans ?_
  have e : (win2_2.blk t).view.emb (ix2 d l) = ix2 d (col2 t l) := by
    funext a
    match a with
    | ⟨0, _⟩ =>
      refine Fin.ext ?_
      show win2_2.index t 0 * 4096 + 1 * d.val = d.val
      rw [(idx2_2 t).1, Nat.zero_mul, Nat.zero_add, Nat.one_mul]
    | ⟨1, _⟩ =>
      refine Fin.ext ?_
      show win2_2.index t 1 * 256 + 1 * l.val = t.val * 256 + l.val
      rw [(idx2_2 t).2, Nat.one_mul]
  rw [e]
  show _ = wcd (V c main_arg2) (V c main_v3) d (col2 t l)
  unfold wcd wsc
  simp only [w_block, s_block]

end Cert.KernelIdeal.Val

end
-- ==== Proof.Val.Asm.lean ====
/-
  The program's buffers between its items, as functions of the arguments: factors, codes and scales.
-/
module

public import proofs.«01_k».proof.Proof.KI.Run
public import proofs.«01_k».proof.Proof.Val.RefV
public import proofs.«01_k».proof.Proof.Val.VR0
public import proofs.«01_k».proof.Proof.Val.VR1
public import proofs.«01_k».proof.Proof.Val.VR2
public import Idealize.ShloMosaic.Lib.StableHlo.RunRead

@[expose] public section

set_option maxRecDepth 16384

noncomputable section

namespace Cert.KernelIdeal.Asm

open Idealize.ShloMosaic Idealize.ShloMosaic.TcCoe Cert.KernelIdeal Cert.KernelIdeal.Gen Cert.KernelIdeal.Run Cert.Val
open Cert.ReferenceIdeal.Val (fS fWs fWc fXs fXc fY)

variable (m : (ℓ : Loc nD τ sig) → Buf (Elt Ideal) ℓ)

/-- The arguments. -/
def ax : Vec Ideal S8x2048x4096 .bf16 := V0 m c₀ main_arg0
def alen : Vec Ideal S8 .i32 := V0 m c₀ main_arg1
def aw : Vec Ideal S4096x14336 .bf16 := V0 m c₀ main_arg2
def awm : Vec Ideal S4096 .f32 := V0 m c₀ main_arg3
/-- The smoothing factors. -/
def S (d : Fin 4096) : EReal := fS (ax m) (alen m) (awm m) d

/-! ## Reshapes at an index -/

theorem row_of (x : Vec Ideal S4096 .f32) (d : Fin 4096) : shapeCast S1x4096 x shapeCasts_S4096_S1x4096 (ix2 (0 : Fin 1) d) = x (Idealize.ShloMosaic.ix1 d) := by
  pointwise
theorem col_of (x : Vec Ideal S1x4096 .f32) (d : Fin 4096) : shapeCast S4096x1 x shapeCasts_S1x4096_S4096x1 (ix2 d (0 : Fin 1)) = x (ix2 (0 : Fin 1) d) := by
  pointwise

/-! ## Region 0 -/

theorem V1_arg0 : V1 m c₀ main_arg0 = V0 m c₀ main_arg0 := V1_of m c₀ main_arg0 (by decide)
theorem V1_arg1 : V1 m c₀ main_arg1 = V0 m c₀ main_arg1 := V1_of m c₀ main_arg1 (by decide)
theorem V1_arg2 : V1 m c₀ main_arg2 = V0 m c₀ main_arg2 := V1_of m c₀ main_arg2 (by decide)
theorem V1_v0 : (V1 m c₀ main_v0 : Vec Ideal S1x4096 .f32) = shapeCast S1x4096 (V0 m c₀ main_arg3 : Vec Ideal S4096 .f32) shapeCasts_S4096_S1x4096 := by rfl

theorem lens0_eq : Val0.lens0 (a0 m) = alen m := V1_arg1 m

theorem X2_v1 (hl : Val.LenOk (alen m)) : X2 m c₀ main_v1 = fun i : S1x4096.Idx => S m (i 1) := by
  have h := Val0.smooth_arr (a0 m) (V1 m) (by rw [lens0_eq]; exact hl) c₀ (fun d => Cert.ReferenceIdeal.Val.amax (ax m) (alen m) (Idealize.ShloMosaic.ix1 d)) (fun d z => by
    rw [lens0_eq, V1_arg0]
    exact Cert.ReferenceIdeal.Val.amax_le (ax m) (alen m) d z)
  refine (Pipeline.afterRegion_arr (R0.dat (a0 m) (V1 m) c₀) (V1 m c₀) (launch0 (F := Ideal)).win.arr_inj 2).trans (h.trans ?_)
  rw [V1_v0]
  funext i
  refine congrArg (fun z : EReal => sm (Cert.ReferenceIdeal.Val.amax (ax m) (alen m) (Idealize.ShloMosaic.ix1 (i 1))) z) ?_
  exact row_of (awm m) (i 1)

/-! ## Region 1 -/

theorem X2_arg0 : X2 m c₀ main_arg0 = V0 m c₀ main_arg0 := (X2_keeps m c₀ main_arg0 (by decide)).trans (V1_arg0 m)
theorem X2_arg1 : X2 m c₀ main_arg1 = V0 m c₀ main_arg1 := (X2_keeps m c₀ main_arg1 (by decide)).trans (V1_arg1 m)
theorem X2_arg2 : X2 m c₀ main_arg2 = V0 m c₀ main_arg2 := (X2_keeps m c₀ main_arg2 (by decide)).trans (V1_arg2 m)

theorem lens1_eq : Val.lens1 (a1 m) = alen m := X2_arg1 m

theorem xsc_eq (x : Vec Ideal S8x2048x4096 .bf16) (len : Vec Ideal S8 .i32) (T : Fin 4096 → EReal) (s : Vec Ideal S1x4096 .f32)
    (hs : s = fun i : S1x4096.Idx => T (i 1)) (b : Fin 8) (l : Fin 2048) : Val.xsc x len s b l = fXs x len T b l := by
  subst hs; rfl
theorem xcd_eq (x : Vec Ideal S8x2048x4096 .bf16) (len : Vec Ideal S8 .i32) (T : Fin 4096 → EReal) (s : Vec Ideal S1x4096 .f32)
    (hs : s = fun i : S1x4096.Idx => T (i 1)) (b : Fin 8) (l : Fin 2048) (d : Fin 4096) : Val.xcd x len s b l d = fXc x len T b l d := by
  subst hs; rfl

theorem X3_v2_0 (hl : Val.LenOk (alen m)) : X3 m c₀ main_v2_0 = fun i : S8x2048x4096.Idx => fXc (ax m) (alen m) (S m) (i 0) (i 1) (i 2) := by
  have h := Val.codes1_arr (a1 m) (X2 m) (by rw [lens1_eq]; exact hl) c₀
  refine (Pipeline.afterRegion_arr (R1.dat (a1 m) (X2 m) c₀) (X2 m c₀) (launch1 (F := Ideal)).win.arr_inj 2).trans (h.trans ?_)
  rw [lens1_eq, X2_arg0]
  funext i
  exact xcd_eq (ax m) (alen m) (S m) _ (X2_v1 m hl) (i 0) (i 1) (i 2)

theorem X3_v2_1 (hl : Val.LenOk (alen m)) : X3 m c₀ main_v2_1 = fun i : S8x2048x1.Idx => fXs (ax m) (alen m) (S m) (i 0) (i 1) := by
  have h := Val.scales1_arr (a1 m) (X2 m) (by rw [lens1_eq]; exact hl) c₀
  refine (Pipeline.afterRegion_arr (R1.dat (a1 m) (X2 m) c₀) (X2 m c₀) (launch1 (F := Ideal)).win.arr_inj 3).trans (h.trans ?_)
  rw [lens1_eq, X2_arg0]
  funext i
  exact xsc_eq (ax m) (alen m) (S m) _ (X2_v1 m hl) (i 0) (i 1)

/-! ## Region 2 -/

theorem X4_keeps (r : Ref sig .tc) (h : r ∉ hostOps2_W) : X4 m c₀ r = X3 m c₀ r := StableHlo.after_of_writes_sub hostOps2 _ hostOps2_writes h

theorem X3_v1 : X3 m c₀ main_v1 = X2 m c₀ main_v1 := X3_keeps m c₀ main_v1 (by decide) (by decide)
theorem X3_arg1 : X3 m c₀ main_arg1 = V0 m c₀ main_arg1 := (X3_keeps m c₀ main_arg1 (by decide) (by decide)).trans (X2_arg1 m)
theorem X3_arg2 : X3 m c₀ main_arg2 = V0 m c₀ main_arg2 := (X3_keeps m c₀ main_arg2 (by decide) (by decide)).trans (X2_arg2 m)
theorem X4_arg2 : X4 m c₀ main_arg2 = V0 m c₀ main_arg2 := (X4_keeps m main_arg2 (by decide)).trans (X3_arg2 m)
theorem X4_v3 : (X4 m c₀ main_v3 : Vec Ideal S4096x1 .f32) = shapeCast S4096x1 (X3 m c₀ main_v1 : Vec Ideal S1x4096 .f32) shapeCasts_S1x4096_S4096x1 := by rfl

theorem X4_v3_at (hl : Val.LenOk (alen m)) (d : Fin 4096) : (X4 m c₀ main_v3 : Vec Ideal S4096x1 .f32) (ix2 d (0 : Fin 1)) = S m d := by
  rw [X4_v3, col_of, X3_v1, X2_v1 m hl]; rfl

theorem wsc_eq (w : Vec Ideal S4096x14336 .bf16) (T : Fin 4096 → EReal) (s : Vec Ideal S4096x1 .f32) (hs : ∀ d, s (ix2 d (0 : Fin 1)) = T d)
    (n : Fin 14336) : Val.wsc w s n = fWs w T n := by
  refine congrArg (fun f => sc (mx f)) (funext fun k => ?_)
  exact congrArg (fun z : EReal => ab (w (ix2 k n) * z)) (hs k)
theorem wcd_eq (w : Vec Ideal S4096x14336 .bf16) (T : Fin 4096 → EReal) (s : Vec Ideal S4096x1 .f32) (hs : ∀ d, s (ix2 d (0 : Fin 1)) = T d)
    (d : Fin 4096) (n : Fin 14336) : Val.wcd w s d n = fWc w T d n := by
  unfold Val.wcd fWc
  rw [wsc_eq w T s hs n]
  exact congrArg (fun z : EReal => Ideal.fptosi 8 (cd (w (ix2 d n) * z) (fWs w T n))) (hs d)

theorem X5_v4_0 (hl : Val.LenOk (alen m)) : X5 m c₀ main_v4_0 = fun i : S4096x14336.Idx => fWc (aw m) (S m) (i 0) (i 1) := by
  refine (Pipeline.afterRegion_arr (R2.dat (X4 m) c₀) (X4 m c₀) (launch2 (F := Ideal)).win.arr_inj 2).trans ((Val.codes2_arr (X4 m) c₀).trans ?_)
  rw [X4_arg2]
  funext i
  exact wcd_eq (aw m) (S m) _ (X4_v3_at m hl) (i 0) (i 1)

theorem X5_v4_1 (hl : Val.LenOk (alen m)) : X5 m c₀ main_v4_1 = fun i : S1x14336.Idx => fWs (aw m) (S m) (i 1) := by
  refine (Pipeline.afterRegion_arr (R2.dat (X4 m) c₀) (X4 m c₀) (launch2 (F := Ideal)).win.arr_inj 3).trans ((Val.scales2 (X4 m) c₀).trans ?_)
  rw [X4_arg2]
  funext i
  exact wsc_eq (aw m) (S m) _ (X4_v3_at m hl) (i 1)

end Cert.KernelIdeal.Asm
-- ==== Proof.Val.VR3.lean ====
/-
  Region 3 (`matmul`): the product's array that the region leaves, from what the tile tables hold.
-/
module

public import proofs.«01_k».proof.Proof.KI.R3
public import proofs.«01_k».proof.Proof.KI.Tabs
public import proofs.«01_k».proof.Proof.Val.KPay
public import proofs.«01_k».proof.Proof.Val.Len
public import Idealize.ShloMosaic.Lib.Pipeline.TableIdle

@[expose] public section

set_option maxRecDepth 16384

noncomputable section

namespace Cert.KernelIdeal.Val3

open Idealize.ShloMosaic Idealize.ShloMosaic.TcCoe Cert.KernelIdeal Cert.KernelIdeal.Gen Cert.Val Cert.KernelIdeal.Val
open Idealize.ShloMosaic.Pipeline (Dat Window)

/-- The product's entry: the codes' inner product, scaled by the row's and the column's scale. -/
def yv {n : ℕ} (x : Fin 4096 → BitVec 8) (w : Vec Ideal S4096x14336 .i8) (s : EReal) (t : Vec Ideal S1x14336 .f32) (l : Fin n) (hn : n = 14336) : EReal :=
  (∑ k : Fin 4096, FloatOps.sitofp (F := Ideal) FTy.bf16 (x k) * FloatOps.sitofp (F := Ideal) FTy.bf16 (w (ix2 k (l.cast hn))))
    * s * t (ix2 0 (l.cast hn))

theorem sitofp_zero : FloatOps.sitofp (F := Ideal) FTy.bf16 (0#8 : BitVec 8) = 0 := by
  show (((0#8 : BitVec 8).toInt : ℝ) : EReal) = 0
  simp

/-- A row of zero codes gives zero. -/
theorem yv_zero (w : Vec Ideal S4096x14336 .i8) (s : EReal) (t : Vec Ideal S1x14336 .f32) (l : Fin 14336) (x : Fin 4096 → BitVec 8)
    (h : ∀ k, x k = 0#8) : yv x w s t l rfl = 0 := by
  unfold yv
  have e : (∑ k : Fin 4096, FloatOps.sitofp (F := Ideal) FTy.bf16 (x k) * FloatOps.sitofp (F := Ideal) FTy.bf16 (w (ix2 k (l.cast rfl)))) = 0 := by
    refine Finset.sum_eq_zero fun k _ => ?_
    rw [h k, sitofp_zero]
    exact zero_mul (M₀ := EReal) _
  rw [e]
  rw [zero_mul (M₀ := EReal), zero_mul (M₀ := EReal)]

variable (a : (pcfg3 (F := Ideal)).Adm) (V : Dev nD → Valuation τ sig (Elt Ideal))

abbrev order (t : Fin 32) : BitVec 32 := (a.1 0 : Vec Ideal S32 .i32) (Idealize.ShloMosaic.ix1 t)
abbrev nval : BitVec 32 := R3.word a.1
abbrev rows (t : Fin 32) : BitVec 32 := (a.1 2 : Vec Ideal S32 .i32) (Idealize.ShloMosaic.ix1 t)

def col (i : grid3.Coords) : Fin 14 := ⟨(i 0).val, (i 0).isLt⟩
def tl (i : grid3.Coords) : Fin 32 := ⟨(i 1).val, (i 1).isLt⟩
/-- Row `r` of tile `q`, column `l` of column block `j`. -/
def rw3 (q : Fin 32) (r : Fin 512) : Fin 16384 := ⟨q.val * 512 + r.val, by omega⟩
def cl3 (j : Fin 14) (l : Fin 1024) : Fin 14336 := ⟨j.val * 1024 + l.val, by omega⟩

theorem coords3 (t : Fin grid3.N) : (grid3.coords t 0).val = t.val / 32 ∧ (grid3.coords t 1).val = t.val % 32 := by
  have ht : t.val < 448 := Nat.lt_of_lt_of_eq t.isLt N_3
  have e0 : (grid3.coords t 0).val = t.val / 32 % 14 := Pipeline.Grid.coords_val t 0 (by decide) rfl
  have e1 : (grid3.coords t 1).val = t.val / 1 % 32 := Pipeline.Grid.coords_val t 1 (by decide) rfl
  exact ⟨by rw [e0]; omega, by rw [e1, Nat.div_one]⟩

theorem offx (i : grid3.Coords) (x : S32.Idx) (h : (x 0).val = (BitVec.ofNat 32 (i 1).val).toNat + 1 * 0) : x = Idealize.ShloMosaic.ix1 (tl i) := by
  funext b
  match b with
  | ⟨0, _⟩ =>
    refine Fin.ext ?_
    show (x 0).val = (i 1).val
    rw [h, Nat.mul_zero, Nat.add_zero]
    exact WordCmp.toNat_ofNat_of_lt (by have : (i 1).val < 32 := (i 1).isLt; omega)

theorem idx3_0 (t : Fin (cfg3 a).N) : ((cfg3 a).win 0).index t = ![(rows a (tl (grid3.coords t))).toNat, 0] := by
  have e : ∃ x : S32.Idx, cc3_transform_0 k3_off1_inb numel1_S1 a.1 (grid3.coords t) = ![(a.1 2 x : BitVec 32).toNat, 0] ∧ x = Idealize.ShloMosaic.ix1 (tl (grid3.coords t)) :=
    ⟨_, rfl, offx _ _ rfl⟩
  obtain ⟨x, e, rfl⟩ := e
  exact e
theorem idx3_2 (t : Fin (cfg3 a).N) : ((cfg3 a).win 2).index t = ![(rows a (tl (grid3.coords t))).toNat, 0] := by
  have e : ∃ x : S32.Idx, cc3_transform_2 k3_off1_inb numel1_S1 a.1 (grid3.coords t) = ![(a.1 2 x : BitVec 32).toNat, 0] ∧ x = Idealize.ShloMosaic.ix1 (tl (grid3.coords t)) :=
    ⟨_, rfl, offx _ _ rfl⟩
  obtain ⟨x, e, rfl⟩ := e
  exact e
theorem idx3_4 (t : Fin (cfg3 a).N) : ((cfg3 a).win 4).index t = ![(order a (tl (grid3.coords t))).toNat, (grid3.coords t 0).val] := by
  have e : ∃ x : S32.Idx, cc3_transform_4 k3_off1_inb numel1_S1 a.1 (grid3.coords t) = ![(a.1 0 x : BitVec 32).toNat, (BitVec.ofNat 32 (grid3.coords t 0).val).toNat] ∧ x = Idealize.ShloMosaic.ix1 (tl (grid3.coords t)) :=
    ⟨_, rfl, offx _ _ rfl⟩
  obtain ⟨x, e, rfl⟩ := e
  have h : (BitVec.ofNat 32 (grid3.coords t 0).val).toNat = (grid3.coords t 0).val :=
    WordCmp.toNat_ofNat_of_lt (by have : (grid3.coords t 0).val < 14 := (grid3.coords t 0).isLt; omega)
  rw [h] at e
  exact e
theorem idx3_1 (t : Fin (cfg3 a).N) : ((cfg3 a).win 1).index t = ![0, (grid3.coords t 0).val] := by
  have e : ((cfg3 a).win 1).index t = ![0, (BitVec.ofNat 32 (grid3.coords t 0).val).toNat] := rfl
  have h : (BitVec.ofNat 32 (grid3.coords t 0).val).toNat = (grid3.coords t 0).val :=
    WordCmp.toNat_ofNat_of_lt (by have : (grid3.coords t 0).val < 14 := (grid3.coords t 0).isLt; omega)
  rw [h] at e
  exact e
theorem idx3_3 (t : Fin (cfg3 a).N) : ((cfg3 a).win 3).index t = ![0, (grid3.coords t 0).val] := by
  have e : ((cfg3 a).win 3).index t = ![0, (BitVec.ofNat 32 (grid3.coords t 0).val).toNat] := rfl
  have h : (BitVec.ofNat 32 (grid3.coords t 0).val).toNat = (grid3.coords t 0).val :=
    WordCmp.toNat_ofNat_of_lt (by have : (grid3.coords t 0).val < 14 := (grid3.coords t 0).isLt; omega)
  rw [h] at e
  exact e

/-! ## What the input blocks hold -/

theorem blk0 (c : Dev nD) (t : Fin (cfg3 a).N) (q : Fin 32) (hq : (rows a (tl (grid3.coords t))).toNat = q.val) (r : Fin 512) (k : Fin 4096) :
    R3.iblk a V c 0 t (ix2 r k) = (V c main_v30 : Vec Ideal S16384x4096 .i8) (ix2 (rw3 q r) k) := by
  show (V c main_v30 : Vec Ideal S16384x4096 .i8) ((((cfg3 a).win 0).blk t).view.emb (ix2 r k)) = _
  refine congrArg _ ?_
  funext x
  match x with
  | ⟨0, _⟩ =>
    refine Fin.ext ?_
    show ((cfg3 a).win 0).index t (0 : Fin 2) * 512 + 1 * r.val = q.val * 512 + r.val
    rw [idx3_0, ← hq, Nat.one_mul]
    rfl
  | ⟨1, _⟩ =>
    refine Fin.ext ?_
    show ((cfg3 a).win 0).index t (1 : Fin 2) * 4096 + 1 * k.val = k.val
    rw [idx3_0]
    show 0 * 4096 + 1 * k.val = k.val
    rw [Nat.zero_mul, Nat.zero_add, Nat.one_mul]

theorem blk2 (c : Dev nD) (t : Fin (cfg3 a).N) (q : Fin 32) (hq : (rows a (tl (grid3.coords t))).toNat = q.val) (r : Fin 512) :
    R3.iblk a V c 2 t (ix2 r (0 : Fin 1)) = (V c main_v31 : Vec Ideal S16384x1 .f32) (ix2 (rw3 q r) (0 : Fin 1)) := by
  show (V c main_v31 : Vec Ideal S16384x1 .f32) ((((cfg3 a).win 2).blk t).view.emb (ix2 r (0 : Fin 1))) = _
  refine congrArg _ ?_
  funext x
  match x with
  | ⟨0, _⟩ =>
    refine Fin.ext ?_
    show ((cfg3 a).win 2).index t (0 : Fin 2) * 512 + 1 * r.val = q.val * 512 + r.val
    rw [idx3_2, ← hq, Nat.one_mul]
    rfl
  | ⟨1, _⟩ => exact Subsingleton.elim (α := Fin 1) _ _

theorem blk1 (c : Dev nD) (t : Fin (cfg3 a).N) (k : Fin 4096) (l : Fin 1024) :
    R3.iblk a V c 1 t (ix2 k l) = (V c main_v4_0 : Vec Ideal S4096x14336 .i8) (ix2 k (cl3 (col (grid3.coords t)) l)) := by
  show (V c main_v4_0 : Vec Ideal S4096x14336 .i8) ((((cfg3 a).win 1).blk t).view.emb (ix2 k l)) = _
  refine congrArg _ ?_
  funext x
  match x with
  | ⟨0, _⟩ =>
    refine Fin.ext ?_
    show ((cfg3 a).win 1).index t (0 : Fin 2) * 4096 + 1 * k.val = k.val
    rw [idx3_1]
    show 0 * 4096 + 1 * k.val = k.val
    rw [Nat.zero_mul, Nat.zero_add, Nat.one_mul]
  | ⟨1, _⟩ =>
    refine Fin.ext ?_
    show ((cfg3 a).win 1).index t (1 : Fin 2) * 1024 + 1 * l.val = (grid3.coords t 0).val * 1024 + l.val
    rw [idx3_1, Nat.one_mul]
    rfl

theorem blk3 (c : Dev nD) (t : Fin (cfg3 a).N) (l : Fin 1024) :
    R3.iblk a V c 3 t (ix2 (0 : Fin 1) l) = (V c main_v4_1 : Vec Ideal S1x14336 .f32) (ix2 (0 : Fin 1) (cl3 (col (grid3.coords t)) l)) := by
  show (V c main_v4_1 : Vec Ideal S1x14336 .f32) ((((cfg3 a).win 3).blk t).view.emb (ix2 (0 : Fin 1) l)) = _
  refine congrArg _ ?_
  funext x
  match x with
  | ⟨0, _⟩ => exact Subsingleton.elim (α := Fin 1) _ _
  | ⟨1, _⟩ =>
    refine Fin.ext ?_
    show ((cfg3 a).win 3).index t (1 : Fin 2) * 1024 + 1 * l.val = (grid3.coords t 0).val * 1024 + l.val
    rw [idx3_3, Nat.one_mul]
    rfl

theorem emb3 (t : Fin (cfg3 a).N) (q : Fin 32) (hq : (order a (tl (grid3.coords t))).toNat = q.val) (r : Fin 512) (l : Fin 1024) :
    (((cfg3 a).win 4).blk t).view.emb (ix2 r l) = (ix2 (rw3 q r) (cl3 (col (grid3.coords t)) l) : S16384x14336.Idx) := by
  funext x
  match x with
  | ⟨0, _⟩ =>
    refine Fin.ext ?_
    show ((cfg3 a).win 4).index t (0 : Fin 2) * 512 + 1 * r.val = q.val * 512 + r.val
    rw [idx3_4, ← hq, Nat.one_mul]
    rfl
  | ⟨1, _⟩ =>
    refine Fin.ext ?_
    show ((cfg3 a).win 4).index t (1 : Fin 2) * 1024 + 1 * l.val = (grid3.coords t 0).val * 1024 + l.val
    rw [idx3_4, Nat.one_mul]
    rfl

/-! ## The array -/

/-- One point's block of the output from the input blocks' entries. -/
theorem outY_at (i : grid3.Coords) (v : BitVec 32) (x0 : Vec Ideal S512x4096 .i8) (x1 : Vec Ideal S4096x1024 .i8) (x2 : Vec Ideal S512x1 .f32) (x3 : Vec Ideal S1x1024 .f32)
    (X : Fin 4096 → BitVec 8) (W : Vec Ideal S4096x14336 .i8) (s : EReal) (T : Vec Ideal S1x14336 .f32) (r : Fin 512) (l : Fin 1024) (n : Fin 14336)
    (h0 : (tl i).val < v.toInt → ∀ k, x0 (ix2 r k) = X k) (h1 : ∀ k, x1 (ix2 k l) = W (ix2 k n)) (h2 : (tl i).val < v.toInt → x2 (ix2 r (0 : Fin 1)) = s)
    (h3 : x3 (ix2 (0 : Fin 1) l) = T (ix2 (0 : Fin 1) n)) (hz : ¬ ((tl i).val : Int) < v.toInt → ∀ k, X k = 0#8) :
    R3.outY i v x0 x1 x2 x3 (ix2 r l) = yv X W s T n rfl := by
  have e : k3_cond1 i v = 1#1 ↔ ((tl i).val : Int) < v.toInt := by
    rw [R3.cond1_iff, show (BitVec.ofNat 32 (i 1).val).toInt = (i 1).val from WordCmp.toInt_ofNat_of_lt (by have : (i 1).val < 32 := (i 1).isLt; omega)]
    exact Iff.rfl
  unfold R3.outY
  by_cases h : k3_cond1 i v = 1#1
  · rw [if_pos h, prod3]
    have hv := e.mp h
    unfold yv
    simp only [h0 hv, h1, h2 hv, h3]
    rfl
  · rw [if_neg h, zero3, yv_zero _ _ _ _ _ (hz (fun h' => h (e.mpr h')))]

variable (p : Fin 32 → Fin 32)

theorem flush3 (hord : ∀ t, (order a t).toNat = (p t).val) (hp : Function.Injective p) (t : Fin (cfg3 a).N) : ((cfg3 a).win 4).flush t = true := by
  rw [Pipeline.Window.flush_eq_flushF]
  have hN : (cfg3 a).N = 448 := N_3
  have ht : t.val < 448 := Nat.lt_of_lt_of_eq t.isLt hN
  show (true && (decide (t.val + 1 = (cfg3 a).N) || decide _)) = true
  rw [Bool.true_and, Bool.or_eq_true]
  by_cases h : t.val + 1 < (cfg3 a).N
  · refine .inr (decide_eq_true ⟨h, ?_⟩)
    have e := coords3 t
    have e' := coords3 ⟨t.val + 1, h⟩
    by_cases h0 : (t.val + 1) / 32 = t.val / 32
    · refine ⟨(0 : Fin 2), ?_⟩
      rw [idx3_4, idx3_4]
      show (order a (tl (grid3.coords ⟨t.val + 1, h⟩))).toNat ≠ (order a (tl (grid3.coords t))).toNat
      rw [hord, hord]
      intro hh
      have := congrArg Fin.val (hp (Fin.ext hh))
      have h2 : (grid3.coords ⟨t.val + 1, h⟩ 1).val = (grid3.coords t 1).val := this
      rw [e.2, e'.2] at h2
      have h3 : (t.val + 1) % 32 = t.val % 32 := h2
      omega
    · refine ⟨(1 : Fin 2), ?_⟩
      rw [idx3_4, idx3_4]
      show (grid3.coords ⟨t.val + 1, h⟩ 0).val ≠ (grid3.coords t 0).val
      rw [e.1, e'.1]
      exact h0
  · refine .inl (decide_eq_true ?_)
    omega

theorem blk_idx (y : S512x1024.Idx) : ∃ (r : Fin 512) (l : Fin 1024), y = ix2 r l := ⟨y 0, y 1, by
  funext x
  match x with
  | ⟨0, _⟩ => rfl
  | ⟨1, _⟩ => rfl⟩
theorem arr_idx (y : S16384x14336.Idx) : ∃ (r : Fin 16384) (l : Fin 14336), y = ix2 r l := ⟨y 0, y 1, by
  funext x
  match x with
  | ⟨0, _⟩ => rfl
  | ⟨1, _⟩ => rfl⟩

theorem cover3 (hord : ∀ t, (order a t).toNat = (p t).val) (hp : Function.Injective p) (hs : Function.Surjective p) (i : S16384x14336.Idx) :
    ∃ t : Fin (cfg3 a).N, ((cfg3 a).win 4).flush t = true ∧ i ∈ (((cfg3 a).win 4).blk t).view.set := by
  obtain ⟨q, n, hi⟩ := arr_idx i
  have hq := q.isLt
  have hn := n.isLt
  obtain ⟨u, hu⟩ := hs ⟨q.val / 512, by omega⟩
  have hN : (cfg3 a).N = 448 := N_3
  have hul := u.isLt
  obtain ⟨t, ht⟩ : ∃ t : Fin (cfg3 a).N, t.val = n.val / 1024 * 32 + u.val := ⟨⟨n.val / 1024 * 32 + u.val, by omega⟩, rfl⟩
  refine ⟨t, flush3 a p hord hp t, ?_⟩
  have e := coords3 t
  have hu' : tl (grid3.coords t) = u := by
    refine Fin.ext ?_
    show (grid3.coords t 1).val = u.val
    rw [e.2, ht]
    omega
  have hc' : (col (grid3.coords t)).val = n.val / 1024 := by
    show (grid3.coords t 0).val = _
    rw [e.1, ht]
    omega
  have e4 : i = (((cfg3 a).win 4).blk t).view.emb
      (ix2 (⟨q.val % 512, by omega⟩ : Fin 512) (⟨n.val % 1024, by omega⟩ : Fin 1024)) := by
    refine hi.trans (Eq.trans ?_ (emb3 a t (p u) (by rw [hu', hord]) _ _).symm)
    refine congrArg₂ ix2 (Fin.ext ?_) (Fin.ext ?_)
    · show q.val = (p u).val * 512 + q.val % 512
      rw [hu]
      show q.val = q.val / 512 * 512 + q.val % 512
      omega
    · show n.val = (col (grid3.coords t)).val * 1024 + n.val % 1024
      rw [hc']
      omega
  rw [e4]
  exact View.emb_mem_set _ _

/-- What the region leaves in the product's array: the tables hold a permutation of the tiles, the tiles before the
    count read their own rows, and the rows of the others are zero. -/
theorem y_arr (hord : ∀ t, (order a t).toNat = (p t).val) (hp : Function.Injective p) (hs : Function.Surjective p)
    (hrows : ∀ t : Fin 32, (t.val : Int) < (nval a).toInt → (rows a t).toNat = (p t).val) (c : Dev nD)
    (hz : ∀ t : Fin 32, ¬ (t.val : Int) < (nval a).toInt → ∀ r k, (V c main_v30 : Vec Ideal S16384x4096 .i8) (ix2 (rw3 (p t) r) k) = 0#8) :
    (R3.dat a V c).arrAt 4 (cfg3 a).N = fun i : S16384x14336.Idx =>
      yv (fun k => (V c main_v30 : Vec Ideal S16384x4096 .i8) (ix2 (i 0) k)) (V c main_v4_0) ((V c main_v31 : Vec Ideal S16384x1 .f32) (ix2 (i 0) (0 : Fin 1))) (V c main_v4_1) (i 1) rfl := by
  refine Dat.arrAt_eq_of_emb _ 4 _ (fun t hf y => ?_) (cover3 a p hord hp hs)
  blk_simp
  rw [R3.after_4]
  obtain ⟨r, l, rfl⟩ := blk_idx y
  unfold R3.yblk
  refine (outY_at (grid3.coords t) (R3.word a.1) _ _ _ _
    (fun k => (V c main_v30 : Vec Ideal S16384x4096 .i8) (ix2 (rw3 (p (tl (grid3.coords t))) r) k)) (V c main_v4_0)
    ((V c main_v31 : Vec Ideal S16384x1 .f32) (ix2 (rw3 (p (tl (grid3.coords t))) r) (0 : Fin 1))) (V c main_v4_1) r l (cl3 (col (grid3.coords t)) l)
    (fun h k => blk0 a V c t _ (hrows _ h) r k) (fun k => blk1 a V c t k l) (fun h => blk2 a V c t _ (hrows _ h) r) (blk3 a V c t l)
    (fun h k => hz _ h r k)).trans ?_
  exact (congrArg (fun i : S16384x14336.Idx =>
      yv (fun k => (V c main_v30 : Vec Ideal S16384x4096 .i8) (ix2 (i 0) k)) (V c main_v4_0) ((V c main_v31 : Vec Ideal S16384x1 .f32) (ix2 (i 0) (0 : Fin 1))) (V c main_v4_1) (i 1) rfl)
      (emb3 a t (p (tl (grid3.coords t))) (hord _) r l)).symm

end Cert.KernelIdeal.Val3

end
-- ==== Proof.Val.HostR.lean ====
/-
  The host's reshapes around the product, index by index.
-/
module

public import proofs.«01_k».proof.Proof.Gen.KernelIdeal.Regions
public import proofs.«01_k».proof.Proof.Val.VR3
public import Idealize.ShloMosaic.Lib.StableHlo.RunRead
public import Idealize.ShloMosaic.Lib.Pointwise

@[expose] public section

set_option maxRecDepth 16384

noncomputable section

namespace Cert.KernelIdeal.HostR

open Idealize.ShloMosaic Idealize.ShloMosaic.TcCoe Cert.KernelIdeal Cert.KernelIdeal.Gen

/-- A token's row among all rows. -/
def rowOf (b : Fin 8) (l : Fin 2048) : Fin 16384 := ⟨b.val * 2048 + l.val, by omega⟩
theorem rowOf_surj (r : Fin 16384) : ∃ b l, r = rowOf b l :=
  ⟨⟨r.val / 2048, by omega⟩, ⟨r.val % 2048, by omega⟩, Fin.ext (by show r.val = r.val / 2048 * 2048 + r.val % 2048; omega)⟩

theorem s30 {α : Type} (x : S8x2048x4096.Idx → α) (b : Fin 8) (l : Fin 2048) (k : Fin 4096) :
    shapeCast S16384x4096 x shapeCasts_S8x2048x4096_S16384x4096 (ix2 (rowOf b l) k) = x (Idealize.ShloMosaic.ix3 b l k) := by
  pointwise [rowOf]
theorem s31 {α : Type} (x : S8x2048x1.Idx → α) (b : Fin 8) (l : Fin 2048) :
    shapeCast S16384x1 x shapeCasts_S8x2048x1_S16384x1 (ix2 (rowOf b l) (0 : Fin 1)) = x (Idealize.ShloMosaic.ix3 b l (0 : Fin 1)) := by
  pointwise [rowOf]
theorem s33 {α : Type} (x : S16384x14336.Idx → α) (b : Fin 8) (l : Fin 2048) (n : Fin 14336) :
    shapeCast S8x2048x14336 x shapeCasts_S16384x14336_S8x2048x14336 (Idealize.ShloMosaic.ix3 b l n) = x (ix2 (rowOf b l) n) := by
  pointwise [rowOf]
theorem s34 {α : Type} (x : S1x4096.Idx → α) (d : Fin 4096) :
    shapeCast S4096 x shapeCasts_S1x4096_S4096 (Idealize.ShloMosaic.ix1 d) = x (ix2 (0 : Fin 1) d) := by
  pointwise
theorem s35 {α : Type} (x : S1x14336.Idx → α) (n : Fin 14336) :
    shapeCast S14336 x shapeCasts_S1x14336_S14336 (Idealize.ShloMosaic.ix1 n) = x (ix2 (0 : Fin 1) n) := by
  pointwise
theorem s36 {α : Type} (x : S8x2048x1.Idx → α) (b : Fin 8) (l : Fin 2048) :
    shapeCast S8x2048 x shapeCasts_S8x2048x1_S8x2048 (ix2 b l) = x (Idealize.ShloMosaic.ix3 b l (0 : Fin 1)) := by
  pointwise

variable (V : Valuation τ sig (Elt Ideal))

theorem v30_eq : StableHlo.after hostOps3_4 V main_v30 = shapeCast S16384x4096 (V main_v2_0 : Vec Ideal S8x2048x4096 .i8) shapeCasts_S8x2048x4096_S16384x4096 := by
  rfl
theorem v31_eq : StableHlo.after hostOps3_4 V main_v31 = shapeCast S16384x1 (V main_v2_1 : Vec Ideal S8x2048x1 .f32) shapeCasts_S8x2048x1_S16384x1 := by
  rfl
theorem v33_eq : StableHlo.after hostOps4 V main_v33 = shapeCast S8x2048x14336 (V main_v32 : Vec Ideal S16384x14336 .f32) shapeCasts_S16384x14336_S8x2048x14336 := by
  rfl
theorem v34_eq : StableHlo.after hostOps4 V main_v34 = shapeCast S4096 (V main_v1 : Vec Ideal S1x4096 .f32) shapeCasts_S1x4096_S4096 := by
  rfl
theorem v35_eq : StableHlo.after hostOps4 V main_v35 = shapeCast S14336 (V main_v4_1 : Vec Ideal S1x14336 .f32) shapeCasts_S1x14336_S14336 := by
  rfl
theorem v36_eq : StableHlo.after hostOps4 V main_v36 = shapeCast S8x2048 (V main_v2_1 : Vec Ideal S8x2048x1 .f32) shapeCasts_S8x2048x1_S8x2048 := by
  rfl

end Cert.KernelIdeal.HostR
-- ==== Proof.Val.VT.lean ====
/-
  The tile tables the host computes for the product: a permutation of the tiles, the tiles with a valid row first, and their number.
-/
module

public import proofs.«01_k».proof.Proof.KI.Run
public import proofs.«01_k».proof.Proof.Val.Len
public import Idealize.ShloMosaic.Lib.Pointwise
public import Idealize.ShloMosaic.Lib.Routing.Ops
public import Idealize.ShloMosaic.Lib.StableHlo.RunRead

@[expose] public section

set_option maxRecDepth 16384

noncomputable section

namespace Cert.KernelIdeal.ValT

open Idealize.ShloMosaic Idealize.ShloMosaic.TcCoe Cert.KernelIdeal Cert.KernelIdeal.Gen

variable {F : FTy → Type} [FloatOps F]

/-! ## A tile's first row, and whether the tile has a valid row -/

/-- The remainder as the host computes it of a word by 2048, -/
def remw (x : BitVec 32) : BitVec 32 :=
  let r := IntOp.remsi .host x 2048#32
  Scalar.select (IntOp.andi (IntOp.cmpi .ne (IntOp.cmpi .slt r 0#32) (IntOp.cmpi .slt 2048#32 0#32)) (IntOp.cmpi .ne r 0#32)) (IntOp.addi r 2048#32) r

theorem remw_tile : ∀ t : Fin 32, remw (IntOp.muli (BitVec.ofNat 32 t.val) 512#32) = BitVec.ofNat 32 (t.val % 4 * 512) := by
  unfold remw IntOp.remsi
  decide +kernel

/-- The remainder as the host computes it of a vector, -/
def remv (x : IVec S32 32) (d : IVec S_ 32) : IVec S32 32 :=
  let e := select (cmpi .eq d (constantI S_ 32 0#32)) (constantI S_ 32 1#32) d
  let r := Host.remsi x (broadcastInDim S32 ![] bcast_S_S32 e)
  select (andi (cmpi .ne (cmpi .slt r (broadcastInDim S32 ![] bcast_S_S32 (constantI S_ 32 0#32))) (broadcastInDim S32 ![] bcast_S_S32 (cmpi .slt e (constantI S_ 32 0#32))))
    (cmpi .ne r (broadcastInDim S32 ![] bcast_S_S32 (constantI S_ 32 0#32)))) (addi r (broadcastInDim S32 ![] bcast_S_S32 e)) r

theorem remv_apply (x : IVec S32 32) (i : S32.Idx) : remv x (constantI S_ 32 2048#32) i = remw (x i) := by
  rfl

section
variable (V : Valuation τ sig (Elt F))
theorem r_eq : (StableHlo.after hostOps3_1 V main_v8 : IVec S32 32) = remv (V main_v7 : IVec S32 32) (V main_c_0 : IVec S_ 32) := by
  after_reads_simp
  simp only [StableHlo.TRef.ofBuf_toBuf]
  simp only [id]
  unfold remv
  exact rfl
end

/-- The tile's first row in its batch. -/
theorem v8_apply (V : Valuation τ sig (Elt F)) (t : Fin 32) :
    (StableHlo.after hostOps3_1 (StableHlo.after hostOps3 V) main_v8 : IVec S32 32) (Idealize.ShloMosaic.ix1 t) = BitVec.ofNat 32 (t.val % 4 * 512) := by
  have h0 : (StableHlo.after hostOps3 V main_c_0 : IVec S_ 32) = constantI S_ 32 2048#32 := rfl
  have h7 : (StableHlo.after hostOps3 V main_v7 : IVec S32 32) (Idealize.ShloMosaic.ix1 t) = IntOp.muli (BitVec.ofNat 32 t.val) 512#32 := rfl
  rw [r_eq, h0, remv_apply, h7]
  exact remw_tile t

/-- Tile `q`'s batch and first row. -/
def tb (q : Fin 32) : Fin 8 := ⟨q.val / 4, by omega⟩

theorem v10_apply (x : IVec S8 32) (t : Fin 32) :
    (shapeCast S32 (broadcastInDim S8x4 ![0] bcast_S8_S8x4_0 x) shapeCasts_S8x4_S32 : IVec S32 32) (Idealize.ShloMosaic.ix1 t) = x (Idealize.ShloMosaic.ix1 (tb t)) := by
  pointwise []
  rfl

theorem v11_apply (V : Valuation τ sig (Elt F)) (t : Fin 32) :
    (StableHlo.after hostOps3_2 V main_v11 : IVec S32 1) (Idealize.ShloMosaic.ix1 t)
      = IntOp.cmpi .slt ((V main_v8 : IVec S32 32) (Idealize.ShloMosaic.ix1 t)) ((V main_arg1 : IVec S8 32) (Idealize.ShloMosaic.ix1 (tb t))) := by
  have h : (StableHlo.after hostOps3_2 V main_v11 : IVec S32 1)
    = cmpi .slt (V main_v8 : IVec S32 32) (shapeCast S32 (broadcastInDim S8x4 ![0] bcast_S8_S8x4_0 (V main_arg1 : IVec S8 32)) shapeCasts_S8x4_S32) := rfl
  rw [h]
  show IntOp.cmpi .slt _ _ = _
  rw [v10_apply]

theorem v12_eq (V : Valuation τ sig (Elt F)) : (StableHlo.after hostOps3_2 V main_v12 : IVec S32 1) = noti (StableHlo.after hostOps3_2 V main_v11 : IVec S32 1) := rfl

/-! ## The order -/

/-- Whether a tile sorts before another: it has a valid row and the other has none. -/
def bef (ok : IVec S32 1) (k k' : Fin 32) : Bool :=
  IntOp.cmpi .ult (IntOp.xori (ok (Idealize.ShloMosaic.ix1 k)) (BitVec.allOnes 1)) (IntOp.xori (ok (Idealize.ShloMosaic.ix1 k')) (BitVec.allOnes 1)) == 1#1
/-- The order as a function of the tiles' masks. -/
def perm (ok : IVec S32 1) (t : Fin 32) : Fin 32 := sortedFrom (bef ok) t

theorem bef_eq (ok : IVec S32 1) (y : S32.Idx → BitVec 32) (k k' : Fin 32) :
    (comparator_i1_i32_d0 (noti ok (ValueIdx.ix1 k), y (ValueIdx.ix1 k)) (noti ok (ValueIdx.ix1 k'), y (ValueIdx.ix1 k')) == 1#1) = bef ok k k' := by
  show (IntOp.cmpi .ult (~~~(ok (Idealize.ShloMosaic.ix1 k))) (~~~(ok (Idealize.ShloMosaic.ix1 k'))) == 1#1) = _
  unfold bef
  generalize ok (Idealize.ShloMosaic.ix1 k) = u
  generalize ok (Idealize.ShloMosaic.ix1 k') = v
  revert u v; decide

theorem src_perm (ok : IVec S32 1) (y : S32.Idx → BitVec 32) (t : Fin 32) : Tabs.src (noti ok) y t = perm ok t := by
  unfold Tabs.src perm
  refine congrArg (fun R => sortedFrom R t) ?_
  funext k k'
  exact bef_eq ok y k k'

theorem perm_inj (ok : IVec S32 1) : Function.Injective (perm ok) := by
  intro x y h
  unfold perm at h
  exact sortedFrom_injective (bef ok) h
theorem perm_surj (ok : IVec S32 1) : Function.Surjective (perm ok) := by
  intro y
  obtain ⟨x, h⟩ := sortedFrom_surjective (bef ok) y
  refine ⟨x, ?_⟩
  unfold perm
  exact h

/-- A tile with a valid row is not ordered after one without. -/
theorem perm_mono (ok : IVec S32 1) (i j : Fin 32) (h : i < j) (hj : ok (Idealize.ShloMosaic.ix1 (perm ok j)) = 1#1) :
    ok (Idealize.ShloMosaic.ix1 (perm ok i)) = 1#1 := by
  have key := sortedFrom_noInversion (n := 32) (bef ok) (bef ok)
    (fun a b => by
      unfold bef
      generalize ok (Idealize.ShloMosaic.ix1 a) = u
      generalize ok (Idealize.ShloMosaic.ix1 b) = v
      revert u v; decide)
    (fun a b h => h)
    (fun a b c => by
      unfold bef
      generalize ok (Idealize.ShloMosaic.ix1 a) = u
      generalize ok (Idealize.ShloMosaic.ix1 b) = v
      generalize ok (Idealize.ShloMosaic.ix1 c) = w
      revert u v w; decide) i j h
  unfold perm at hj ⊢
  unfold bef at key
  rw [show ok (Idealize.ShloMosaic.ix1 (sortedFrom (fun k k' => IntOp.cmpi .ult (IntOp.xori (ok (Idealize.ShloMosaic.ix1 k)) (BitVec.allOnes 1)) (IntOp.xori (ok (Idealize.ShloMosaic.ix1 k')) (BitVec.allOnes 1)) == 1#1) j)) = 1#1 from hj] at key
  change ok (Idealize.ShloMosaic.ix1 (sortedFrom (fun k k' => IntOp.cmpi .ult (IntOp.xori (ok (Idealize.ShloMosaic.ix1 k)) (BitVec.allOnes 1)) (IntOp.xori (ok (Idealize.ShloMosaic.ix1 k')) (BitVec.allOnes 1)) == 1#1) i)) = 1#1
  revert key
  generalize ok (Idealize.ShloMosaic.ix1 (sortedFrom (fun k k' => IntOp.cmpi .ult (IntOp.xori (ok (Idealize.ShloMosaic.ix1 k)) (BitVec.allOnes 1)) (IntOp.xori (ok (Idealize.ShloMosaic.ix1 k')) (BitVec.allOnes 1)) == 1#1) i)) = u
  revert u; decide

/-! ## The count -/

/-- The number of tiles with a valid row. -/
def cnt (ok : IVec S32 1) : ℕ := (Finset.univ.filter fun t : Fin 32 => ok (Idealize.ShloMosaic.ix1 t) = 1#1).card
theorem cnt_le (ok : IVec S32 1) : cnt ok ≤ 32 := (Finset.card_filter_le _ _).trans (by simp)

def one (ok : IVec S32 1) (k : ℕ) : ℕ := if h : k < 32 then (if ok (Idealize.ShloMosaic.ix1 ⟨k, h⟩) = 1#1 then 1 else 0) else 0
theorem one_of (ok : IVec S32 1) (i : Fin 32) : one ok i.val = if ok (Idealize.ShloMosaic.ix1 i) = 1#1 then 1 else 0 := by
  unfold one
  rw [dif_pos i.isLt]
theorem ext_one (ok : IVec S32 1) (i : Fin 32) : extui 32 ok natLt_1_32 (Idealize.ShloMosaic.ix1 i) = BitVec.ofNat 32 (one ok i.val) := by
  rw [one_of]
  show (ok (Idealize.ShloMosaic.ix1 i)).setWidth 32 = _
  generalize ok (Idealize.ShloMosaic.ix1 i) = u
  revert u; decide
theorem sum_one (ok : IVec S32 1) : ((List.range 32).map (one ok)).sum = cnt ok := by
  unfold cnt
  rw [Finset.card_filter, ← Routing.map_finRange_val 32 (one ok), ← List.ofFn_eq_map, List.sum_ofFn]
  exact Finset.sum_congr rfl fun i _ => one_of ok i

theorem count_apply (ok : IVec S32 1) (j : S_.Idx) :
    Host.reduce IntOp.addi (extui 32 ok natLt_1_32) (constantI S_ 32 0#32) reducesTo_S32_S_d0 h_S_ j = BitVec.ofNat 32 (cnt ok) := by
  have hj : j = (Idealize.ShloMosaic.ix0 : S_.Idx) := funext fun a : Fin 0 => a.elim0
  subst hj
  refine (Routing.reduce_sum (N := 32) (extui 32 ok natLt_1_32) (one ok) (ext_one ok) reducesTo_S32_S_d0 h_S_).trans ?_
  rw [sum_one]

/-- The tiles with a valid row are the first in the order. -/
theorem ok_perm_iff (ok : IVec S32 1) (t : Fin 32) : ok (Idealize.ShloMosaic.ix1 (perm ok t)) = 1#1 ↔ t.val < cnt ok := by
  have hc : cnt ok = (Finset.univ.filter fun t : Fin 32 => ok (Idealize.ShloMosaic.ix1 (perm ok t)) = 1#1).card := by
    unfold cnt
    refine (Finset.card_bij (fun t _ => perm ok t) (fun t ht => ?_) (fun _ _ _ _ h => perm_inj ok h) (fun q hq => ?_)).symm
    · simpa using ht
    · obtain ⟨t, rfl⟩ := perm_surj ok q
      exact ⟨t, by simpa using hq, rfl⟩
  constructor
  · intro h
    rw [hc]
    have : (Finset.Iic t).card ≤ (Finset.univ.filter fun t : Fin 32 => ok (Idealize.ShloMosaic.ix1 (perm ok t)) = 1#1).card := by
      refine Finset.card_le_card fun i hi => ?_
      have hi' := Finset.mem_Iic.mp hi
      refine Finset.mem_filter.mpr ⟨Finset.mem_univ _, ?_⟩
      rcases lt_or_eq_of_le hi' with hlt | rfl
      · exact perm_mono ok i t hlt h
      · exact h
    rw [Fin.card_Iic] at this
    omega
  · intro h
    by_contra hn
    have : (Finset.univ.filter fun t : Fin 32 => ok (Idealize.ShloMosaic.ix1 (perm ok t)) = 1#1).card ≤ (Finset.Iio t).card := by
      refine Finset.card_le_card fun i hi => ?_
      have hi' := (Finset.mem_filter.mp hi).2
      refine Finset.mem_Iio.mpr ?_
      by_contra hle
      rcases lt_or_eq_of_le (not_lt.mp hle) with hlt | rfl
      · exact hn (perm_mono ok t i hlt hi')
      · exact hn hi'
    rw [Fin.card_Iio, ← hc] at this
    omega

/-! ## The rows' table -/

/-- The position in the order that the rows' table reads, -/
def posw (n : BitVec 32) (t : BitVec 32) : BitVec 32 :=
  let p := IntOp.minsi t (IntOp.maxsi (IntOp.subi n 1#32) 0#32)
  Scalar.select (IntOp.cmpi .slt p 0#32) (IntOp.addi p 32#32) p

/-- which is the tile's own position for the tiles with a valid row. -/
theorem posw_own : ∀ n : Fin 33, ∀ t : Fin 32, t.val < n.val → (posw (BitVec.ofNat 32 n.val) (BitVec.ofNat 32 t.val)).toInt.toNat = t.val := by
  unfold posw
  decide +kernel

theorem gather_apply (x : IVec S32 32) (idx : IVec S32x1 32) (t : Fin 32) :
    Host.gather gather_S32_S32x1_S32_n_0_n_n_0_1_1 x idx (Idealize.ShloMosaic.ix1 t)
      = x (Idealize.ShloMosaic.ix1 ⟨min (idx (ix2 t (0 : Fin 1))).toInt.toNat 31, by omega⟩) := by
  unfold Host.gather
  congr 1
  funext a
  obtain rfl : a = (0 : Fin 1) := Subsingleton.elim (α := Fin 1) _ _
  refine Fin.ext ?_
  show gather_S32_S32x1_S32_n_0_n_n_0_1_1.start (Idealize.ShloMosaic.ix1 t) idx (0 : Fin 1) + gather_S32_S32x1_S32_n_0_n_n_0_1_1.batchCoord (Idealize.ShloMosaic.ix1 t) (0 : Fin 1)
    + gather_S32_S32x1_S32_n_0_n_n_0_1_1.offCoord (Idealize.ShloMosaic.ix1 t) (0 : Fin 1) = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S32_S32x1_S32_n_0_n_n_0_1_1.startIndexMap from List.mem_singleton.mpr rfl)]
  have hsi : gather_S32_S32x1_S32_n_0_n_n_0_1_1.siIdx (Idealize.ShloMosaic.ix1 t) ⟨List.idxOf (0 : Fin 1) gather_S32_S32x1_S32_n_0_n_n_0_1_1.startIndexMap,
      List.idxOf_lt_length_iff.2 (List.mem_singleton.mpr rfl)⟩ = ix2 t (0 : Fin 1) := by
    funext b; refine Fin.ext ?_
    match b with
    | ⟨0, _⟩ => rfl
    | ⟨1, _⟩ => rfl
  rw [hsi]
  rfl

theorem v28_apply (x : IVec S32 32) (t : Fin 32) : (broadcastInDim S32x1 ![0] bcast_S32_S32x1_0 x : IVec S32x1 32) (ix2 t (0 : Fin 1)) = x (Idealize.ShloMosaic.ix1 t) := by
  pointwise []

variable (V : Valuation τ sig (Elt F))

theorem v16_apply (j : S1.Idx) : (StableHlo.after hostOps3_4 V main_v16 : IVec S1 32) j = BitVec.ofNat 32 (cnt (V main_v11 : IVec S32 1)) := by
  have h : (StableHlo.after hostOps3_4 V main_v16 : IVec S1 32)
    = shapeCast S1 (Host.reduce IntOp.addi (extui 32 (V main_v11 : IVec S32 1) natLt_1_32) (constantI S_ 32 0#32) reducesTo_S32_S_d0 h_S_) shapeCasts_S_S1 := rfl
  rw [h]
  exact count_apply _ _

/-- The rows' positions as the host computes them from the count. -/
def pos (n : IVec S_ 32) : IVec S32 32 :=
  let p := minsi (iotaInDim S32 32 0) (broadcastInDim S32 ![] bcast_S_S32 (maxsi (subi n (constantI S_ 32 1#32)) (constantI S_ 32 0#32)))
  select (cmpi .slt p (broadcastInDim S32 ![] bcast_S_S32 (constantI S_ 32 0#32))) (addi p (broadcastInDim S32 ![] bcast_S_S32 (constantI S_ 32 32#32))) p

theorem pos_apply (n : IVec S_ 32) (v : BitVec 32) (hn : ∀ i, n i = v) (t : Fin 32) : pos n (Idealize.ShloMosaic.ix1 t) = posw v (BitVec.ofNat 32 t.val) := by
  obtain rfl : n = fun _ => v := funext hn
  rfl

theorem v27_eq : (StableHlo.after hostOps3_4 V main_v27 : IVec S32 32) = pos (shapeCast S_ (StableHlo.after hostOps3_4 V main_v16 : IVec S1 32) shapeCasts_S1_S_) := by
  after_reads_simp
  rfl

theorem v27_apply (t : Fin 32) : (StableHlo.after hostOps3_4 V main_v27 : IVec S32 32) (Idealize.ShloMosaic.ix1 t)
    = posw (BitVec.ofNat 32 (cnt (V main_v11 : IVec S32 1))) (BitVec.ofNat 32 t.val) := by
  rw [v27_eq]
  exact pos_apply _ _ (fun i => v16_apply V _) t

theorem gather_own (x y : IVec S32 32) (t : Fin 32) (h : (y (Idealize.ShloMosaic.ix1 t)).toInt.toNat = t.val) :
    Host.gather gather_S32_S32x1_S32_n_0_n_n_0_1_1 x (broadcastInDim S32x1 ![0] bcast_S32_S32x1_0 y) (Idealize.ShloMosaic.ix1 t) = x (Idealize.ShloMosaic.ix1 t) := by
  rw [gather_apply]
  refine congrArg (fun p : Fin 32 => x (Idealize.ShloMosaic.ix1 p)) (Fin.ext ?_)
  show min _ 31 = t.val
  rw [v28_apply, h]
  have := t.isLt
  omega

theorem v29_eq : (StableHlo.after hostOps3_4 V main_v29 : IVec S32 32)
    = Host.gather gather_S32_S32x1_S32_n_0_n_n_0_1_1 (V main_v13 : IVec S32 32) (broadcastInDim S32x1 ![0] bcast_S32_S32x1_0 (StableHlo.after hostOps3_4 V main_v27 : IVec S32 32)) := by
  after_reads_simp

theorem v29_apply (t : Fin 32) (ht : t.val < cnt (V main_v11 : IVec S32 1)) :
    (StableHlo.after hostOps3_4 V main_v29 : IVec S32 32) (Idealize.ShloMosaic.ix1 t) = (V main_v13 : IVec S32 32) (Idealize.ShloMosaic.ix1 t) := by
  rw [v29_eq]
  refine gather_own _ _ t ?_
  rw [v27_apply]
  exact posw_own ⟨cnt (V main_v11 : IVec S32 1), by have := cnt_le (V main_v11 : IVec S32 1); omega⟩ t ht

end Cert.KernelIdeal.ValT
-- ==== Proof.Val.Asm2.lean ====
/-
  The host's tables before the product: the order of the tiles, the count of the valid ones and the rows they read.
-/
module

public import proofs.«01_k».proof.Proof.Val.Asm
public import proofs.«01_k».proof.Proof.Val.HostR
public import proofs.«01_k».proof.Proof.Val.VT

@[expose] public section

set_option maxRecDepth 16384

noncomputable section

namespace Cert.KernelIdeal.Asm

open Idealize.ShloMosaic Idealize.ShloMosaic.TcCoe Cert.KernelIdeal Cert.KernelIdeal.Gen Cert.KernelIdeal.Run Cert.KernelIdeal.HostR Cert.Val
open Cert.ReferenceIdeal.Val (fS fWs fWc fXs fXc fY)

variable (m : (ℓ : Loc nD τ sig) → Buf (Elt Ideal) ℓ)

/-! ## What the host stretches keep -/

theorem X6_keeps (r : Ref sig .tc) (h : r ∉ hostOps3_W) : X6 m c₀ r = X5 m c₀ r := StableHlo.after_of_writes_sub hostOps3 _ hostOps3_writes h
theorem X7_keeps (r : Ref sig .tc) (h : r ∉ hostOps3_1_W) : X7 m c₀ r = X6 m c₀ r := StableHlo.after_of_writes_sub hostOps3_1 _ hostOps3_1_writes h
theorem X8_keeps (r : Ref sig .tc) (h : r ∉ hostOps3_2_W) : X8 m c₀ r = X7 m c₀ r := StableHlo.after_of_writes_sub hostOps3_2 _ hostOps3_2_writes h
theorem X9_keeps (r : Ref sig .tc) (h : r ∉ hostOps3_3_W) : X9 m c₀ r = X8 m c₀ r := StableHlo.after_of_writes_sub hostOps3_3 _ hostOps3_3_writes h
theorem X10_keeps (r : Ref sig .tc) (h : r ∉ hostOps3_4_W) : X10 m c₀ r = X9 m c₀ r := StableHlo.after_of_writes_sub hostOps3_4 _ hostOps3_4_writes h
theorem X12_keeps (r : Ref sig .tc) (h : r ∉ hostOps4_W) : X12 m c₀ r = X11 m c₀ r := StableHlo.after_of_writes_sub hostOps4 _ hostOps4_writes h

/-- From the weights' call to the tables. -/
theorem X9_of5 (r : Ref sig .tc) (h6 : r ∉ hostOps3_W) (h7 : r ∉ hostOps3_1_W) (h8 : r ∉ hostOps3_2_W) (h9 : r ∉ hostOps3_3_W) : X9 m c₀ r = X5 m c₀ r :=
  (X9_keeps m r h9).trans ((X8_keeps m r h8).trans ((X7_keeps m r h7).trans (X6_keeps m r h6)))

theorem X5_arg1 : X5 m c₀ main_arg1 = V0 m c₀ main_arg1 :=
  (X5_keeps m c₀ main_arg1 (by decide) (by decide)).trans ((X4_keeps m main_arg1 (by decide)).trans (X3_arg1 m))
theorem X7_arg1 : X7 m c₀ main_arg1 = V0 m c₀ main_arg1 :=
  (X7_keeps m main_arg1 (by decide)).trans ((X6_keeps m main_arg1 (by decide)).trans (X5_arg1 m))

/-! ## The tables -/

/-- Which tiles hold a valid row, -/
def ok : S32.Idx → BitVec 1 := X8 m c₀ main_v11
/-- and the order in which the tiles come. -/
def p (t : Fin 32) : Fin 32 := ValT.perm (ok m) t

theorem ok_at (t : Fin 32) : ok m (Idealize.ShloMosaic.ix1 t) = IntOp.cmpi .slt (BitVec.ofNat 32 (t.val % 4 * 512)) (alen m (Idealize.ShloMosaic.ix1 (ValT.tb t))) := by
  refine (ValT.v11_apply (X7 m c₀) t).trans ?_
  rw [X7_arg1]
  exact congrArg (fun z : BitVec 32 => IntOp.cmpi .slt z (alen m (Idealize.ShloMosaic.ix1 (ValT.tb t)))) (ValT.v8_apply (X5 m c₀) t)

theorem ok_iff (t : Fin 32) : ok m (Idealize.ShloMosaic.ix1 t) = 1#1 ↔ ((t.val % 4 * 512 : ℕ) : Int) < (alen m (Idealize.ShloMosaic.ix1 (ValT.tb t))).toInt := by
  rw [ok_at, Cert.Words.row_if _ (by omega) _]
  constructor
  · intro h
    by_contra hn
    rw [if_neg hn] at h
    exact absurd h (by decide)
  · intro h
    rw [if_pos h]

theorem v13_at (t : Fin 32) : (X9 m c₀ main_v13 : IVec S32 32) (Idealize.ShloMosaic.ix1 t) = BitVec.ofNat 32 (p m t).val := by
  refine (Tabs.v13_apply (X8 m c₀) (Idealize.ShloMosaic.ix1 t)).trans ?_
  have e : X8 m c₀ main_v12 = noti (ok m) := ValT.v12_eq (X7 m c₀)
  rw [e]
  exact congrArg (fun q : Fin 32 => BitVec.ofNat 32 q.val) (ValT.src_perm (ok m) (iotaInDim S32 32 0) t)

theorem X9_v11 : X9 m c₀ main_v11 = ok m := X9_keeps m main_v11 (by decide)

theorem toNat_p (t : Fin 32) : (BitVec.ofNat 32 (p m t).val).toNat = (p m t).val := by
  rw [BitVec.toNat_ofNat]
  have := (p m t).isLt
  omega

/-- The tables as the product's call reads them, from the buffers. -/
theorem order_of (a : (pcfg3 (F := Ideal)).Adm) (V : Valuation τ sig (Elt Ideal)) (h : ∀ k, a.1 k = V (pre3.ref k)) (t : Fin 32) :
    Val3.order a t = (V main_v13 : IVec S32 32) (Idealize.ShloMosaic.ix1 t) := congrFun (h 0) (Idealize.ShloMosaic.ix1 t)
theorem nval_of (a : (pcfg3 (F := Ideal)).Adm) (V : Valuation τ sig (Elt Ideal)) (h : ∀ k, a.1 k = V (pre3.ref k)) :
    ∃ j : S1.Idx, Val3.nval a = (V main_v16 : IVec S1 32) j := by
  unfold Val3.nval R3.word
  exact ⟨_, (dif_pos (by decide)).trans (congrFun (h 1) _)⟩
theorem rows_of (a : (pcfg3 (F := Ideal)).Adm) (V : Valuation τ sig (Elt Ideal)) (h : ∀ k, a.1 k = V (pre3.ref k)) (t : Fin 32) :
    Val3.rows a t = (V main_v29 : IVec S32 32) (Idealize.ShloMosaic.ix1 t) := congrFun (h 2) (Idealize.ShloMosaic.ix1 t)
theorem a3_at (k : Fin 3) : (a3 m).1 k = X10 m c₀ (pre3.ref k) := rfl

theorem hord (t : Fin 32) : (Val3.order (a3 m) t).toNat = (p m t).val := by
  have e : Val3.order (a3 m) t = BitVec.ofNat 32 (p m t).val := by
    rw [order_of (a3 m) (X10 m c₀) (a3_at m) t, X10_v13]
    exact v13_at m t
  rw [e, toNat_p]

theorem nval_eq : Val3.nval (a3 m) = BitVec.ofNat 32 (ValT.cnt (ok m)) := by
  obtain ⟨j, hj⟩ := nval_of (a3 m) (X10 m c₀) (a3_at m)
  rw [hj]
  refine (ValT.v16_apply (X9 m c₀) j).trans ?_
  rw [X9_v11]

theorem nval_toInt : (Val3.nval (a3 m)).toInt = ((ValT.cnt (ok m) : ℕ) : Int) := by
  have h := ValT.cnt_le (ok m)
  rw [nval_eq, BitVec.toInt_eq_toNat_of_lt, BitVec.toNat_ofNat]
  · omega
  · rw [BitVec.toNat_ofNat]; omega

theorem hrows (t : Fin 32) (h : (t.val : Int) < (Val3.nval (a3 m)).toInt) : (Val3.rows (a3 m) t).toNat = (p m t).val := by
  rw [nval_toInt] at h
  have e : Val3.rows (a3 m) t = BitVec.ofNat 32 (p m t).val := by
    rw [rows_of (a3 m) (X10 m c₀) (a3_at m) t]
    refine (ValT.v29_apply (X9 m c₀) t (by rw [X9_v11]; omega)).trans ?_
    exact v13_at m t
  rw [e, toNat_p]

theorem p_invalid (t : Fin 32) (h : ¬ (t.val : Int) < (Val3.nval (a3 m)).toInt) :
    ¬ (((p m t).val % 4 * 512 : ℕ) : Int) < (alen m (Idealize.ShloMosaic.ix1 (ValT.tb (p m t)))).toInt := by
  rw [nval_toInt] at h
  intro hq
  exact h (by exact_mod_cast (ValT.ok_perm_iff (ok m) t).mp ((ok_iff m (p m t)).mpr hq))

/-! ## The product's operands -/

theorem X5_v2_0 : X5 m c₀ main_v2_0 = X3 m c₀ main_v2_0 := (X5_keeps m c₀ main_v2_0 (by decide) (by decide)).trans (X4_keeps m main_v2_0 (by decide))
theorem X5_v2_1 : X5 m c₀ main_v2_1 = X3 m c₀ main_v2_1 := (X5_keeps m c₀ main_v2_1 (by decide) (by decide)).trans (X4_keeps m main_v2_1 (by decide))
theorem X9_v2_0 : X9 m c₀ main_v2_0 = X3 m c₀ main_v2_0 := (X9_of5 m main_v2_0 (by decide) (by decide) (by decide) (by decide)).trans (X5_v2_0 m)
theorem X9_v2_1 : X9 m c₀ main_v2_1 = X3 m c₀ main_v2_1 := (X9_of5 m main_v2_1 (by decide) (by decide) (by decide) (by decide)).trans (X5_v2_1 m)
theorem X10_v4_0 : X10 m c₀ main_v4_0 = X5 m c₀ main_v4_0 := (X10_keeps m main_v4_0 (by decide)).trans (X9_of5 m main_v4_0 (by decide) (by decide) (by decide) (by decide))
theorem X10_v4_1 : X10 m c₀ main_v4_1 = X5 m c₀ main_v4_1 := (X10_keeps m main_v4_1 (by decide)).trans (X9_of5 m main_v4_1 (by decide) (by decide) (by decide) (by decide))

theorem v30_at (hl : Val.LenOk (alen m)) (b : Fin 8) (l : Fin 2048) (k : Fin 4096) :
    (X10 m c₀ main_v30 : Vec Ideal S16384x4096 .i8) (ix2 (rowOf b l) k) = fXc (ax m) (alen m) (S m) b l k := by
  have e : X10 m c₀ main_v30 = _ := v30_eq (X9 m c₀)
  rw [e, s30, X9_v2_0, X3_v2_0 m hl]
  rfl
theorem v31_at (hl : Val.LenOk (alen m)) (b : Fin 8) (l : Fin 2048) :
    (X10 m c₀ main_v31 : Vec Ideal S16384x1 .f32) (ix2 (rowOf b l) (0 : Fin 1)) = fXs (ax m) (alen m) (S m) b l := by
  have e : X10 m c₀ main_v31 = _ := v31_eq (X9 m c₀)
  rw [e, s31, X9_v2_1, X3_v2_1 m hl]
  rfl

theorem fXc_pad (x : Vec Ideal S8x2048x4096 .bf16) (len : Vec Ideal S8 .i32) (T : Fin 4096 → EReal) (b : Fin 8) (l : Fin 2048) (k : Fin 4096)
    (h : ¬ (l.val : Int) < (len (Idealize.ShloMosaic.ix1 b) : BitVec 32).toInt) : fXc x len T b l k = 0#8 := by
  unfold fXc
  have e : IntOp.cmpi .slt (BitVec.ofNat 32 l.val) (len (Idealize.ShloMosaic.ix1 b)) = 0#1 := (Val.gmask1 len b l).trans (if_neg h)
  rw [e, Cert.Words.sel_zero]

theorem hz (hl : Val.LenOk (alen m)) (t : Fin 32) (h : ¬ (t.val : Int) < (Val3.nval (a3 m)).toInt) (r : Fin 512) (k : Fin 4096) :
    (X10 m c₀ main_v30 : Vec Ideal S16384x4096 .i8) (ix2 (Val3.rw3 (p m t) r) k) = 0#8 := by
  have hp := p_invalid m t h
  have hq := (p m t).isLt
  have hr := r.isLt
  have hl' : (p m t).val % 4 * 512 + r.val < 2048 := by omega
  have e : Val3.rw3 (p m t) r = rowOf (ValT.tb (p m t)) ⟨(p m t).val % 4 * 512 + r.val, hl'⟩ :=
    Fin.ext (by show (p m t).val * 512 + r.val = (p m t).val / 4 * 2048 + ((p m t).val % 4 * 512 + r.val); omega)
  rw [e, v30_at m hl]
  refine fXc_pad _ _ _ _ _ _ fun hlt => hp ?_
  refine lt_of_le_of_lt ?_ hlt
  show (((p m t).val % 4 * 512 : ℕ) : Int) ≤ (((p m t).val % 4 * 512 + r.val : ℕ) : Int)
  omega

/-! ## The product -/

theorem yv_eq (w : Vec Ideal S4096x14336 .bf16) (T : Fin 4096 → EReal) (x : Fin 4096 → BitVec 8) (s : EReal) (X : Fin 4096 → BitVec 8) (hX : ∀ k, x k = X k)
    (n : Fin 14336) :
    Val3.yv x (fun i : S4096x14336.Idx => fWc w T (i 0) (i 1)) s (fun i : S1x14336.Idx => fWs w T (i 1)) n rfl
      = (∑ k : Fin 4096, FloatOps.sitofp (F := Ideal) FTy.bf16 (X k) * FloatOps.sitofp (F := Ideal) FTy.bf16 (fWc w T k n)) * s * fWs w T n := by
  obtain rfl : x = X := funext hX
  rfl

theorem v32_at (hl : Val.LenOk (alen m)) (b : Fin 8) (l : Fin 2048) (n : Fin 14336) :
    (X11 m c₀ main_v32 : Vec Ideal S16384x14336 .f32) (ix2 (rowOf b l) n) = fY (ax m) (alen m) (aw m) (S m) b l n := by
  have h := Val3.y_arr (a3 m) (X10 m) (p m) (hord m) (ValT.perm_inj (ok m)) (ValT.perm_surj (ok m)) (hrows m) c₀ (hz m hl)
  have e : X11 m c₀ main_v32 = _ :=
    (Pipeline.afterRegion_arr (R3.dat (a3 m) (X10 m) c₀) (X10 m c₀) (launch3 (F := Ideal)).win.arr_inj 4).trans h
  rw [X10_v4_0, X10_v4_1, X5_v4_0 m hl, X5_v4_1 m hl] at e
  refine (congrFun e (ix2 (rowOf b l) n)).trans ?_
  refine (yv_eq (aw m) (S m) _ _ (fXc (ax m) (alen m) (S m) b l) (fun k => v30_at m hl b l k) n).trans ?_
  unfold fY
  exact congrArg (fun z : EReal => (∑ k : Fin 4096, FloatOps.sitofp (F := Ideal) FTy.bf16 (fXc (ax m) (alen m) (S m) b l k) * FloatOps.sitofp (F := Ideal) FTy.bf16 (fWc (aw m) (S m) k n)) * z * fWs (aw m) (S m) n)
    (v31_at m hl b l)

end Cert.KernelIdeal.Asm
-- ==== Proof.Val.Res.lean ====
/-
  The program's six results are the reference's functions of the arguments.
-/
module

public import proofs.«01_k».proof.Proof.Val.Asm2

@[expose] public section

set_option maxRecDepth 16384

noncomputable section

namespace Cert.KernelIdeal.Asm

open Idealize.ShloMosaic Idealize.ShloMosaic.TcCoe Cert.KernelIdeal Cert.KernelIdeal.Gen Cert.KernelIdeal.Run Cert.KernelIdeal.HostR Cert.Val
open Cert.ReferenceIdeal.Val (fS fWs fWc fXs fXc fY)

/-! ## Two arrays agreeing at every index -/

theorem ext1 {α : Type} {n : ℕ} (f g : (⟨1, ![n]⟩ : Shape).Idx → α) (h : ∀ a, f (Idealize.ShloMosaic.ix1 a) = g (Idealize.ShloMosaic.ix1 a)) : f = g := by
  funext y
  have e : y = Idealize.ShloMosaic.ix1 (y 0) := by
    funext a
    match a with
    | ⟨0, _⟩ => rfl
  rw [e]
  exact h _
theorem ext2 {α : Type} {n k : ℕ} (f g : (⟨2, ![n, k]⟩ : Shape).Idx → α) (h : ∀ a b, f (ix2 a b) = g (ix2 a b)) : f = g := by
  funext y
  have e : y = ix2 (y 0) (y 1) := by
    funext a
    match a with
    | ⟨0, _⟩ => rfl
    | ⟨1, _⟩ => rfl
  rw [e]
  exact h _ _
theorem ext3 {α : Type} {n k l : ℕ} (f g : (⟨3, ![n, k, l]⟩ : Shape).Idx → α)
    (h : ∀ a b c, f (Idealize.ShloMosaic.ix3 a b c) = g (Idealize.ShloMosaic.ix3 a b c)) : f = g := by
  funext y
  rw [Val.eta3 y]
  exact h _ _ _

variable (m : (ℓ : Loc nD τ sig) → Buf (Elt Ideal) ℓ)

/-! ## Kept to the end -/

theorem X11_v1 : X11 m c₀ main_v1 = X2 m c₀ main_v1 :=
  (X11_keeps m c₀ main_v1 (by decide)).trans ((X10_keeps m main_v1 (by decide)).trans ((X9_of5 m main_v1 (by decide) (by decide) (by decide) (by decide)).trans
    ((X5_keeps m c₀ main_v1 (by decide) (by decide)).trans ((X4_keeps m main_v1 (by decide)).trans (X3_v1 m)))))
theorem X11_v2_0 : X11 m c₀ main_v2_0 = X3 m c₀ main_v2_0 :=
  (X11_keeps m c₀ main_v2_0 (by decide)).trans ((X10_keeps m main_v2_0 (by decide)).trans (X9_v2_0 m))
theorem X11_v2_1 : X11 m c₀ main_v2_1 = X3 m c₀ main_v2_1 :=
  (X11_keeps m c₀ main_v2_1 (by decide)).trans ((X10_keeps m main_v2_1 (by decide)).trans (X9_v2_1 m))
theorem X11_v4_0 : X11 m c₀ main_v4_0 = X5 m c₀ main_v4_0 := (X11_keeps m c₀ main_v4_0 (by decide)).trans (X10_v4_0 m)
theorem X11_v4_1 : X11 m c₀ main_v4_1 = X5 m c₀ main_v4_1 := (X11_keeps m c₀ main_v4_1 (by decide)).trans (X10_v4_1 m)

/-! ## The results -/

/-- The product. -/
theorem res_y (hl : Val.LenOk (alen m)) : X12 m c₀ main_v33 = Cert.ReferenceIdeal.Value.G4 (ax m) (alen m) (aw m) (awm m) := by
  have e : X12 m c₀ main_v33 = _ := v33_eq (X11 m c₀)
  rw [e]
  refine ext3 _ _ fun b l n => ?_
  rw [s33]
  exact (v32_at m hl b l n).trans (Cert.ReferenceIdeal.Val.G4_at (ax m) (alen m) (aw m) (awm m) b l n).symm

/-- The smoothing factors. -/
theorem res_s (hl : Val.LenOk (alen m)) : X12 m c₀ main_v34 = Cert.ReferenceIdeal.Value.G5 (ax m) (alen m) (aw m) (awm m) := by
  have e : X12 m c₀ main_v34 = _ := v34_eq (X11 m c₀)
  rw [e, X11_v1, X2_v1 m hl]
  refine ext1 _ _ fun d => ?_
  rw [s34]
  exact (Cert.ReferenceIdeal.Val.G5_at (ax m) (alen m) (aw m) (awm m) d).symm

/-- The weights' codes. -/
theorem res_wc (hl : Val.LenOk (alen m)) : X12 m c₀ main_v4_0 = Cert.ReferenceIdeal.Value.G6 (ax m) (alen m) (aw m) (awm m) := by
  rw [X12_keeps m main_v4_0 (by decide), X11_v4_0, X5_v4_0 m hl]
  exact ext2 _ _ fun d n => (Cert.ReferenceIdeal.Val.G6_at (ax m) (alen m) (aw m) (awm m) d n).symm

/-- The weights' scales. -/
theorem res_ws (hl : Val.LenOk (alen m)) : X12 m c₀ main_v35 = Cert.ReferenceIdeal.Value.G7 (ax m) (alen m) (aw m) (awm m) := by
  have e : X12 m c₀ main_v35 = _ := v35_eq (X11 m c₀)
  rw [e, X11_v4_1, X5_v4_1 m hl]
  refine ext1 _ _ fun n => ?_
  rw [s35]
  exact (Cert.ReferenceIdeal.Val.G7_at (ax m) (alen m) (aw m) (awm m) n).symm

/-- The activations' codes. -/
theorem res_xc (hl : Val.LenOk (alen m)) : X12 m c₀ main_v2_0 = Cert.ReferenceIdeal.Value.G8 (ax m) (alen m) (aw m) (awm m) := by
  rw [X12_keeps m main_v2_0 (by decide), X11_v2_0, X3_v2_0 m hl]
  exact ext3 _ _ fun b l d => (Cert.ReferenceIdeal.Val.G8_at (ax m) (alen m) (aw m) (awm m) b l d).symm

/-- The activations' scales. -/
theorem res_xs (hl : Val.LenOk (alen m)) : X12 m c₀ main_v36 = Cert.ReferenceIdeal.Value.G9 (ax m) (alen m) (aw m) (awm m) := by
  have e : X12 m c₀ main_v36 = _ := v36_eq (X11 m c₀)
  rw [e, X11_v2_1, X3_v2_1 m hl]
  refine ext2 _ _ fun b l => ?_
  rw [s36]
  exact (Cert.ReferenceIdeal.Val.G9_at (ax m) (alen m) (aw m) (awm m) b l).symm

/-- All six on every device. -/
theorem results (c : Dev nD) (hl : Val.LenOk (m ((c.tc : Thread nD τ).loc main_arg1))) :
    let x := m ((c.tc : Thread nD τ).loc main_arg0)
    let len := m ((c.tc : Thread nD τ).loc main_arg1)
    let w := m ((c.tc : Thread nD τ).loc main_arg2)
    let wm := m ((c.tc : Thread nD τ).loc main_arg3)
    X12 m c main_v33 = Cert.ReferenceIdeal.Value.G4 x len w wm ∧ X12 m c main_v34 = Cert.ReferenceIdeal.Value.G5 x len w wm
    ∧ X12 m c main_v4_0 = Cert.ReferenceIdeal.Value.G6 x len w wm ∧ X12 m c main_v35 = Cert.ReferenceIdeal.Value.G7 x len w wm
    ∧ X12 m c main_v2_0 = Cert.ReferenceIdeal.Value.G8 x len w wm ∧ X12 m c main_v36 = Cert.ReferenceIdeal.Value.G9 x len w wm := by
  obtain rfl := dev_eq c
  exact ⟨res_y m hl, res_s m hl, res_wc m hl, res_ws m hl, res_xc m hl, res_xs m hl⟩

end Cert.KernelIdeal.Asm
-- ==== Proof.Val.Alg.lean ====
/-
  The program and the reference end with equal results.
-/
module

public import proofs.«01_k».proof.Defs
public import proofs.«01_k».proof.Proof.KI.RunEnd
public import proofs.«01_k».proof.Proof.Val.Res

@[expose] public section

set_option maxRecDepth 16384

noncomputable section

namespace Cert.Proof

open Idealize.ShloMosaic Idealize.SL.Sem

/-- The shape relation the precondition's function states. -/
theorem preFacts : Cert.Pre_pre.Facts := ⟨by decide⟩

/-- What the precondition says of the lengths. -/
theorem lenOk_of (x : FVec Ideal Cert.Pre_pre.S8x2048x4096 .bf16) (len : IVec Cert.Pre_pre.S8 32) (w : FVec Ideal Cert.Pre_pre.S4096x14336 .bf16)
    (wm : FVec Ideal Cert.Pre_pre.S4096 .f32) (h : (letI := preFacts; Cert.Pre_pre.fn (F := Ideal) x len w wm) = fun _ => 1#1) : Cert.KernelIdeal.Val.LenOk len := by
  intro b
  have hb : IntOp.andi (IntOp.cmpi .sge (len (ix1 b)) 2147485440#32) (IntOp.cmpi .sle (len (ix1 b)) 2147483136#32) = 1#1 := congrFun h (ix1 b)
  generalize len (ix1 b) = v at hb ⊢
  unfold IntOp.andi IntOp.cmpi at hb
  by_cases h1 : (2147485440#32).sle v = true
  · by_cases h2 : v.sle 2147483136#32 = true
    · rw [BitVec.sle_iff_toInt_le] at h1 h2
      exact ⟨h1, h2⟩
    · simp_all
  · simp_all

theorem algebraic : Cert.algebraic_KernelIdeal_ReferenceIdeal_pre_pre (hKernelIdeal := Cert.KernelIdeal.Gen.facts)
    (hReferenceIdeal := Cert.ReferenceIdeal.Gen.facts) (hPre_pre := preFacts) := by
  intro m g m' g' hpre hm
  have hl : ∀ c : Dev Cert.KernelIdeal.nD, Cert.KernelIdeal.Val.LenOk (m ((c.tc : Thread Cert.KernelIdeal.nD Cert.KernelIdeal.τ).loc Cert.KernelIdeal.main_arg1)) :=
    fun c => lenOk_of _ _ _ _ (hpre c)
  have hr := fun c => Cert.KernelIdeal.Asm.results m c (hl c)
  refine ⟨fun c => Cert.ReferenceIdeal.Value.G4 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Cert.ReferenceIdeal.Value.G5 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Cert.ReferenceIdeal.Value.G6 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Cert.ReferenceIdeal.Value.G7 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Cert.ReferenceIdeal.Value.G8 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Cert.ReferenceIdeal.Value.G9 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    ?_, ?_⟩
  · refine (θ_run _ _ _).mono (fun r h c => ?_) (Cert.KernelIdeal.Run.run m g)
    obtain ⟨k0, k1, k2, k3, h0, h1, h2, h3, h4, h5⟩ := h.1 c
    obtain ⟨e0, e1, e2, e3, e4, e5⟩ := hr c
    exact ⟨h0.trans e0, h1.trans e1, h2.trans e2, h3.trans e3, h4.trans e4, h5.trans e5, k0, k1, k2, k3⟩
  · refine (θ_run _ _ _).mono (fun r h c => ?_) (Cert.ReferenceIdeal.Value.run m' g')
    have hc := h c
    obtain ⟨a0, a1, a2, a3⟩ := hm c
    obtain ⟨h0, h1, h2, h3, h4, h5, k0, k1, k2, k3⟩ := hc
    rw [a0, a1, a2, a3] at h0 h1 h2 h3 h4 h5
    exact ⟨h0, h1, h2, h3, h4, h5, k0, k1, k2, k3⟩

end Cert.Proof
-- ==== Proof.lean ====
module

public import proofs.«01_k».proof.Defs
public import proofs.«01_k».proof.Proof.K.RunEnd
public import proofs.«01_k».proof.Proof.KI.RunEnd
public import proofs.«01_k».proof.Proof.Gen.ReferenceIdeal.Value
public import proofs.«01_k».proof.Proof.Val.Alg

@[expose] public section

noncomputable section

namespace Cert.Proof

open Idealize.ShloMosaic Idealize.SL.Sem

/-- The kernel at bit patterns runs, keeps its arguments and ends quiescent. -/
theorem frameKernel : Cert.quiescent_Kernel (hKernel := Cert.Kernel.Gen.facts) := fun m g _ =>
  (θ_run _ _ _).mono (fun r h => ⟨fun c => ⟨(h.1 c).1, (h.1 c).2.1, (h.1 c).2.2.1, (h.1 c).2.2.2.1⟩, h.2⟩)
    (Cert.Kernel.Run.run m g)

/-- The kernel at the ideal instance runs, keeps its arguments and ends quiescent. -/
theorem frameKernelIdeal : Cert.quiescent_KernelIdeal (hKernelIdeal := Cert.KernelIdeal.Gen.facts) := fun m g _ =>
  (θ_run _ _ _).mono (fun r h => ⟨fun c => ⟨(h.1 c).1, (h.1 c).2.1, (h.1 c).2.2.1, (h.1 c).2.2.2.1⟩, h.2⟩)
    (Cert.KernelIdeal.Run.run m g)

/-- The reference runs, keeps its arguments and ends quiescent. -/
theorem frameReference : Cert.quiescent_ReferenceIdeal (hReferenceIdeal := Cert.ReferenceIdeal.Gen.facts) := fun m g _ =>
  Cert.ReferenceIdeal.Gen.frame m g

/-- The same runs from the memories the precondition allows. -/
theorem frameKernelIdealPre : Cert.quiescent_KernelIdeal_pre_pre (hKernelIdeal := Cert.KernelIdeal.Gen.facts) (hPre_pre := preFacts) := fun m g _ =>
  (θ_run _ _ _).mono (fun r h => ⟨fun c => ⟨(h.1 c).1, (h.1 c).2.1, (h.1 c).2.2.1, (h.1 c).2.2.2.1⟩, h.2⟩)
    (Cert.KernelIdeal.Run.run m g)
theorem frameReferencePre : Cert.quiescent_ReferenceIdeal_pre_pre (hReferenceIdeal := Cert.ReferenceIdeal.Gen.facts) (hPre_pre := preFacts) := fun m g _ =>
  Cert.ReferenceIdeal.Gen.frame m g

theorem claim : Cert.Claim :=
  ⟨Cert.Kernel.Gen.facts, Cert.KernelIdeal.Gen.facts, Cert.ReferenceIdeal.Gen.facts, preFacts,
    frameKernel, frameKernelIdeal, frameKernelIdealPre, frameReference, frameReferencePre, trivial, algebraic⟩

end Cert.Proof

end
